-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_scores [hPre_finite_scores : Cert.Pre_finite_scores.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_scores [hPre_finite_scores : Cert.Pre_finite_scores.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_scores [hKernel7Ideal : Cert.Kernel7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_scores m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_scores [hReference7Ideal : Cert.Reference7Ideal.Facts] [hPre_finite_scores : Cert.Pre_finite_scores.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_scores m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_v19) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "mask" .f32 0xF149F2CA#32 ⊥

def algebraic_Kernel7Ideal_Reference7Ideal_pre_finite_scores [hKernel7Ideal : Cert.Kernel7Ideal.Facts] [hReference7Ideal : Cert.Reference7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_scores m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v41)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v41) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v81) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_scores (hKernel7Ideal := hKernel7Ideal) (hPre_finite_scores := hPre_finite_scores)
    ∧ quiescent_Reference7Ideal (hReference7Ideal := hReference7Ideal)
    ∧ quiescent_Reference7Ideal_pre_finite_scores (hReference7Ideal := hReference7Ideal) (hPre_finite_scores := hPre_finite_scores)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_scores (hKernel7Ideal := hKernel7Ideal) (hReference7Ideal := hReference7Ideal) (hPre_finite_scores := hPre_finite_scores)
-- ==== Pre_finite.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bitsLt_bf16_f32 : FTy.bits .bf16 < FTy.bits .f32

variable [Facts]

def fn {F : FTy → Type} [FloatOps F] (main_arg0 : FVec F S16384x4096 .f32) (main_arg1 : FVec F S16384x4096 .bf16) (main_arg2 : FVec F S16384x4096 .f32) (main_arg3 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := (extf .f32 · bitsLt_bf16_f32) main_arg1
  let main_v5 : FVec F S16384x4096 .f32 := Host.absf main_v4
  let main_cst_0 : FVec F S_ .f32 := constant S_ .f32 0x7F800000#32
  let main_v6 : FVec F S16384x4096 .f32 := broadcastInDim S16384x4096 ![] bcast_S_S16384x4096 main_cst_0
  let main_v7 : IVec S16384x4096 1 := cmpf .olt main_v5 main_v6
  let main_c_1 : IVec S_ 1 := constantI S_ 1 1#1
  let main_v8 : IVec S_ 1 := (fun x v => Host.reduce IntOp.andi x v reducesTo_S16384x4096_S_d0_1 h_S_) main_v7 main_c_1
  let main_v9 : IVec S_ 1 := andi main_v3 main_v8
  main_v9
-- ==== Pre_finite_scores.lean ====
abbrev S16384x2048 : Shape := ⟨2, ![16384, 2048]⟩
abbrev S16384x4096 : Shape := ⟨2, ![16384, 4096]⟩
abbrev S16x257 : Shape := ⟨2, ![16, 257]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  slices_S16384x4096_S16384x2048_0_0 : S16384x4096.Slices ![0, 0] S16384x2048
  bcast_S_S16x257 : S_.BroadcastsInDim S16x257 (![] : Fin 0 → Fin S16x257.rank)
  reducesTo_S16x257_S_d0_1 : S16x257.ReducesTo [0, 1] S_

variable [Facts]

def fn {F : FTy → Type} [FloatOps F] (main_arg0 : FVec F S16384x2048 .bf16) (main_arg1 : FVec F S16384x4096 .bf16) (main_arg2 : FVec F S16x257 .f32) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S16384x2048 .bf16 := (extractStridedSlice S16384x2048 ![0, 0] · slices_S16384x4096_S16384x2048_0_0) main_arg1
  let main_v6 : FVec F S16384x2048 .f32 := (extf .f32 · bitsLt_bf16_f32) main_v5
  let main_v7 : FVec F S16384x2048 .f32 := Host.absf main_v6
  let main_cst_0 : FVec F S_ .f32 := constant S_ .f32 0x7F800000#32
  let main_v8 : FVec F S16384x2048 .f32 := broadcastInDim S16384x2048 ![] bcast_S_S16384x2048 main_cst_0
  let main_v9 : IVec S16384x2048 1 := cmpf .olt main_v7 main_v8
  let main_c_1 : IVec S_ 1 := constantI S_ 1 1#1
  let main_v10 : IVec S_ 1 := (fun x v => Host.reduce IntOp.andi x v reducesTo_S16384x2048_S_d0_1 h_S_) main_v9 main_c_1
  let main_v11 : IVec S_ 1 := andi main_v4 main_v10
  let main_v12 : FVec F S16x257 .f32 := Host.absf main_arg2
  let main_cst_2 : FVec F S_ .f32 := constant S_ .f32 0x7F800000#32
  let main_v13 : FVec F S16x257 .f32 := broadcastInDim S16x257 ![] bcast_S_S16x257 main_cst_2
  let main_v14 : IVec S16x257 1 := cmpf .olt main_v12 main_v13
  let main_c_3 : IVec S_ 1 := constantI S_ 1 1#1
  let main_v15 : IVec S_ 1 := (fun x v => Host.reduce IntOp.andi x v reducesTo_S16x257_S_d0_1 h_S_) main_v14 main_c_3
  let main_v16 : IVec S_ 1 := andi main_v11 main_v15
  main_v16
-- ==== Kernel.lean ====
abbrev S16384x4096 : Shape := ⟨2, ![16384, 4096]⟩
abbrev S4096 : Shape := ⟨1, ![4096]⟩
abbrev S8 : Shape := ⟨1, ![8]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x1x1 : Shape := ⟨3, ![8, 1, 1]⟩
abbrev S1x512x512 : Shape := ⟨3, ![1, 512, 512]⟩
abbrev S8x512x512 : Shape := ⟨3, ![8, 512, 512]⟩
abbrev S8x1 : Shape := ⟨2, ![8, 1]⟩
abbrev S8x512 : Shape := ⟨2, ![8, 512]⟩
abbrev S8x512x1 : Shape := ⟨3, ![8, 512, 1]⟩
abbrev S8x512x128 : Shape := ⟨3, ![8, 512, 128]⟩
abbrev S8x1x512 : Shape := ⟨3, ![8, 1, 512]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S1x4096 : Shape := ⟨2, ![1, 4096]⟩
abbrev S512x256 : Shape := ⟨2, ![512, 256]⟩
abbrev S512x128 : Shape := ⟨2, ![512, 128]⟩
abbrev S1x512x128 : Shape := ⟨3, ![1, 512, 128]⟩
abbrev S1x1x512 : Shape := ⟨3, ![1, 1, 512]⟩
abbrev S256x512 : Shape := ⟨2, ![256, 512]⟩

abbrev nBuf : Space → Nat
  | .hbm => 85
  | .vmem => 25
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S16384x4096, .f32⟩
  | .hbm, ⟨3, _⟩ => ⟨S4096, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S512, .f32⟩
  | .hbm, ⟨15, _⟩ => ⟨S512x1, .f32⟩
  | .hbm, ⟨16, _⟩ => ⟨S1x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S_, .f32⟩
  | .hbm, ⟨21, _⟩ => ⟨S512x512, .f32⟩
  | .hbm, ⟨22, _⟩ => ⟨S512x512, .i1⟩
  | .hbm, ⟨23, _⟩ => ⟨S8x1x1, .f32⟩
  | .hbm, ⟨24, _⟩ => ⟨S_, .f32⟩
  | .hbm, ⟨25, _⟩ => ⟨S512x512, .f32⟩
  | .hbm, ⟨26, _⟩ => ⟨S512x512, .f32⟩
  | .hbm, ⟨27, _⟩ => ⟨S1x512x512, .f32⟩
  | .hbm, ⟨28, _⟩ => ⟨S8x512x512, .f32⟩
  | .hbm, ⟨29, _⟩ => ⟨S8x512x512, .f32⟩
  | .hbm, ⟨30, _⟩ => ⟨S8x512x512, .f32⟩
  | .hbm, ⟨31, _⟩ => ⟨S8x512x512, .f32⟩
  | .hbm, ⟨32, _⟩ => ⟨S_, .f32⟩
  | .hbm, ⟨33, _⟩ => ⟨S_, .f32⟩
  | .hbm, ⟨34, _⟩ => ⟨S8x512x512, .i1⟩
  | .hbm, ⟨35, _⟩ => ⟨S8x512x512, .f32⟩
  | .hbm, ⟨36, _⟩ => ⟨S8x512x512, .f32⟩
  | .hbm, ⟨37, _⟩ => ⟨S8x1, .f32⟩
  | .hbm, ⟨38, _⟩ => ⟨S1x512, .f32⟩
  | .hbm, ⟨39, _⟩ => ⟨S_, .f32⟩
  | .hbm, ⟨40, _⟩ => ⟨S1x512, .f32⟩
  | .hbm, ⟨41, _⟩ => ⟨S1x512, .f32⟩
  | .hbm, ⟨42, _⟩ => ⟨S8x512, .f32⟩
  | .hbm, ⟨43, _⟩ => ⟨S8x512, .f32⟩
  | .hbm, ⟨44, _⟩ => ⟨S8x512, .f32⟩
  | .hbm, ⟨45, _⟩ => ⟨S8x512, .f32⟩
  | .hbm, ⟨46, _⟩ => ⟨S8x1, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S1x512, .f32⟩
  | .hbm, ⟨51, _⟩ => ⟨S8x512, .f32⟩
  | .hbm, ⟨52, _⟩ => ⟨S8x512, .f32⟩
  | .hbm, ⟨53, _⟩ => ⟨S8x512, .f32⟩
  | .hbm, ⟨54, _⟩ => ⟨S8x512, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S8, .f32⟩
  | .hbm, ⟨59, _⟩ => ⟨S8x512x1, .f32⟩
  | .hbm, ⟨60, _⟩ => ⟨S8x512x128, .f32⟩
  | .hbm, ⟨61, _⟩ => ⟨S8x512x1, .f32⟩
  | .hbm, ⟨62, _⟩ => ⟨S8x512x128, .f32⟩
  | .hbm, ⟨63, _⟩ => ⟨S8x1x1, .f32⟩
  | .hbm, ⟨64, _⟩ => ⟨S8x1x512, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S4096, .f32⟩
  | .hbm, ⟨76, _⟩ => ⟨S4096x1, .f32⟩
  | .hbm, ⟨77, _⟩ => ⟨S1x128, .f32⟩
  | .hbm, ⟨78, _⟩ => ⟨S4096x128, .f32⟩
  | .hbm, ⟨79, _⟩ => ⟨S4096x128, .f32⟩
  | .hbm, ⟨80, _⟩ => ⟨S4096x128, .f32⟩
  | .hbm, ⟨81, _⟩ => ⟨S4096x128, .f32⟩
  | .hbm, ⟨82, _⟩ => ⟨S4096x128, .f32⟩
  | .hbm, ⟨83, _⟩ => ⟨S1x4096, .f32⟩
  | .hbm, ⟨84, _⟩ => ⟨S16384x4096, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512x512, .f32⟩
  | .local _ .vmem, ⟨13, _⟩ => ⟨S1x512x512, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x1x512, .f32⟩
  | .local _ .vmem, ⟨19, _⟩ => ⟨S1x1x512, .f32⟩
  | .local _ .vmem, ⟨20, _⟩ => ⟨S1x512, .f32⟩
  | .local _ .vmem, ⟨21, _⟩ => ⟨S1x512, .f32⟩
  | .local _ .vmem, ⟨22, _⟩ => ⟨S512x512, .bf16⟩
  | .local _ .vmem, ⟨23, _⟩ => ⟨S512x512, .bf16⟩
  | .local _ .vmem, ⟨24, _⟩ => ⟨S256x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c8_i32_0 : BitVec 32 := 8#32
  let v2 : BitVec 32 := Scalar.addi c8_i32_0 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== ReferenceIdeal.lean ====
abbrev S16384x4096 : Shape := ⟨2, ![16384, 4096]⟩
abbrev S4096 : Shape := ⟨1, ![4096]⟩
abbrev S4x4096x4096 : Shape := ⟨3, ![4, 4096, 4096]⟩
abbrev S4x4096x2048 : Shape := ⟨3, ![4, 4096, 2048]⟩
abbrev S4x4096x8x256 : Shape := ⟨4, ![4, 4096, 8, 256]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S4x4096x8x128 : Shape := ⟨4, ![4, 4096, 8, 128]⟩
abbrev S4x4096x8x512 : Shape := ⟨4, ![4, 4096, 8, 512]⟩
abbrev S4x64x64x8x256 : Shape := ⟨5, ![4, 64, 64, 8, 256]⟩
abbrev S4x64x8x64x256 : Shape := ⟨5, ![4, 64, 8, 64, 256]⟩
abbrev S4x64x64x8x512 : Shape := ⟨5, ![4, 64, 64, 8, 512]⟩
abbrev S4x64x8x64x512 : Shape := ⟨5, ![4, 64, 8, 64, 512]⟩
abbrev S8 : Shape := ⟨1, ![8]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S8x1 : Shape := ⟨2, ![8, 1]⟩
abbrev S8x64 : Shape := ⟨2, ![8, 64]⟩
abbrev S4x64x8x64x64 : Shape := ⟨5, ![4, 64, 8, 64, 64]⟩
abbrev S1x1x8x64x64 : Shape := ⟨5, ![1, 1, 8, 64, 64]⟩
abbrev S64x4x8x64x256 : Shape := ⟨5, ![64, 4, 8, 64, 256]⟩
abbrev S1x1x8x64x1 : Shape := ⟨5, ![1, 1, 8, 64, 1]⟩
abbrev S64x4x8x64x512 : Shape := ⟨5, ![64, 4, 8, 64, 512]⟩
abbrev S4x8x256x512 : Shape := ⟨4, ![4, 8, 256, 512]⟩
abbrev S1x4x8x64x256 : Shape := ⟨5, ![1, 4, 8, 64, 256]⟩
abbrev S4x8x64x256 : Shape := ⟨4, ![4, 8, 64, 256]⟩
abbrev S1x4x8x64x512 : Shape := ⟨5, ![1, 4, 8, 64, 512]⟩
abbrev S4x8x64x512 : Shape := ⟨4, ![4, 8, 64, 512]⟩
abbrev S1x8x1x1 : Shape := ⟨4, ![1, 8, 1, 1]⟩
abbrev S1x8x64x1 : Shape := ⟨4, ![1, 8, 64, 1]⟩
abbrev S4x4096x8 : Shape := ⟨3, ![4, 4096, 8]⟩
abbrev S4x4096x8x1 : Shape := ⟨4, ![4, 4096, 8, 1]⟩
abbrev S1x1x4096 : Shape := ⟨3, ![1, 1, 4096]⟩

abbrev nBuf : Space → Nat
  | .hbm => 252
  | .vmem => 0
  | .smem => 0
  | _ => 0

abbrev hbmTy0_0 (i : Nat) : BufTy := match i % 128 with
  | 0 => ⟨S16384x4096, .f32⟩
  | 1 => ⟨S16384x4096, .bf16⟩
  | 2 => ⟨S16384x4096, .f32⟩
  | 3 => ⟨S4096, .f32⟩
  | 4 => ⟨S4x4096x4096, .f32⟩
  | 5 => ⟨S4x4096x2048, .f32⟩
  | 6 => ⟨S4x4096x2048, .f32⟩
  | 7 => ⟨S16384x4096, .f32⟩
  | 8 => ⟨S4096, .f32⟩
  | 9 => ⟨S4x4096x8x256, .f32⟩
  | 10 => ⟨S128, .f32⟩
  | 11 => ⟨S_, .f32⟩
  | 12 => ⟨S128, .f32⟩
  | 13 => ⟨S128, .f32⟩
  | 14 => ⟨S_, .f32⟩
  | 15 => ⟨S128, .f32⟩
  | 16 => ⟨S128, .f32⟩
  | 17 => ⟨S_, .f32⟩
  | 18 => ⟨S128, .f32⟩
  | 19 => ⟨S128, .f32⟩
  | 20 => ⟨S4096x1, .f32⟩
  | 21 => ⟨S1x128, .f32⟩
  | 22 => ⟨S4096x128, .f32⟩
  | 23 => ⟨S4096x128, .f32⟩
  | 24 => ⟨S4096x128, .f32⟩
  | 25 => ⟨S4096x128, .f32⟩
  | 26 => ⟨S1x4096x1x128, .f32⟩
  | 27 => ⟨S4096x128, .f32⟩
  | 28 => ⟨S1x4096x1x128, .f32⟩
  | 29 => ⟨S4x4096x8x128, .f32⟩
  | 30 => ⟨S4x4096x8x128, .f32⟩
  | 31 => ⟨S4x4096x8x128, .f32⟩
  | 32 => ⟨S4x4096x8x128, .f32⟩
  | 33 => ⟨S4x4096x8x128, .f32⟩
  | 34 => ⟨S4x4096x8x128, .f32⟩
  | 35 => ⟨S4x4096x8x128, .f32⟩
  | 36 => ⟨S4x4096x8x128, .f32⟩
  | 37 => ⟨S4x4096x8x128, .f32⟩
  | 38 => ⟨S4x4096x8x128, .f32⟩
  | 39 => ⟨S4x4096x8x128, .f32⟩
  | 40 => ⟨S4x4096x8x128, .f32⟩
  | 41 => ⟨S4x4096x8x256, .f32⟩
  | 42 => ⟨S4x4096x8x256, .f32⟩
  | 43 => ⟨S128, .f32⟩
  | 44 => ⟨S_, .f32⟩
  | 45 => ⟨S128, .f32⟩
  | 46 => ⟨S128, .f32⟩
  | 47 => ⟨S_, .f32⟩
  | 48 => ⟨S128, .f32⟩
  | 49 => ⟨S128, .f32⟩
  | 50 => ⟨S_, .f32⟩
  | 51 => ⟨S128, .f32⟩
  | 52 => ⟨S128, .f32⟩
  | 53 => ⟨S4096x1, .f32⟩
  | 54 => ⟨S1x128, .f32⟩
  | 55 => ⟨S4096x128, .f32⟩
  | 56 => ⟨S4096x128, .f32⟩
  | 57 => ⟨S4096x128, .f32⟩
  | 58 => ⟨S4096x128, .f32⟩
  | 59 => ⟨S1x4096x1x128, .f32⟩
  | 60 => ⟨S4096x128, .f32⟩
  | 61 => ⟨S1x4096x1x128, .f32⟩
  | 62 => ⟨S4x4096x8x128, .f32⟩
  | 63 => ⟨S4x4096x8x128, .f32⟩
  | 64 => ⟨S4x4096x8x128, .f32⟩
  | 65 => ⟨S4x4096x8x128, .f32⟩
  | 66 => ⟨S4x4096x8x128, .f32⟩
  | 67 => ⟨S4x4096x8x128, .f32⟩
  | 68 => ⟨S4x4096x8x128, .f32⟩
  | 69 => ⟨S4x4096x8x128, .f32⟩
  | 70 => ⟨S4x4096x8x128, .f32⟩
  | 71 => ⟨S4x4096x8x128, .f32⟩
  | 72 => ⟨S4x4096x8x128, .f32⟩
  | 73 => ⟨S4x4096x8x128, .f32⟩
  | 74 => ⟨S4x4096x8x256, .f32⟩
  | 75 => ⟨S_, .f32⟩
  | 76 => ⟨S4x4096x8x256, .f32⟩
  | 77 => ⟨S4x4096x8x256, .f32⟩
  | 78 => ⟨S4x4096x8x512, .f32⟩
  | 79 => ⟨S4x64x64x8x256, .f32⟩
  | 80 => ⟨S4x64x8x64x256, .f32⟩
  | 81 => ⟨S4x64x64x8x256, .f32⟩
  | 82 => ⟨S4x64x8x64x256, .f32⟩
  | 83 => ⟨S4x64x64x8x512, .f32⟩
  | 84 => ⟨S4x64x8x64x512, .f32⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S8, .f32⟩
  | 93 => ⟨S8, .f32⟩
  | 94 => ⟨S8, .f32⟩
  | 95 => ⟨S64, .f32⟩
  | 96 => ⟨S64x1, .f32⟩
  | 97 => ⟨S1x64, .f32⟩
  | 98 => ⟨S64x64, .f32⟩
  | 99 => ⟨S64x64, .f32⟩
  | 100 => ⟨S64x64, .f32⟩
  | 101 => ⟨S_, .f32⟩
  | 102 => ⟨S64x64, .f32⟩
  | 103 => ⟨S64x64, .i1⟩
  | 104 => ⟨S8x1x1, .f32⟩
  | 105 => ⟨S_, .f32⟩
  | 106 => ⟨S64x64, .f32⟩
  | 107 => ⟨S64x64, .f32⟩
  | 108 => ⟨S1x64x64, .f32⟩
  | 109 => ⟨S8x64x64, .f32⟩
  | 110 => ⟨S8x64x64, .f32⟩
  | 111 => ⟨S8x64x64, .f32⟩
  | 112 => ⟨S8x64x64, .f32⟩
  | 113 => ⟨S_, .f32⟩
  | 114 => ⟨S_, .f32⟩
  | 115 => ⟨S8x64x64, .i1⟩
  | 116 => ⟨S8x64x64, .f32⟩
  | 117 => ⟨S8x64x64, .f32⟩
  | 118 => ⟨S8x1, .f32⟩
  | 119 => ⟨S1x64, .f32⟩
  | 120 => ⟨S_, .f32⟩
  | 121 => ⟨S1x64, .f32⟩
  | 122 => ⟨S1x64, .f32⟩
  | 123 => ⟨S8x64, .f32⟩
  | 124 => ⟨S8x64, .f32⟩
  | 125 => ⟨S8x64, .f32⟩
  | 126 => ⟨S8x64, .f32⟩
  | 127 => ⟨S8x1, .f32⟩
  | _ => ⟨S16384x4096, .f32⟩

abbrev hbmTy0_1 (i : Nat) : BufTy := match i % 128 with
  | 0 => ⟨S1x64, .f32⟩
  | 1 => ⟨S_, .f32⟩
  | 2 => ⟨S1x64, .f32⟩
  | 3 => ⟨S1x64, .f32⟩
  | 4 => ⟨S8x64, .f32⟩
  | 5 => ⟨S8x64, .f32⟩
  | 6 => ⟨S8x64, .f32⟩
  | 7 => ⟨S8x64, .f32⟩
  | 8 => ⟨S_, .f32⟩
  | 9 => ⟨S8, .f32⟩
  | 10 => ⟨S8, .f32⟩
  | 11 => ⟨S8, .f32⟩
  | 12 => ⟨S4x64x8x64x64, .f32⟩
  | 13 => ⟨S1x1x8x64x64, .f32⟩
  | 14 => ⟨S4x64x8x64x64, .f32⟩
  | 15 => ⟨S4x64x8x64x64, .f32⟩
  | 16 => ⟨S4x64x8x64x512, .f32⟩
  | 17 => ⟨S64x4x8x64x256, .f32⟩
  | 18 => ⟨S1x1x8x64x1, .f32⟩
  | 19 => ⟨S4x64x8x64x256, .f32⟩
  | 20 => ⟨S4x64x8x64x256, .f32⟩
  | 21 => ⟨S64x4x8x64x256, .f32⟩
  | 22 => ⟨S64x4x8x64x512, .f32⟩
  | 23 => ⟨S64x4x8x64x512, .f32⟩
  | 24 => ⟨S_, .f32⟩
  | 25 => ⟨S4x8x256x512, .f32⟩
  | 26 => ⟨S_, .f32⟩
  | 27 => ⟨S64x4x8x64x512, .f32⟩
  | 28 => ⟨S_, .i32⟩
  | 29 => ⟨S64x4x8x64x256, .f32⟩
  | 30 => ⟨S64x4x8x64x256, .f32⟩
  | 31 => ⟨S64x4x8x64x512, .f32⟩
  | 32 => ⟨S64x4x8x64x512, .f32⟩
  | 33 => ⟨S8, .f32⟩
  | 34 => ⟨S8x64, .f32⟩
  | 35 => ⟨S_, .i32⟩
  | 36 => ⟨S4x8x256x512, .f32⟩
  | 37 => ⟨S64x4x8x64x512, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S1x4x8x64x256, .f32⟩
  | 45 => ⟨S4x8x64x256, .f32⟩
  | 46 => ⟨S_, .i32⟩
  | 47 => ⟨S_, .i32⟩
  | 48 => ⟨S_, .i32⟩
  | 49 => ⟨S_, .i32⟩
  | 50 => ⟨S1x4x8x64x256, .f32⟩
  | 51 => ⟨S4x8x64x256, .f32⟩
  | 52 => ⟨S_, .i32⟩
  | 53 => ⟨S_, .i32⟩
  | 54 => ⟨S_, .i32⟩
  | 55 => ⟨S_, .i32⟩
  | 56 => ⟨S1x4x8x64x512, .f32⟩
  | 57 => ⟨S4x8x64x512, .f32⟩
  | 58 => ⟨S_, .i32⟩
  | 59 => ⟨S_, .i32⟩
  | 60 => ⟨S_, .i32⟩
  | 61 => ⟨S_, .i32⟩
  | 62 => ⟨S1x4x8x64x512, .f32⟩
  | 63 => ⟨S4x8x64x512, .f32⟩
  | 64 => ⟨S4x8x64x512, .f32⟩
  | 65 => ⟨S1x8x1x1, .f32⟩
  | 66 => ⟨S4x8x256x512, .f32⟩
  | 67 => ⟨S4x8x256x512, .f32⟩
  | 68 => ⟨S4x8x256x512, .f32⟩
  | 69 => ⟨S4x8x256x512, .f32⟩
  | 70 => ⟨S1x8x64x1, .f32⟩
  | 71 => ⟨S4x8x64x512, .f32⟩
  | 72 => ⟨S4x8x64x512, .f32⟩
  | 73 => ⟨S4x8x64x512, .f32⟩
  | 74 => ⟨S1x4x8x64x512, .f32⟩
  | 75 => ⟨S_, .i32⟩
  | 76 => ⟨S_, .i32⟩
  | 77 => ⟨S_, .i32⟩
  | 78 => ⟨S_, .i32⟩
  | 79 => ⟨S64x4x8x64x512, .f32⟩
  | 80 => ⟨S_, .i32⟩
  | 81 => ⟨S_, .i32⟩
  | 82 => ⟨S4x64x64x8x512, .f32⟩
  | 83 => ⟨S4x4096x8x512, .f32⟩
  | 84 => ⟨S_, .f32⟩
  | 85 => ⟨S4x4096x8, .f32⟩
  | 86 => ⟨S4x4096x8x1, .f32⟩
  | 87 => ⟨S_, .f32⟩
  | 88 => ⟨S4x4096x8x1, .f32⟩
  | 89 => ⟨S4x4096x8x1, .f32⟩
  | 90 => ⟨S4x4096x8x512, .f32⟩
  | 91 => ⟨S4x4096x8x512, .f32⟩
  | 92 => ⟨S4x4096x8x512, .f32⟩
  | 93 => ⟨S_, .f32⟩
  | 94 => ⟨S4x4096x8, .f32⟩
  | 95 => ⟨S4x4096x8x1, .f32⟩
  | 96 => ⟨S_, .f32⟩
  | 97 => ⟨S4x4096x8x1, .f32⟩
  | 98 => ⟨S4x4096x8x1, .f32⟩
  | 99 => ⟨S4x4096x8x512, .f32⟩
  | 100 => ⟨S4x4096x8x512, .f32⟩
  | 101 => ⟨S_, .f32⟩
  | 102 => ⟨S4x4096x8x1, .f32⟩
  | 103 => ⟨S4x4096x8x1, .f32⟩
  | 104 => ⟨S4x4096x8x1, .f32⟩
  | 105 => ⟨S4x4096x8x512, .f32⟩
  | 106 => ⟨S4x4096x8x512, .f32⟩
  | 107 => ⟨S4x4096x4096, .f32⟩
  | 108 => ⟨S1x1x4096, .f32⟩
  | 109 => ⟨S4x4096x4096, .f32⟩
  | 110 => ⟨S4x4096x4096, .f32⟩
  | 111 => ⟨S4x4096x4096, .f32⟩
  | 112 => ⟨S4x4096x4096, .f32⟩
  | 113 => ⟨S4x4096x4096, .f32⟩
  | 114 => ⟨S_, .f32⟩
  | 115 => ⟨S4x4096x4096, .f32⟩
  | 116 => ⟨S4x4096x4096, .f32⟩
  | 117 => ⟨S_, .f32⟩
  | 118 => ⟨S4x4096x4096, .f32⟩
  | 119 => ⟨S4x4096x4096, .f32⟩
  | 120 => ⟨S4x4096x4096, .f32⟩
  | 121 => ⟨S4x4096x4096, .f32⟩
  | 122 => ⟨S16384x4096, .f32⟩
  | 123 => ⟨S16384x4096, .bf16⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_5 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_6 : Ref sig .tc := ⟨.hbm, 86, rfl⟩
abbrev main_v75 : Ref sig .tc := ⟨.hbm, 87, rfl⟩
abbrev main_v76 : Ref sig .tc := ⟨.hbm, 88, rfl⟩
abbrev main_cst_7 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_cst_8 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_cst_9 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_cst_10 : Ref sig .tc := ⟨.hbm, 113, rfl⟩
abbrev main_call0_v0 : Ref sig .tc := ⟨.hbm, 114, rfl⟩
abbrev main_call0_v1 : Ref sig .tc := ⟨.hbm, 115, rfl⟩
abbrev main_call0_v2 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_11 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_cst_12 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_13 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_cst_14 : Ref sig .tc := ⟨.hbm, 152, rfl⟩
abbrev main_v130 : Ref sig .tc := ⟨.hbm, 153, rfl⟩
abbrev main_cst_15 : Ref sig .tc := ⟨.hbm, 154, rfl⟩
abbrev main_v131 : Ref sig .tc := ⟨.hbm, 155, rfl⟩
abbrev main_c : Ref sig .tc := ⟨.hbm, 156, rfl⟩
abbrev main_v132_0 : Ref sig .tc := ⟨.hbm, 157, rfl⟩
abbrev main_v132_1 : Ref sig .tc := ⟨.hbm, 158, rfl⟩
abbrev main_v132_2 : Ref sig .tc := ⟨.hbm, 159, rfl⟩
abbrev main_v132_3 : Ref sig .tc := ⟨.hbm, 160, rfl⟩
abbrev main_v132_4 : Ref sig .tc := ⟨.hbm, 161, rfl⟩
abbrev main_v132_5 : Ref sig .tc := ⟨.hbm, 162, rfl⟩
abbrev main_v132_6 : Ref sig .tc := ⟨.hbm, 163, rfl⟩
abbrev main_v132_7 : Ref sig .tc := ⟨.hbm, 164, rfl⟩
abbrev main_v132_8 : Ref sig .tc := ⟨.hbm, 165, rfl⟩
abbrev main_while0c_c_29 : Ref sig .tc := ⟨.hbm, 166, rfl⟩
abbrev main_while0c_v162 : Ref sig .tc := ⟨.hbm, 167, rfl⟩
abbrev main_while0b_call1_c : Ref sig .tc := ⟨.hbm, 168, rfl⟩
abbrev main_while0b_call1_c_0 : Ref sig .tc := ⟨.hbm, 169, rfl⟩
abbrev main_while0b_call1_c_1 : Ref sig .tc := ⟨.hbm, 170, rfl⟩
abbrev main_while0b_call1_c_2 : Ref sig .tc := ⟨.hbm, 171, rfl⟩
abbrev main_while0b_call1_v0 : Ref sig .tc := ⟨.hbm, 172, rfl⟩
abbrev main_while0b_v162 : Ref sig .tc := ⟨.hbm, 173, rfl⟩
abbrev main_while0b_call2_c : Ref sig .tc := ⟨.hbm, 174, rfl⟩
abbrev main_while0b_call2_c_0 : Ref sig .tc := ⟨.hbm, 175, rfl⟩
abbrev main_while0b_call2_c_1 : Ref sig .tc := ⟨.hbm, 176, rfl⟩
abbrev main_while0b_call2_c_2 : Ref sig .tc := ⟨.hbm, 177, rfl⟩
abbrev main_while0b_call2_v0 : Ref sig .tc := ⟨.hbm, 178, rfl⟩
abbrev main_while0b_v163 : Ref sig .tc := ⟨.hbm, 179, rfl⟩
abbrev main_while0b_call3_c : Ref sig .tc := ⟨.hbm, 180, rfl⟩
abbrev main_while0b_call3_c_0 : Ref sig .tc := ⟨.hbm, 181, rfl⟩
abbrev main_while0b_call3_c_1 : Ref sig .tc := ⟨.hbm, 182, rfl⟩
abbrev main_while0b_call3_c_2 : Ref sig .tc := ⟨.hbm, 183, rfl⟩
abbrev main_while0b_call3_v0 : Ref sig .tc := ⟨.hbm, 184, rfl⟩
abbrev main_while0b_v164 : Ref sig .tc := ⟨.hbm, 185, rfl⟩
abbrev main_while0b_call4_c : Ref sig .tc := ⟨.hbm, 186, rfl⟩
abbrev main_while0b_call4_c_0 : Ref sig .tc := ⟨.hbm, 187, rfl⟩
abbrev main_while0b_call4_c_1 : Ref sig .tc := ⟨.hbm, 188, rfl⟩
abbrev main_while0b_call4_c_2 : Ref sig .tc := ⟨.hbm, 189, rfl⟩
abbrev main_while0b_call4_v0 : Ref sig .tc := ⟨.hbm, 190, rfl⟩
abbrev main_while0b_v165 : Ref sig .tc := ⟨.hbm, 191, rfl⟩
abbrev main_while0b_v166 : Ref sig .tc := ⟨.hbm, 192, rfl⟩
abbrev main_while0b_v167 : Ref sig .tc := ⟨.hbm, 193, rfl⟩
abbrev main_while0b_v168 : Ref sig .tc := ⟨.hbm, 194, rfl⟩
abbrev main_while0b_v169 : Ref sig .tc := ⟨.hbm, 195, rfl⟩
abbrev main_while0b_v170 : Ref sig .tc := ⟨.hbm, 196, rfl⟩
abbrev main_while0b_v171 : Ref sig .tc := ⟨.hbm, 197, rfl⟩
abbrev main_while0b_v172 : Ref sig .tc := ⟨.hbm, 198, rfl⟩
abbrev main_while0b_v173 : Ref sig .tc := ⟨.hbm, 199, rfl⟩
abbrev main_while0b_v174 : Ref sig .tc := ⟨.hbm, 200, rfl⟩
abbrev main_while0b_v175 : Ref sig .tc := ⟨.hbm, 201, rfl⟩
abbrev main_while0b_call5_v0 : Ref sig .tc := ⟨.hbm, 202, rfl⟩
abbrev main_while0b_call5_c : Ref sig .tc := ⟨.hbm, 203, rfl⟩
abbrev main_while0b_call5_c_0 : Ref sig .tc := ⟨.hbm, 204, rfl⟩
abbrev main_while0b_call5_c_1 : Ref sig .tc := ⟨.hbm, 205, rfl⟩
abbrev main_while0b_call5_c_2 : Ref sig .tc := ⟨.hbm, 206, rfl⟩
abbrev main_while0b_v176 : Ref sig .tc := ⟨.hbm, 207, rfl⟩
abbrev main_while0b_c_29 : Ref sig .tc := ⟨.hbm, 208, rfl⟩
abbrev main_while0b_v177 : Ref sig .tc := ⟨.hbm, 209, rfl⟩
abbrev main_v133 : Ref sig .tc := ⟨.hbm, 210, rfl⟩
abbrev main_v134 : Ref sig .tc := ⟨.hbm, 211, rfl⟩
abbrev main_cst_16 : Ref sig .tc := ⟨.hbm, 212, rfl⟩
abbrev main_v135 : Ref sig .tc := ⟨.hbm, 213, rfl⟩
abbrev main_v136 : Ref sig .tc := ⟨.hbm, 214, rfl⟩
abbrev main_cst_17 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_cst_18 : Ref sig .tc := ⟨.hbm, 221, rfl⟩
abbrev main_v142 : Ref sig .tc := ⟨.hbm, 222, rfl⟩
abbrev main_v143 : Ref sig .tc := ⟨.hbm, 223, rfl⟩
abbrev main_cst_19 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_cst_20 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_call6_v0 : Ref sig .tc := ⟨.hbm, 240, rfl⟩
abbrev main_call6_v1 : Ref sig .tc := ⟨.hbm, 241, rfl⟩
abbrev main_call6_cst : Ref sig .tc := ⟨.hbm, 242, rfl⟩
abbrev main_call6_v2 : Ref sig .tc := ⟨.hbm, 243, rfl⟩
abbrev main_call6_v3 : Ref sig .tc := ⟨.hbm, 244, rfl⟩
abbrev main_call6_cst_0 : Ref sig .tc := ⟨.hbm, 245, rfl⟩
abbrev main_call6_v4 : Ref sig .tc := ⟨.hbm, 246, rfl⟩
abbrev main_call6_v5 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16384x2048 : Shape := ⟨2, ![16384, 2048]⟩
abbrev S2048 : Shape := ⟨1, ![2048]⟩
abbrev S2x2048x12288 : Shape := ⟨3, ![2, 2048, 12288]⟩
abbrev S1x2048 : Shape := ⟨2, ![1, 2048]⟩
abbrev S16384x4096 : Shape := ⟨2, ![16384, 4096]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x12288, .f32⟩
  | .hbm, ⟨3, _⟩ => ⟨S2x2048x12288, .bf16⟩
  | .hbm, ⟨4, _⟩ => ⟨S1x2048, .f32⟩
  | .hbm, ⟨5, _⟩ => ⟨S16384x4096, .f32⟩
  | .hbm, ⟨6, _⟩ => ⟨S16384x4096, .bf16⟩
  | .hbm, ⟨7, _⟩ => ⟨S16384x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 12], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c4_i32 : BitVec 32 := 4#32
  let v4 : BitVec 1 := Scalar.cmpi .slt arg1 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c4_i32_3 : BitVec 32 := 4#32
  let v8 : BitVec 1 := Scalar.cmpi .sge arg1 c4_i32_3
  let c8_i32 : BitVec 32 := 8#32
  let v9 : BitVec 1 := Scalar.cmpi .slt arg1 c8_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c8_i32_5 : BitVec 32 := 8#32
  let v13 : BitVec 1 := Scalar.cmpi .sge arg1 c8_i32_5
  let c12_i32 : BitVec 32 := 12#32
  let v14 : BitVec 1 := Scalar.cmpi .slt arg1 c12_i32
  let v15 : BitVec 1 := Scalar.andi v13 v14
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16384x2048 : Shape := ⟨2, ![16384, 2048]⟩
abbrev S2048 : Shape := ⟨1, ![2048]⟩
abbrev S2x2048x12288 : Shape := ⟨3, ![2, 2048, 12288]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x12288 : Shape := ⟨3, ![1, 2048, 12288]⟩
abbrev S2048x12288 : Shape := ⟨2, ![2048, 12288]⟩
abbrev S16384x12288 : Shape := ⟨2, ![16384, 12288]⟩
abbrev S16384x4096 : Shape := ⟨2, ![16384, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x12288, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S1x2048x12288, .f32⟩
  | .hbm, ⟨20, _⟩ => ⟨S2048x12288, .f32⟩
  | .hbm, ⟨21, _⟩ => ⟨S16384x12288, .f32⟩
  | .hbm, ⟨22, _⟩ => ⟨S16384x2048, .f32⟩
  | .hbm, ⟨23, _⟩ => ⟨S16384x2048, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel3.lean ====
abbrev S16384x4096 : Shape := ⟨2, ![16384, 4096]⟩
abbrev S4096x2048 : Shape := ⟨2, ![4096, 2048]⟩
abbrev S16384x2048 : Shape := ⟨2, ![16384, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S4096x2048, .bf16⟩
  | .hbm, ⟨4, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x4096 : Shape := ⟨2, ![16384, 4096]⟩
abbrev S4096x2048 : Shape := ⟨2, ![4096, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S16384x4096, .f32⟩
  | .hbm, ⟨4, _⟩ => ⟨S16384x2048, .f32⟩
  | .hbm, ⟨5, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S16384x2048 : Shape := ⟨2, ![16384, 2048]⟩
abbrev S2048 : Shape := ⟨1, ![2048]⟩
abbrev S2048x4096 : Shape := ⟨2, ![2048, 4096]⟩
abbrev S1x2048 : Shape := ⟨2, ![1, 2048]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4096, .f32⟩
  | .hbm, ⟨3, _⟩ => ⟨S2048x4096, .bf16⟩
  | .hbm, ⟨4, _⟩ => ⟨S1x2048, .f32⟩
  | .hbm, ⟨5, _⟩ => ⟨S16384x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x2048 : Shape := ⟨2, ![16384, 2048]⟩
abbrev S2048 : Shape := ⟨1, ![2048]⟩
abbrev S2048x4096 : Shape := ⟨2, ![2048, 4096]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x4096 : Shape := ⟨2, ![16384, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4096, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x4096, .f32⟩
  | .hbm, ⟨20, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S2048x2048, .bf16⟩
  | .hbm, ⟨4, _⟩ => ⟨S1x2048, .f32⟩
  | .hbm, ⟨5, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16384x2048 : Shape := ⟨2, ![16384, 2048]⟩
abbrev S2048 : Shape := ⟨1, ![2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel6.lean ====
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S16384x2048 : Shape := ⟨2, ![16384, 2048]⟩
abbrev S16384x4096 : Shape := ⟨2, ![16384, 4096]⟩
abbrev S16x257 : Shape := ⟨2, ![16, 257]⟩
abbrev S256 : Shape := ⟨1, ![256]⟩
abbrev S256x1 : Shape := ⟨2, ![256, 1]⟩
abbrev S768 : Shape := ⟨1, ![768]⟩
abbrev S1x768 : Shape := ⟨2, ![1, 768]⟩
abbrev S1023 : Shape := ⟨1, ![1023]⟩
abbrev S_ : Shape := ⟨0, ![]⟩
abbrev S1023x1 : Shape := ⟨2, ![1023, 1]⟩
abbrev S16x1023 : Shape := ⟨2, ![16, 1023]⟩
abbrev S1x16x1x1023 : Shape := ⟨4, ![1, 16, 1, 1023]⟩
abbrev S1x16x257x1023 : Shape := ⟨4, ![1, 16, 257, 1023]⟩
abbrev S16x262911 : Shape := ⟨2, ![16, 262911]⟩
abbrev S16x261632 : Shape := ⟨2, ![16, 261632]⟩
abbrev S16x256x1022 : Shape := ⟨3, ![16, 256, 1022]⟩
abbrev S16x256x768 : Shape := ⟨3, ![16, 256, 768]⟩
abbrev S256x768 : Shape := ⟨2, ![256, 768]⟩
abbrev S1x256x768 : Shape := ⟨3, ![1, 256, 768]⟩
abbrev S256x2048 : Shape := ⟨2, ![256, 2048]⟩
abbrev S256x128 : Shape := ⟨2, ![256, 128]⟩
abbrev S256x256 : Shape := ⟨2, ![256, 256]⟩

abbrev nBuf : Space → Nat
  | .hbm => 97
  | .vmem => 17
  | .smem => 0
  | _ => 0

abbrev bufTy : (tb : Table) → Fin (tcTables nBuf tb) → BufTy
  | .hbm, ⟨0, _⟩ => ⟨S16384x2048, .bf16⟩
  | .hbm, ⟨1, _⟩ => ⟨S16384x4096, .bf16⟩
  | .hbm, ⟨2, _⟩ => ⟨S16x257, .f32⟩
  | .hbm, ⟨3, _⟩ => ⟨S256, .i32⟩
  | .hbm, ⟨4, _⟩ => ⟨S256x1, .i32⟩
  | .hbm, ⟨5, _⟩ => ⟨S768, .i32⟩
  | .hbm, ⟨6, _⟩ => ⟨S1x768, .i32⟩
  | .hbm, ⟨7, _⟩ => ⟨S1023, .i32⟩
  | .hbm, ⟨8, _⟩ => ⟨S_, .i32⟩
  | .hbm, ⟨9, _⟩ => ⟨S1023, .i32⟩
  | .hbm, ⟨10, _⟩ => ⟨S1023, .i1⟩
  | .hbm, ⟨11, _⟩ => ⟨S_, .i32⟩
  | .hbm, ⟨12, _⟩ => ⟨S1023, .i32⟩
  | .hbm, ⟨13, _⟩ => ⟨S1023, .i32⟩
  | .hbm, ⟨14, _⟩ => ⟨S1023, .i32⟩
  | .hbm, ⟨15, _⟩ => ⟨S_, .i32⟩
  | .hbm, ⟨16, _⟩ => ⟨S1023, .i32⟩
  | .hbm, ⟨17, _⟩ => ⟨S1023, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1023, .i32⟩
  | .hbm, ⟨22, _⟩ => ⟨S1023, .i32⟩
  | .hbm, ⟨23, _⟩ => ⟨S_, .i32⟩
  | .hbm, ⟨24, _⟩ => ⟨S1023, .i32⟩
  | .hbm, ⟨25, _⟩ => ⟨S1023, .i32⟩
  | .hbm, ⟨26, _⟩ => ⟨S_, .i32⟩
  | .hbm, ⟨27, _⟩ => ⟨S1023, .i32⟩
  | .hbm, ⟨28, _⟩ => ⟨S1023, .i32⟩
  | .hbm, ⟨29, _⟩ => ⟨S_, .i32⟩
  | .hbm, ⟨30, _⟩ => ⟨S1023, .i32⟩
  | .hbm, ⟨31, _⟩ => ⟨S1023, .i1⟩
  | .hbm, ⟨32, _⟩ => ⟨S_, .i32⟩
  | .hbm, ⟨33, _⟩ => ⟨S1023, .i32⟩
  | .hbm, ⟨34, _⟩ => ⟨S1023, .i32⟩
  | .hbm, ⟨35, _⟩ => ⟨S1023, .i32⟩
  | .hbm, ⟨36, _⟩ => ⟨S1023x1, .i32⟩
  | .hbm, ⟨37, _⟩ => ⟨S16x1023, .f32⟩
  | .hbm, ⟨38, _⟩ => ⟨S1x16x1x1023, .f32⟩
  | .hbm, ⟨39, _⟩ => ⟨S1x16x257x1023, .f32⟩
  | .hbm, ⟨40, _⟩ => ⟨S16x262911, .f32⟩
  | .hbm, ⟨41, _⟩ => ⟨S16x261632, .f32⟩
  | .hbm, ⟨42, _⟩ => ⟨S16x256x1022, .f32⟩
  | .hbm, ⟨43, _⟩ => ⟨S16x256x768, .f32⟩
  | .hbm, ⟨44, _⟩ => ⟨S_, .i32⟩
  | .hbm, ⟨45, _⟩ => ⟨S_, .i32⟩
  | .hbm, ⟨46, _⟩ => ⟨S256x1, .i32⟩
  | .hbm, ⟨47, _⟩ => ⟨S256x1, .i32⟩
  | .hbm, ⟨48, _⟩ => ⟨S256x1, .i32⟩
  | .hbm, ⟨49, _⟩ => ⟨S_, .i32⟩
  | .hbm, ⟨50, _⟩ => ⟨S256x1, .i32⟩
  | .hbm, ⟨51, _⟩ => ⟨S256x1, .i1⟩
  | .hbm, ⟨52, _⟩ => ⟨S256x1, .i32⟩
  | .hbm, ⟨53, _⟩ => ⟨S256x1, .i32⟩
  | .hbm, ⟨54, _⟩ => ⟨S_, .i32⟩
  | .hbm, ⟨55, _⟩ => ⟨S256x1, .i32⟩
  | .hbm, ⟨56, _⟩ => ⟨S256x1, .i1⟩
  | .hbm, ⟨57, _⟩ => ⟨S256x1, .i1⟩
  | .hbm, ⟨58, _⟩ => ⟨S_, .i32⟩
  | .hbm, ⟨59, _⟩ => ⟨S256x1, .i32⟩
  | .hbm, ⟨60, _⟩ => ⟨S256x1, .i32⟩
  | .hbm, ⟨61, _⟩ => ⟨S256x1, .i32⟩
  | .hbm, ⟨62, _⟩ => ⟨S_, .i32⟩
  | .hbm, ⟨63, _⟩ => ⟨S_, .i32⟩
  | .hbm, ⟨64, _⟩ => ⟨S1x768, .i32⟩
  | .hbm, ⟨65, _⟩ => ⟨S1x768, .i32⟩
  | .hbm, ⟨66, _⟩ => ⟨S1x768, .i32⟩
  | .hbm, ⟨67, _⟩ => ⟨S_, .i32⟩
  | .hbm, ⟨68, _⟩ => ⟨S1x768, .i32⟩
  | .hbm, ⟨69, _⟩ => ⟨S1x768, .i1⟩
  | .hbm, ⟨70, _⟩ => ⟨S1x768, .i32⟩
  | .hbm, ⟨71, _⟩ => ⟨S1x768, .i32⟩
  | .hbm, ⟨72, _⟩ => ⟨S_, .i32⟩
  | .hbm, ⟨73, _⟩ => ⟨S1x768, .i32⟩
  | .hbm, ⟨74, _⟩ => ⟨S1x768, .i1⟩
  | .hbm, ⟨75, _⟩ => ⟨S1x768, .i1⟩
  | .hbm, ⟨76, _⟩ => ⟨S_, .i32⟩
  | .hbm, ⟨77, _⟩ => ⟨S1x768, .i32⟩
  | .hbm, ⟨78, _⟩ => ⟨S1x768, .i32⟩
  | .hbm, ⟨79, _⟩ => ⟨S1x768, .i32⟩
  | .hbm, ⟨80, _⟩ => ⟨S256x768, .i32⟩
  | .hbm, ⟨81, _⟩ => ⟨S256x768, .i32⟩
  | .hbm, ⟨82, _⟩ => ⟨S256x768, .i1⟩
  | .hbm, ⟨83, _⟩ => ⟨S_, .i32⟩
  | .hbm, ⟨84, _⟩ => ⟨S256x1, .i32⟩
  | .hbm, ⟨85, _⟩ => ⟨S256x1, .i32⟩
  | .hbm, ⟨86, _⟩ => ⟨S256x768, .i32⟩
  | .hbm, ⟨87, _⟩ => ⟨S256x768, .i32⟩
  | .hbm, ⟨88, _⟩ => ⟨S256x768, .i1⟩
  | .hbm, ⟨89, _⟩ => ⟨S256x768, .i1⟩
  | .hbm, ⟨90, _⟩ => ⟨S1x256x768, .i1⟩
  | .hbm, ⟨91, _⟩ => ⟨S_, .f32⟩
  | .hbm, ⟨92, _⟩ => ⟨S_, .f32⟩
  | .hbm, ⟨93, _⟩ => ⟨S16x256x768, .i1⟩
  | .hbm, ⟨94, _⟩ => ⟨S16x256x768, .f32⟩
  | .hbm, ⟨95, _⟩ => ⟨S16x256x768, .f32⟩
  | .hbm, ⟨96, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S16x256x768, .f32⟩
  | .local _ .vmem, ⟨15, _⟩ => ⟨S256x2048, .bf16⟩
  | .local _ .vmem, ⟨16, _⟩ => ⟨S256x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_c_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_c_5 : Ref sig .tc := ⟨.hbm, 29, rfl⟩
abbrev main_v15 : Ref sig .tc := ⟨.hbm, 30, rfl⟩
abbrev main_v16 : Ref sig .tc := ⟨.hbm, 31, rfl⟩
abbrev main_c_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_c : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_0 : Ref sig .tc := ⟨.hbm, 58, rfl⟩
abbrev main_call2_v12 : Ref sig .tc := ⟨.hbm, 59, rfl⟩
abbrev main_call2_v13 : Ref sig .tc := ⟨.hbm, 60, rfl⟩
abbrev main_v28 : Ref sig .tc := ⟨.hbm, 61, rfl⟩
abbrev main_c_8 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_c : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_c_0 : Ref sig .tc := ⟨.hbm, 76, rfl⟩
abbrev main_call3_v12 : Ref sig .tc := ⟨.hbm, 77, rfl⟩
abbrev main_call3_v13 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_c_9 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_v40 : Ref sig .tc := ⟨.hbm, 95, rfl⟩
abbrev main_v41 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32 : BitVec 32 := 128#32
  let v9 : BitVec 32 := Scalar.muli arg11 c128_i32
  v9
def k0_off1 (k0_t1 : Fin k0_t1_loop.trips) : Fin 2 → Nat :=
  let c0 : Index := 0#32
  let c0_i32 : BitVec 32 := 0#32
  let c1_i32 : BitVec 32 := 1#32
  let arg11 : BitVec 32 := Scf.iv c0_i32 c1_i32 k0_t1
  let c128_i32 : BitVec 32 := 128#32
  let v9 : BitVec 32 := Scalar.muli arg11 c128_i32
  let v10 : BitVec 32 := v9
  let v11 : Index := Scalar.indexCast v10
  ![0, v11.toNat]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let v23 : Index := Scalar.indexCast arg11
  let c0_8 : Index := 0#32
  let c0_9 : Index := 0#32
  ![v23.toNat, 0, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c0_i32_1 : BitVec 32 := 0#32
  let c0_i32_2 : BitVec 32 := 0#32
  ![v4.toNat, c0_i32_1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c2_i32_0 : BitVec 32 := 2#32
  let v2 : BitVec 32 := Scalar.addi v1 c2_i32_0
  let c0_i32 : BitVec 32 := 0#32
  let v3 : BitVec 32 := Scalar.maxsi v2 c0_i32
  let v4 : BitVec 32 := Scalar.addi v0 v3
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c1_i32 : BitVec 32 := 1#32
  let c0_i32_1 : BitVec 32 := 0#32
  ![v4.toNat, c1_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c1_i32_0 : BitVec 32 := 1#32
  let c0_i32_1 : BitVec 32 := 0#32
  ![v4.toNat, c1_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c2_i32_0 : BitVec 32 := 2#32
  let v2 : BitVec 32 := Scalar.addi v1 c2_i32_0
  let c0_i32 : BitVec 32 := 0#32
  let v3 : BitVec 32 := Scalar.maxsi v2 c0_i32
  let v4 : BitVec 32 := Scalar.addi v0 v3
  let c1_i32 : BitVec 32 := 1#32
  let c0_i32_1 : BitVec 32 := 0#32
  ![v4.toNat, c1_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S16x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel7Ideal.lean ====
variable {F : FTy → Type} [FloatOps F] [Named F]
def κ : String → Option EReal := fun
  | "mask" => some ⊥
  | _ => none
-- ==== Reference7Ideal.lean ====
abbrev S16384x2048 : Shape := ⟨2, ![16384, 2048]⟩
abbrev S16384x4096 : Shape := ⟨2, ![16384, 4096]⟩
abbrev S16x257 : Shape := ⟨2, ![16, 257]⟩
abbrev S4x64x64x16x128 : Shape := ⟨5, ![4, 64, 64, 16, 128]⟩
abbrev S4x4096x4096 : Shape := ⟨3, ![4, 4096, 4096]⟩
abbrev S4x4096x2048 : Shape := ⟨3, ![4, 4096, 2048]⟩
abbrev S4x4096x16x128 : Shape := ⟨4, ![4, 4096, 16, 128]⟩
abbrev S_ : Shape := ⟨0, ![]⟩
abbrev S4x4608x16x128 : Shape := ⟨4, ![4, 4608, 16, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S4x72x64x16x128 : Shape := ⟨5, ![4, 72, 64, 16, 128]⟩
abbrev S4x64x576x16x128 : Shape := ⟨5, ![4, 64, 576, 16, 128]⟩
abbrev S4x64x16x64x576 : Shape := ⟨5, ![4, 64, 16, 64, 576]⟩
abbrev S1x1x16x64x576 : Shape := ⟨5, ![1, 1, 16, 64, 576]⟩
abbrev S1x64x1x1x576 : Shape := ⟨5, ![1, 64, 1, 1, 576]⟩
abbrev S4x64x16x64 : Shape := ⟨4, ![4, 64, 16, 64]⟩
abbrev S4x64x16x64x1 : Shape := ⟨5, ![4, 64, 16, 64, 1]⟩
abbrev S4x64x16x128x64 : Shape := ⟨5, ![4, 64, 16, 128, 64]⟩

abbrev nBuf : Space → Nat
  | .hbm => 109
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x4096, .bf16⟩
  | .hbm, ⟨2, _⟩ => ⟨S16x257, .f32⟩
  | .hbm, ⟨3, _⟩ => ⟨S16384x2048, .f32⟩
  | .hbm, ⟨4, _⟩ => ⟨S4x64x64x16x128, .f32⟩
  | .hbm, ⟨5, _⟩ => ⟨S16384x4096, .f32⟩
  | .hbm, ⟨6, _⟩ => ⟨S4x4096x4096, .f32⟩
  | .hbm, ⟨7, _⟩ => ⟨S4x4096x2048, .f32⟩
  | .hbm, ⟨8, _⟩ => ⟨S4x4096x2048, .f32⟩
  | .hbm, ⟨9, _⟩ => ⟨S4x4096x16x128, .f32⟩
  | .hbm, ⟨10, _⟩ => ⟨S_, .i32⟩
  | .hbm, ⟨11, _⟩ => ⟨S_, .f32⟩
  | .hbm, ⟨12, _⟩ => ⟨S4x4608x16x128, .f32⟩
  | .hbm, ⟨13, _⟩ => ⟨S4x4096x16x128, .f32⟩
  | .hbm, ⟨14, _⟩ => ⟨S_, .i32⟩
  | .hbm, ⟨15, _⟩ => ⟨S_, .f32⟩
  | .hbm, ⟨16, _⟩ => ⟨S4x4608x16x128, .f32⟩
  | .hbm, ⟨17, _⟩ => ⟨S64, .i32⟩
  | .hbm, ⟨18, _⟩ => ⟨S64x1, .i32⟩
  | .hbm, ⟨19, _⟩ => ⟨S576, .i32⟩
  | .hbm, ⟨20, _⟩ => ⟨S_, .i32⟩
  | .hbm, ⟨21, _⟩ => ⟨S64x1, .i32⟩
  | .hbm, ⟨22, _⟩ => ⟨S64x1, .i32⟩
  | .hbm, ⟨23, _⟩ => ⟨S1x576, .i32⟩
  | .hbm, ⟨24, _⟩ => ⟨S64x576, .i32⟩
  | .hbm, ⟨25, _⟩ => ⟨S64x576, .i32⟩
  | .hbm, ⟨26, _⟩ => ⟨S64x576, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S64x576, .i32⟩
  | .hbm, ⟨31, _⟩ => ⟨S64x576, .i32⟩
  | .hbm, ⟨32, _⟩ => ⟨S_, .i32⟩
  | .hbm, ⟨33, _⟩ => ⟨S64x576, .i32⟩
  | .hbm, ⟨34, _⟩ => ⟨S64x576, .i32⟩
  | .hbm, ⟨35, _⟩ => ⟨S_, .i32⟩
  | .hbm, ⟨36, _⟩ => ⟨S64x576, .i32⟩
  | .hbm, ⟨37, _⟩ => ⟨S64x576, .i32⟩
  | .hbm, ⟨38, _⟩ => ⟨S_, .i32⟩
  | .hbm, ⟨39, _⟩ => ⟨S64x576, .i32⟩
  | .hbm, ⟨40, _⟩ => ⟨S64x576, .i1⟩
  | .hbm, ⟨41, _⟩ => ⟨S_, .i32⟩
  | .hbm, ⟨42, _⟩ => ⟨S64x576, .i32⟩
  | .hbm, ⟨43, _⟩ => ⟨S64x576, .i32⟩
  | .hbm, ⟨44, _⟩ => ⟨S64x576, .i32⟩
  | .hbm, ⟨45, _⟩ => ⟨S64x576x1, .i32⟩
  | .hbm, ⟨46, _⟩ => ⟨S16x64x576, .f32⟩
  | .hbm, ⟨47, _⟩ => ⟨S4x72x64x16x128, .f32⟩
  | .hbm, ⟨48, _⟩ => ⟨S4x64x64x16x128, .f32⟩
  | .hbm, ⟨49, _⟩ => ⟨S4x64x64x16x128, .f32⟩
  | .hbm, ⟨50, _⟩ => ⟨S4x64x64x16x128, .f32⟩
  | .hbm, ⟨51, _⟩ => ⟨S4x64x64x16x128, .f32⟩
  | .hbm, ⟨52, _⟩ => ⟨S4x64x64x16x128, .f32⟩
  | .hbm, ⟨53, _⟩ => ⟨S4x64x64x16x128, .f32⟩
  | .hbm, ⟨54, _⟩ => ⟨S4x64x64x16x128, .f32⟩
  | .hbm, ⟨55, _⟩ => ⟨S4x64x64x16x128, .f32⟩
  | .hbm, ⟨56, _⟩ => ⟨S4x64x64x16x128, .f32⟩
  | .hbm, ⟨57, _⟩ => ⟨S4x64x576x16x128, .f32⟩
  | .hbm, ⟨58, _⟩ => ⟨S4x72x64x16x128, .f32⟩
  | .hbm, ⟨59, _⟩ => ⟨S4x64x64x16x128, .f32⟩
  | .hbm, ⟨60, _⟩ => ⟨S4x64x64x16x128, .f32⟩
  | .hbm, ⟨61, _⟩ => ⟨S4x64x64x16x128, .f32⟩
  | .hbm, ⟨62, _⟩ => ⟨S4x64x64x16x128, .f32⟩
  | .hbm, ⟨63, _⟩ => ⟨S4x64x64x16x128, .f32⟩
  | .hbm, ⟨64, _⟩ => ⟨S4x64x64x16x128, .f32⟩
  | .hbm, ⟨65, _⟩ => ⟨S4x64x64x16x128, .f32⟩
  | .hbm, ⟨66, _⟩ => ⟨S4x64x64x16x128, .f32⟩
  | .hbm, ⟨67, _⟩ => ⟨S4x64x64x16x128, .f32⟩
  | .hbm, ⟨68, _⟩ => ⟨S4x64x576x16x128, .f32⟩
  | .hbm, ⟨69, _⟩ => ⟨S4x64x16x64x576, .f32⟩
  | .hbm, ⟨70, _⟩ => ⟨S1x1x16x64x576, .f32⟩
  | .hbm, ⟨71, _⟩ => ⟨S4x64x16x64x576, .f32⟩
  | .hbm, ⟨72, _⟩ => ⟨S4x64x16x64x576, .f32⟩
  | .hbm, ⟨73, _⟩ => ⟨S1x576, .i32⟩
  | .hbm, ⟨74, _⟩ => ⟨S64, .i32⟩
  | .hbm, ⟨75, _⟩ => ⟨S64x1, .i32⟩
  | .hbm, ⟨76, _⟩ => ⟨S_, .i32⟩
  | .hbm, ⟨77, _⟩ => ⟨S64x1, .i32⟩
  | .hbm, ⟨78, _⟩ => ⟨S64x1, .i32⟩
  | .hbm, ⟨79, _⟩ => ⟨S_, .i32⟩
  | .hbm, ⟨80, _⟩ => ⟨S64x1, .i32⟩
  | .hbm, ⟨81, _⟩ => ⟨S64x1, .i32⟩
  | .hbm, ⟨82, _⟩ => ⟨S64x576, .i32⟩
  | .hbm, ⟨83, _⟩ => ⟨S64x576, .i32⟩
  | .hbm, ⟨84, _⟩ => ⟨S64x576, .i1⟩
  | .hbm, ⟨85, _⟩ => ⟨S1x64x1x1x576, .i1⟩
  | .hbm, ⟨86, _⟩ => ⟨S_, .f32⟩
  | .hbm, ⟨87, _⟩ => ⟨S_, .f32⟩
  | .hbm, ⟨88, _⟩ => ⟨S4x64x16x64x576, .i1⟩
  | .hbm, ⟨89, _⟩ => ⟨S4x64x16x64x576, .f32⟩
  | .hbm, ⟨90, _⟩ => ⟨S4x64x16x64x576, .f32⟩
  | .hbm, ⟨91, _⟩ => ⟨S_, .f32⟩
  | .hbm, ⟨92, _⟩ => ⟨S4x64x16x64, .f32⟩
  | .hbm, ⟨93, _⟩ => ⟨S_, .f32⟩
  | .hbm, ⟨94, _⟩ => ⟨S4x64x16x64, .f32⟩
  | .hbm, ⟨95, _⟩ => ⟨S4x64x16x64, .f32⟩
  | .hbm, ⟨96, _⟩ => ⟨S4x64x16x64x1, .f32⟩
  | .hbm, ⟨97, _⟩ => ⟨S4x64x16x64x576, .f32⟩
  | .hbm, ⟨98, _⟩ => ⟨S4x64x16x64x576, .f32⟩
  | .hbm, ⟨99, _⟩ => ⟨S4x64x16x64x576, .f32⟩
  | .hbm, ⟨100, _⟩ => ⟨S_, .f32⟩
  | .hbm, ⟨101, _⟩ => ⟨S4x64x16x64, .f32⟩
  | .hbm, ⟨102, _⟩ => ⟨S4x64x16x64x1, .f32⟩
  | .hbm, ⟨103, _⟩ => ⟨S4x64x16x64x576, .f32⟩
  | .hbm, ⟨104, _⟩ => ⟨S4x64x16x64x576, .f32⟩
  | .hbm, ⟨105, _⟩ => ⟨S4x64x16x128x64, .f32⟩
  | .hbm, ⟨106, _⟩ => ⟨S4x64x64x16x128, .f32⟩
  | .hbm, ⟨107, _⟩ => ⟨S16384x2048, .f32⟩
  | .hbm, ⟨108, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_c_3 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_7 : Ref sig .tc := ⟨.hbm, 76, rfl⟩
abbrev main_v58 : Ref sig .tc := ⟨.hbm, 77, rfl⟩
abbrev main_v59 : Ref sig .tc := ⟨.hbm, 78, rfl⟩
abbrev main_c_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v66 : Ref sig .tc := ⟨.hbm, 90, rfl⟩
abbrev main_cst_9 : Ref sig .tc := ⟨.hbm, 91, rfl⟩
abbrev main_v67 : Ref sig .tc := ⟨.hbm, 92, rfl⟩
abbrev main_cst_10 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]
-- ==== Proof.RefLoop.lean ====
/- The reference's loop as a state passed from trip to trip: at a valuation that holds a state (the carried buffers, the
   loop's constants, the trip's number) every value of one trip is the one `Step` names, so one application of the run's `STEP`
   keeps holding with `step` applied; the values before the loop hold `init`; the result is a function of `step` iterated. -/
module

public import proofs.«01_k».proof.Proof.Gen.ReferenceIdeal.Run
public import proofs.«01_k».proof.Proof.Gen.ReferenceIdeal.Step

@[expose] public section

noncomputable section

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v132_7) = s.main_v132_7
  f_8 : V0 (Proc.devRef .tc main_v132_8) = s.main_v132_8
  f_0 : V0 (Proc.devRef .tc main_v132_0) = s.main_v132_0
  f_1 : V0 (Proc.devRef .tc main_v132_1) = s.main_v132_1
  f_2 : V0 (Proc.devRef .tc main_v132_2) = s.main_v132_2
  f_3 : V0 (Proc.devRef .tc main_v132_3) = s.main_v132_3
  n_6 : V0 (Proc.devRef .tc main_v132_6) = constantI S_ 32 (BitVec.ofNat 32 j)
  k_4 : V0 (Proc.devRef .tc main_v132_4) = Cert.ReferenceIdeal.Step.K_main_v117 (F := F)
  k_5 : V0 (Proc.devRef .tc main_v132_5) = Cert.ReferenceIdeal.Step.K_main_v106 (F := F)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call1_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call1_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x4x8x64x256 (V0 (Proc.devRef .tc main_v132_0)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x256_S1x4x8x64x256 : (Proc.devRef .tc main_while0b_call1_v0 : DevRef τ sig).ty.Contents (Elt F)) = Cert.ReferenceIdeal.Step.b4 j s := by
  unfold Cert.ReferenceIdeal.Step.b4
  rw [← al_0 h, ← al_1 h, ← al_2 h, ← al_3 h, h.f_0, h.n_6]
  try rfl
set_option maxRecDepth 8192 in
theorem al_5 (h : Holds V0 s j) : (shapeCast S4x8x64x256 (Host.dynamicSlice S1x4x8x64x256 (V0 (Proc.devRef .tc main_v132_0)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x256_S1x4x8x64x256) shapeCasts_S1x4x8x64x256_S4x8x64x256 : (Proc.devRef .tc main_while0b_v162 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (constantI S_ 32 0#32 : (Proc.devRef .tc main_while0b_call2_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call2_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call2_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call2_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x4x8x64x256 (V0 (Proc.devRef .tc main_v132_1)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x256_S1x4x8x64x256 : (Proc.devRef .tc main_while0b_call2_v0 : DevRef τ sig).ty.Contents (Elt F)) = Cert.ReferenceIdeal.Step.b10 j s := by
  unfold Cert.ReferenceIdeal.Step.b10
  rw [← al_6 h, ← al_7 h, ← al_8 h, ← al_9 h, h.f_1, h.n_6]
  try rfl
set_option maxRecDepth 8192 in
theorem al_11 (h : Holds V0 s j) : (shapeCast S4x8x64x256 (Host.dynamicSlice S1x4x8x64x256 (V0 (Proc.devRef .tc main_v132_1)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x256_S1x4x8x64x256) shapeCasts_S1x4x8x64x256_S4x8x64x256 : (Proc.devRef .tc main_while0b_v163 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call3_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call3_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call3_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x4x8x64x512 (V0 (Proc.devRef .tc main_v132_2)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x512_S1x4x8x64x512 : (Proc.devRef .tc main_while0b_call3_v0 : DevRef τ sig).ty.Contents (Elt F)) = Cert.ReferenceIdeal.Step.b16 j s := by
  unfold Cert.ReferenceIdeal.Step.b16
  rw [← al_12 h, ← al_13 h, ← al_14 h, ← al_15 h, h.f_2, h.n_6]
  try rfl
set_option maxRecDepth 8192 in
theorem al_17 (h : Holds V0 s j) : (shapeCast S4x8x64x512 (Host.dynamicSlice S1x4x8x64x512 (V0 (Proc.devRef .tc main_v132_2)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x512_S1x4x8x64x512) shapeCasts_S1x4x8x64x512_S4x8x64x512 : (Proc.devRef .tc main_while0b_v164 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call4_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call4_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call4_c_1 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call4_c_2 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x4x8x64x512 (V0 (Proc.devRef .tc main_v132_3)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x512_S1x4x8x64x512 : (Proc.devRef .tc main_while0b_call4_v0 : DevRef τ sig).ty.Contents (Elt F)) = Cert.ReferenceIdeal.Step.b22 j s := by
  unfold Cert.ReferenceIdeal.Step.b22
  rw [← al_18 h, ← al_19 h, ← al_20 h, ← al_21 h, h.f_3, h.n_6]
  try rfl
set_option maxRecDepth 8192 in
theorem al_23 (h : Holds V0 s j) : (shapeCast S4x8x64x512 (Host.dynamicSlice S1x4x8x64x512 (V0 (Proc.devRef .tc main_v132_3)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x512_S1x4x8x64x512) shapeCasts_S1x4x8x64x512_S4x8x64x512 : (Proc.devRef .tc main_while0b_v165 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (Host.dotGeneral dot_S4x8x64x256_S4x8x256x512_S4x8x64x512_3_2_2_3_01_01 none (shapeCast S4x8x64x256 (Host.dynamicSlice S1x4x8x64x256 (V0 (Proc.devRef .tc main_v132_0)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x256_S1x4x8x64x256) shapeCasts_S1x4x8x64x256_S4x8x64x256) (V0 (Proc.devRef .tc main_v132_7)) : (Proc.devRef .tc main_while0b_v166 : DevRef τ sig).ty.Contents (Elt F)) = Cert.ReferenceIdeal.Step.b24 j s := by
  unfold Cert.ReferenceIdeal.Step.b24
  rw [← al_5 h, h.f_7]
  try rfl
set_option maxRecDepth 8192 in
theorem al_25 (h : Holds V0 s j) : (broadcastInDim S1x8x1x1 ![1] bcast_S8_S1x8x1x1_1 (V0 (Proc.devRef .tc main_v132_4)) : (Proc.devRef .tc main_while0b_v167 : DevRef τ sig).ty.Contents (Elt F)) = Cert.ReferenceIdeal.Step.b25 j s := by
  unfold Cert.ReferenceIdeal.Step.b25
  rw [h.k_4]
  try rfl
set_option maxRecDepth 8192 in
theorem al_26 (h : Holds V0 s j) : (broadcastInDim S4x8x256x512 ![0, 1, 2, 3] bcast_S1x8x1x1_S4x8x256x512_0_1_2_3 (broadcastInDim S1x8x1x1 ![1] bcast_S8_S1x8x1x1_1 (V0 (Proc.devRef .tc main_v132_4))) : (Proc.devRef .tc main_while0b_v168 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (mulf (V0 (Proc.devRef .tc main_v132_7)) (broadcastInDim S4x8x256x512 ![0, 1, 2, 3] bcast_S1x8x1x1_S4x8x256x512_0_1_2_3 (broadcastInDim S1x8x1x1 ![1] bcast_S8_S1x8x1x1_1 (V0 (Proc.devRef .tc main_v132_4)))) : (Proc.devRef .tc main_while0b_v169 : DevRef τ sig).ty.Contents (Elt F)) = Cert.ReferenceIdeal.Step.b27 j s := by
  unfold Cert.ReferenceIdeal.Step.b27
  rw [← al_26 h, h.f_7]
  try rfl
set_option maxRecDepth 8192 in
theorem al_28 (h : Holds V0 s j) : (Host.dotGeneral dot_S4x8x64x256_S4x8x64x512_S4x8x256x512_2_2_3_3_01_01 none (shapeCast S4x8x64x256 (Host.dynamicSlice S1x4x8x64x256 (V0 (Proc.devRef .tc main_v132_1)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x256_S1x4x8x64x256) shapeCasts_S1x4x8x64x256_S4x8x64x256) (shapeCast S4x8x64x512 (Host.dynamicSlice S1x4x8x64x512 (V0 (Proc.devRef .tc main_v132_2)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x512_S1x4x8x64x512) shapeCasts_S1x4x8x64x512_S4x8x64x512) : (Proc.devRef .tc main_while0b_v170 : DevRef τ sig).ty.Contents (Elt F)) = Cert.ReferenceIdeal.Step.b28 j s := by
  unfold Cert.ReferenceIdeal.Step.b28
  rw [← al_11 h, ← al_17 h]
  try rfl
set_option maxRecDepth 8192 in
theorem al_29 (h : Holds V0 s j) : (addf (mulf (V0 (Proc.devRef .tc main_v132_7)) (broadcastInDim S4x8x256x512 ![0, 1, 2, 3] bcast_S1x8x1x1_S4x8x256x512_0_1_2_3 (broadcastInDim S1x8x1x1 ![1] bcast_S8_S1x8x1x1_1 (V0 (Proc.devRef .tc main_v132_4))))) (Host.dotGeneral dot_S4x8x64x256_S4x8x64x512_S4x8x256x512_2_2_3_3_01_01 none (shapeCast S4x8x64x256 (Host.dynamicSlice S1x4x8x64x256 (V0 (Proc.devRef .tc main_v132_1)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x256_S1x4x8x64x256) shapeCasts_S1x4x8x64x256_S4x8x64x256) (shapeCast S4x8x64x512 (Host.dynamicSlice S1x4x8x64x512 (V0 (Proc.devRef .tc main_v132_2)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x512_S1x4x8x64x512) shapeCasts_S1x4x8x64x512_S4x8x64x512)) : (Proc.devRef .tc main_while0b_v171 : DevRef τ sig).ty.Contents (Elt F)) = Cert.ReferenceIdeal.Step.b29 j s := by
  unfold Cert.ReferenceIdeal.Step.b29
  rw [← al_27 h, ← al_28 h]
  try rfl
set_option maxRecDepth 8192 in
theorem al_30 (h : Holds V0 s j) : (broadcastInDim S1x8x64x1 ![1, 2] bcast_S8x64_S1x8x64x1_1_2 (V0 (Proc.devRef .tc main_v132_5)) : (Proc.devRef .tc main_while0b_v172 : DevRef τ sig).ty.Contents (Elt F)) = Cert.ReferenceIdeal.Step.b30 j s := by
  unfold Cert.ReferenceIdeal.Step.b30
  rw [h.k_5]
  try rfl
set_option maxRecDepth 8192 in
theorem al_31 (h : Holds V0 s j) : (broadcastInDim S4x8x64x512 ![0, 1, 2, 3] bcast_S1x8x64x1_S4x8x64x512_0_1_2_3 (broadcastInDim S1x8x64x1 ![1, 2] bcast_S8x64_S1x8x64x1_1_2 (V0 (Proc.devRef .tc main_v132_5))) : (Proc.devRef .tc main_while0b_v173 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (mulf (Host.dotGeneral dot_S4x8x64x256_S4x8x256x512_S4x8x64x512_3_2_2_3_01_01 none (shapeCast S4x8x64x256 (Host.dynamicSlice S1x4x8x64x256 (V0 (Proc.devRef .tc main_v132_0)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x256_S1x4x8x64x256) shapeCasts_S1x4x8x64x256_S4x8x64x256) (V0 (Proc.devRef .tc main_v132_7))) (broadcastInDim S4x8x64x512 ![0, 1, 2, 3] bcast_S1x8x64x1_S4x8x64x512_0_1_2_3 (broadcastInDim S1x8x64x1 ![1, 2] bcast_S8x64_S1x8x64x1_1_2 (V0 (Proc.devRef .tc main_v132_5)))) : (Proc.devRef .tc main_while0b_v174 : DevRef τ sig).ty.Contents (Elt F)) = Cert.ReferenceIdeal.Step.b32 j s := by
  unfold Cert.ReferenceIdeal.Step.b32
  rw [← al_24 h, ← al_31 h]
  try rfl
set_option maxRecDepth 8192 in
theorem al_33 (h : Holds V0 s j) : (addf (shapeCast S4x8x64x512 (Host.dynamicSlice S1x4x8x64x512 (V0 (Proc.devRef .tc main_v132_3)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x512_S1x4x8x64x512) shapeCasts_S1x4x8x64x512_S4x8x64x512) (mulf (Host.dotGeneral dot_S4x8x64x256_S4x8x256x512_S4x8x64x512_3_2_2_3_01_01 none (shapeCast S4x8x64x256 (Host.dynamicSlice S1x4x8x64x256 (V0 (Proc.devRef .tc main_v132_0)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x256_S1x4x8x64x256) shapeCasts_S1x4x8x64x256_S4x8x64x256) (V0 (Proc.devRef .tc main_v132_7))) (broadcastInDim S4x8x64x512 ![0, 1, 2, 3] bcast_S1x8x64x1_S4x8x64x512_0_1_2_3 (broadcastInDim S1x8x64x1 ![1, 2] bcast_S8x64_S1x8x64x1_1_2 (V0 (Proc.devRef .tc main_v132_5))))) : (Proc.devRef .tc main_while0b_v175 : DevRef τ sig).ty.Contents (Elt F)) = Cert.ReferenceIdeal.Step.b33 j s := by
  unfold Cert.ReferenceIdeal.Step.b33
  rw [← al_23 h, ← al_32 h]
  try rfl
set_option maxRecDepth 8192 in
theorem al_34 (h : Holds V0 s j) : (broadcastInDim S1x4x8x64x512 ![1, 2, 3, 4] bcast_S4x8x64x512_S1x4x8x64x512_1_2_3_4 (addf (shapeCast S4x8x64x512 (Host.dynamicSlice S1x4x8x64x512 (V0 (Proc.devRef .tc main_v132_3)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x512_S1x4x8x64x512) shapeCasts_S1x4x8x64x512_S4x8x64x512) (mulf (Host.dotGeneral dot_S4x8x64x256_S4x8x256x512_S4x8x64x512_3_2_2_3_01_01 none (shapeCast S4x8x64x256 (Host.dynamicSlice S1x4x8x64x256 (V0 (Proc.devRef .tc main_v132_0)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x256_S1x4x8x64x256) shapeCasts_S1x4x8x64x256_S4x8x64x256) (V0 (Proc.devRef .tc main_v132_7))) (broadcastInDim S4x8x64x512 ![0, 1, 2, 3] bcast_S1x8x64x1_S4x8x64x512_0_1_2_3 (broadcastInDim S1x8x64x1 ![1, 2] bcast_S8x64_S1x8x64x1_1_2 (V0 (Proc.devRef .tc main_v132_5)))))) : (Proc.devRef .tc main_while0b_call5_v0 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (constantI S_ 32 0#32 : (Proc.devRef .tc main_while0b_call5_c : DevRef τ sig).ty.Contents (Elt F)) = Cert.ReferenceIdeal.Step.b35 j s := by
  unfold Cert.ReferenceIdeal.Step.b35
  rfl
set_option maxRecDepth 8192 in
theorem al_36 (h : Holds V0 s j) : (constantI S_ 32 0#32 : (Proc.devRef .tc main_while0b_call5_c_0 : DevRef τ sig).ty.Contents (Elt F)) = Cert.ReferenceIdeal.Step.b36 j s := by
  unfold Cert.ReferenceIdeal.Step.b36
  rfl
set_option maxRecDepth 8192 in
theorem al_37 (h : Holds V0 s j) : (constantI S_ 32 0#32 : (Proc.devRef .tc main_while0b_call5_c_1 : DevRef τ sig).ty.Contents (Elt F)) = Cert.ReferenceIdeal.Step.b37 j s := by
  unfold Cert.ReferenceIdeal.Step.b37
  rfl
set_option maxRecDepth 8192 in
theorem al_38 (h : Holds V0 s j) : (constantI S_ 32 0#32 : (Proc.devRef .tc main_while0b_call5_c_2 : DevRef τ sig).ty.Contents (Elt F)) = Cert.ReferenceIdeal.Step.b38 j s := by
  unfold Cert.ReferenceIdeal.Step.b38
  rfl
set_option maxRecDepth 8192 in
theorem al_39 (h : Holds V0 s j) : (Host.dynamicUpdateSlice (V0 (Proc.devRef .tc main_v132_8)) (broadcastInDim S1x4x8x64x512 ![1, 2, 3, 4] bcast_S4x8x64x512_S1x4x8x64x512_1_2_3_4 (addf (shapeCast S4x8x64x512 (Host.dynamicSlice S1x4x8x64x512 (V0 (Proc.devRef .tc main_v132_3)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x512_S1x4x8x64x512) shapeCasts_S1x4x8x64x512_S4x8x64x512) (mulf (Host.dotGeneral dot_S4x8x64x256_S4x8x256x512_S4x8x64x512_3_2_2_3_01_01 none (shapeCast S4x8x64x256 (Host.dynamicSlice S1x4x8x64x256 (V0 (Proc.devRef .tc main_v132_0)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x256_S1x4x8x64x256) shapeCasts_S1x4x8x64x256_S4x8x64x256) (V0 (Proc.devRef .tc main_v132_7))) (broadcastInDim S4x8x64x512 ![0, 1, 2, 3] bcast_S1x8x64x1_S4x8x64x512_0_1_2_3 (broadcastInDim S1x8x64x1 ![1, 2] bcast_S8x64_S1x8x64x1_1_2 (V0 (Proc.devRef .tc main_v132_5))))))) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) updateFits_S64x4x8x64x512_S1x4x8x64x512 : (Proc.devRef .tc main_while0b_v176 : DevRef τ sig).ty.Contents (Elt F)) = Cert.ReferenceIdeal.Step.b39 j s := by
  unfold Cert.ReferenceIdeal.Step.b39
  rw [← al_34 h, ← al_35 h, ← al_36 h, ← al_37 h, ← al_38 h, h.f_8, h.n_6]
  try rfl

/-! One trip's step of the carried values is `step`, field by field; a counter steps to the next number. -/

theorem step_7 (h : Holds V0 s j) : step_main_v132_7 V0 = (step j s).main_v132_7 := by
  unfold step_main_v132_7 Cert.ReferenceIdeal.Step.step
  show id (addf (mulf (V0 (Proc.devRef .tc main_v132_7)) (broadcastInDim S4x8x256x512 ![0, 1, 2, 3] bcast_S1x8x1x1_S4x8x256x512_0_1_2_3 (broadcastInDim S1x8x1x1 ![1] bcast_S8_S1x8x1x1_1 (V0 (Proc.devRef .tc main_v132_4))))) (Host.dotGeneral dot_S4x8x64x256_S4x8x64x512_S4x8x256x512_2_2_3_3_01_01 none (shapeCast S4x8x64x256 (Host.dynamicSlice S1x4x8x64x256 (V0 (Proc.devRef .tc main_v132_1)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x256_S1x4x8x64x256) shapeCasts_S1x4x8x64x256_S4x8x64x256) (shapeCast S4x8x64x512 (Host.dynamicSlice S1x4x8x64x512 (V0 (Proc.devRef .tc main_v132_2)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x512_S1x4x8x64x512) shapeCasts_S1x4x8x64x512_S4x8x64x512))) = _
  rw [al_29 h]
  try rfl
theorem step_8 (h : Holds V0 s j) : step_main_v132_8 V0 = (step j s).main_v132_8 := by
  unfold step_main_v132_8 Cert.ReferenceIdeal.Step.step
  show id (Host.dynamicUpdateSlice (V0 (Proc.devRef .tc main_v132_8)) (broadcastInDim S1x4x8x64x512 ![1, 2, 3, 4] bcast_S4x8x64x512_S1x4x8x64x512_1_2_3_4 (addf (shapeCast S4x8x64x512 (Host.dynamicSlice S1x4x8x64x512 (V0 (Proc.devRef .tc main_v132_3)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x512_S1x4x8x64x512) shapeCasts_S1x4x8x64x512_S4x8x64x512) (mulf (Host.dotGeneral dot_S4x8x64x256_S4x8x256x512_S4x8x64x512_3_2_2_3_01_01 none (shapeCast S4x8x64x256 (Host.dynamicSlice S1x4x8x64x256 (V0 (Proc.devRef .tc main_v132_0)) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) sliceFits_S64x4x8x64x256_S1x4x8x64x256) shapeCasts_S1x4x8x64x256_S4x8x64x256) (V0 (Proc.devRef .tc main_v132_7))) (broadcastInDim S4x8x64x512 ![0, 1, 2, 3] bcast_S1x8x64x1_S4x8x64x512_0_1_2_3 (broadcastInDim S1x8x64x1 ![1, 2] bcast_S8x64_S1x8x64x1_1_2 (V0 (Proc.devRef .tc main_v132_5))))))) (fun k => (((![V0 (Proc.devRef .tc main_v132_6), constantI S_ 32 0#32, constantI S_ 32 0#32, constantI S_ 32 0#32, constantI S_ 32 0#32] : Fin 5 → (⟨S_, .i32⟩ : BufTy).Contents (Elt F))) k (Shape.Idx.first h_S_)).toInt) updateFits_S64x4x8x64x512_S1x4x8x64x512) = _
  exact al_39 h
theorem step_6 (h : Holds V0 s j) : step_main_v132_6 V0 = constantI S_ 32 (BitVec.ofNat 32 (j + 1)) := by
  unfold step_main_v132_6
  rw [h.n_6]
  funext i
  show BitVec.ofNat 32 j + 1#32 = BitVec.ofNat 32 (j + 1)
  simp only [BitVec.ofNat_add]

set_option maxRecDepth 8192 in
theorem out_main_v161_holds (h : Holds V0 s j) {x_main_arg2 : (⟨S16384x4096, .f32⟩ : BufTy).Contents (Elt F)} (h_main_arg2 : V0 (Proc.devRef .tc main_arg2) = x_main_arg2) {x_main_arg3 : (⟨S4096, .f32⟩ : BufTy).Contents (Elt F)} (h_main_arg3 : V0 (Proc.devRef .tc main_arg3) = x_main_arg3) : out_main_v161 V0 = Cert.ReferenceIdeal.Step.R_main_v161 s x_main_arg2 x_main_arg3 := by
  unfold out_main_v161 Cert.ReferenceIdeal.Step.R_main_v161
  rw [h.f_8, h_main_arg2, h_main_arg3]
  try rfl

/-- One trip keeps the valuation holding: `step` of the state, the same set-up values, the next number. -/
theorem holds_step (h : Holds V0 s j) : Holds (STEP V0) (step j s) (j + 1) where
  f_7 := (STEP_main_v132_7 V0).trans (step_7 h)
  f_8 := (STEP_main_v132_8 V0).trans (step_8 h)
  n_6 := (STEP_main_v132_6 V0).trans (step_6 h)
  k_4 := (STEP_main_v132_4 V0).trans h.k_4
  k_5 := (STEP_main_v132_5 V0).trans h.k_5
  f_0 := (STEP_main_v132_0 V0).trans h.f_0
  f_1 := (STEP_main_v132_1 V0).trans h.f_1
  f_2 := (STEP_main_v132_2 V0).trans h.f_2
  f_3 := (STEP_main_v132_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 800000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The results as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v161) = Cert.ReferenceIdeal.Step.R_main_v161 (it c 64) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 64
    ⟨(h c).1.trans (out_main_v161_holds hk (iter_main_arg2 m c 64) (iter_main_arg3 m c 64)), (h c).2.1, (h c).2.2.1, (h c).2.2.2.1, (h c).2.2.2.2⟩) (Value.run m ρ)

end Cert.ReferenceIdeal.Loop

end
-- ==== Proof.Ret.Blocks.lean ====
/- The blocks the retention kernel's windows read at a grid point, entry by entry of their arrays. Point `t` is batch `t / 64`, head `t / 8 % 8`, chunk `t % 8`. -/
module

public import proofs.«01_k».proof.Proof.Gen.KernelIdeal.Frame
public import Idealize.ShloMosaic.Lib.Pipeline.Value
public import Idealize.ShloMosaic.Lib.Pointwise.Index
public import Idealize.ShloMosaic.PureOps.Ideal

@[expose] public section

set_option maxRecDepth 16384

noncomputable section

namespace Cert.Ret

open Idealize.ShloMosaic Idealize.ShloMosaic.TcCoe Idealize.SL.Sem Cert.KernelIdeal Cert.KernelIdeal.Gen

variable (m : (ℓ : Loc nD τ sig) → Buf (Elt Ideal) ℓ) (c : Dev nD)

/-- The block of window 0 at a point. -/
theorem index0 : ∀ t : Fin grid0.N, win0_0.index t 0 = t.val / 64 * 8 + t.val % 8 ∧ win0_0.index t 1 = t.val / 8 % 8 := by decide +kernel

/-- Window 0's block at a point, at an entry. -/
theorem iblk0_apply (t : Fin cfg0.N) (i : Fin 512) (i' : Fin 16384) (j : Fin 256) (j' : Fin 4096) (hi : i'.val = (t.val / 64 * 8 + t.val % 8) * 512 + i.val) (hj : j'.val = (t.val / 8 % 8) * 256 + j.val) :
    (iblk (F := Ideal) m c 0 t : Vec Ideal S512x256 .f32) (ix2 i j) = (V (F := Ideal) m c main_arg0 : Vec Ideal S16384x4096 .f32) (ix2 i' j') := by
  have e := index0 t
  show V (F := Ideal) m c main_arg0 _ = V (F := Ideal) m c main_arg0 _
  refine congrArg _ (funext fun a => ?_)
  match a with
  | ⟨0, _⟩ =>
    refine Fin.ext ?_
    show win0_0.index t 0 * win0_0.size 0 + 1 * i.val = i'.val
    rw [e.1, Nat.one_mul, hi]
    rfl
  | ⟨1, _⟩ =>
    refine Fin.ext ?_
    show win0_0.index t 1 * win0_0.size 1 + 1 * j.val = j'.val
    rw [e.2, Nat.one_mul, hj]
    rfl

/-- The block of window 1 at a point. -/
theorem index1 : ∀ t : Fin grid0.N, win0_1.index t 0 = t.val / 64 * 8 + t.val % 8 ∧ win0_1.index t 1 = 8 + t.val / 8 % 8 := by decide +kernel

/-- Window 1's block at a point, at an entry. -/
theorem iblk1_apply (t : Fin cfg0.N) (i : Fin 512) (i' : Fin 16384) (j : Fin 256) (j' : Fin 4096) (hi : i'.val = (t.val / 64 * 8 + t.val % 8) * 512 + i.val) (hj : j'.val = (8 + t.val / 8 % 8) * 256 + j.val) :
    (iblk (F := Ideal) m c 1 t : Vec Ideal S512x256 .f32) (ix2 i j) = (V (F := Ideal) m c main_arg0 : Vec Ideal S16384x4096 .f32) (ix2 i' j') := by
  have e := index1 t
  show V (F := Ideal) m c main_arg0 _ = V (F := Ideal) m c main_arg0 _
  refine congrArg _ (funext fun a => ?_)
  match a with
  | ⟨0, _⟩ =>
    refine Fin.ext ?_
    show win0_1.index t 0 * win0_1.size 0 + 1 * i.val = i'.val
    rw [e.1, Nat.one_mul, hi]
    rfl
  | ⟨1, _⟩ =>
    refine Fin.ext ?_
    show win0_1.index t 1 * win0_1.size 1 + 1 * j.val = j'.val
    rw [e.2, Nat.one_mul, hj]
    rfl

/-- The block of window 2 at a point. -/
theorem index2 : ∀ t : Fin grid0.N, win0_2.index t 0 = t.val / 64 * 8 + t.val % 8 ∧ win0_2.index t 1 = t.val / 8 % 8 := by decide +kernel

/-- Window 2's block at a point, at an entry. -/
theorem iblk2_apply (t : Fin cfg0.N) (i : Fin 512) (i' : Fin 16384) (j : Fin 512) (j' : Fin 4096) (hi : i'.val = (t.val / 64 * 8 + t.val % 8) * 512 + i.val) (hj : j'.val = (t.val / 8 % 8) * 512 + j.val) :
    (iblk (F := Ideal) m c 2 t : Vec Ideal S512x512 .bf16) (ix2 i j) = (V (F := Ideal) m c main_arg1 : Vec Ideal S16384x4096 .bf16) (ix2 i' j') := by
  have e := index2 t
  show V (F := Ideal) m c main_arg1 _ = V (F := Ideal) m c main_arg1 _
  refine congrArg _ (funext fun a => ?_)
  match a with
  | ⟨0, _⟩ =>
    refine Fin.ext ?_
    show win0_2.index t 0 * win0_2.size 0 + 1 * i.val = i'.val
    rw [e.1, Nat.one_mul, hi]
    rfl
  | ⟨1, _⟩ =>
    refine Fin.ext ?_
    show win0_2.index t 1 * win0_2.size 1 + 1 * j.val = j'.val
    rw [e.2, Nat.one_mul, hj]
    rfl

/-- The block of window 3 at a point. -/
theorem index3 : ∀ t : Fin grid0.N, win0_3.index t 0 = t.val / 64 * 8 + t.val % 8 ∧ win0_3.index t 1 = t.val / 8 % 8 := by decide +kernel

/-- Window 3's block at a point, at an entry. -/
theorem iblk3_apply (t : Fin cfg0.N) (i : Fin 512) (i' : Fin 16384) (j : Fin 512) (j' : Fin 4096) (hi : i'.val = (t.val / 64 * 8 + t.val % 8) * 512 + i.val) (hj : j'.val = (t.val / 8 % 8) * 512 + j.val) :
    (iblk (F := Ideal) m c 3 t : Vec Ideal S512x512 .f32) (ix2 i j) = (V (F := Ideal) m c main_arg2 : Vec Ideal S16384x4096 .f32) (ix2 i' j') := by
  have e := index3 t
  show V (F := Ideal) m c main_arg2 _ = V (F := Ideal) m c main_arg2 _
  refine congrArg _ (funext fun a => ?_)
  match a with
  | ⟨0, _⟩ =>
    refine Fin.ext ?_
    show win0_3.index t 0 * win0_3.size 0 + 1 * i.val = i'.val
    rw [e.1, Nat.one_mul, hi]
    rfl
  | ⟨1, _⟩ =>
    refine Fin.ext ?_
    show win0_3.index t 1 * win0_3.size 1 + 1 * j.val = j'.val
    rw [e.2, Nat.one_mul, hj]
    rfl

/-- The block of window 4 at a point. -/
theorem index4 : ∀ t : Fin grid0.N, win0_4.index t 0 = t.val % 8 ∧ win0_4.index t 1 = 0 := by decide +kernel

/-- Window 4's block at a point, at an entry. -/
theorem iblk4_apply (t : Fin cfg0.N) (i : Fin 512) (i' : Fin 4096) (j : Fin 128) (j' : Fin 128) (hi : i'.val = (t.val % 8) * 512 + i.val) (hj : j'.val = (0) * 128 + j.val) :
    (iblk (F := Ideal) m c 4 t : Vec Ideal S512x128 .f32) (ix2 i j) = (V (F := Ideal) m c main_v63 : Vec Ideal S4096x128 .f32) (ix2 i' j') := by
  have e := index4 t
  show V (F := Ideal) m c main_v63 _ = V (F := Ideal) m c main_v63 _
  refine congrArg _ (funext fun a => ?_)
  match a with
  | ⟨0, _⟩ =>
    refine Fin.ext ?_
    show win0_4.index t 0 * win0_4.size 0 + 1 * i.val = i'.val
    rw [e.1, Nat.one_mul, hi]
    rfl
  | ⟨1, _⟩ =>
    refine Fin.ext ?_
    show win0_4.index t 1 * win0_4.size 1 + 1 * j.val = j'.val
    rw [e.2, Nat.one_mul, hj]
    rfl

/-- The block of window 5 at a point. -/
theorem index5 : ∀ t : Fin grid0.N, win0_5.index t 0 = t.val % 8 ∧ win0_5.index t 1 = 0 := by decide +kernel

/-- Window 5's block at a point, at an entry. -/
theorem iblk5_apply (t : Fin cfg0.N) (i : Fin 512) (i' : Fin 4096) (j : Fin 128) (j' : Fin 128) (hi : i'.val = (t.val % 8) * 512 + i.val) (hj : j'.val = (0) * 128 + j.val) :
    (iblk (F := Ideal) m c 5 t : Vec Ideal S512x128 .f32) (ix2 i j) = (V (F := Ideal) m c main_v64 : Vec Ideal S4096x128 .f32) (ix2 i' j') := by
  have e := index5 t
  show V (F := Ideal) m c main_v64 _ = V (F := Ideal) m c main_v64 _
  refine congrArg _ (funext fun a => ?_)
  match a with
  | ⟨0, _⟩ =>
    refine Fin.ext ?_
    show win0_5.index t 0 * win0_5.size 0 + 1 * i.val = i'.val
    rw [e.1, Nat.one_mul, hi]
    rfl
  | ⟨1, _⟩ =>
    refine Fin.ext ?_
    show win0_5.index t 1 * win0_5.size 1 + 1 * j.val = j'.val
    rw [e.2, Nat.one_mul, hj]
    rfl

/-- The block of window 6 at a point. -/
theorem index6 : ∀ t : Fin grid0.N, win0_6.index t 0 = t.val / 8 % 8 ∧ win0_6.index t 1 = 0 ∧ win0_6.index t 2 = 0 := by decide +kernel

/-- Window 6's block at a point, at an entry. -/
theorem iblk6_apply (t : Fin cfg0.N) (i : Fin 1) (i' : Fin 8) (j : Fin 512) (j' : Fin 512) (k : Fin 512) (k' : Fin 512) (hi : i'.val = (t.val / 8 % 8) * 1 + i.val) (hj : j'.val = (0) * 512 + j.val) (hk : k'.val = (0) * 512 + k.val) :
    (iblk (F := Ideal) m c 6 t : Vec Ideal S1x512x512 .f32) (ix3 i j k) = (V (F := Ideal) m c main_v24 : Vec Ideal S8x512x512 .f32) (ix3 i' j' k') := by
  have e := index6 t
  show V (F := Ideal) m c main_v24 _ = V (F := Ideal) m c main_v24 _
  refine congrArg _ (funext fun a => ?_)
  match a with
  | ⟨0, _⟩ =>
    refine Fin.ext ?_
    show win0_6.index t 0 * win0_6.size 0 + 1 * i.val = i'.val
    rw [e.1, Nat.one_mul, hi]
    rfl
  | ⟨1, _⟩ =>
    refine Fin.ext ?_
    show win0_6.index t 1 * win0_6.size 1 + 1 * j.val = j'.val
    rw [e.2.1, Nat.one_mul, hj]
    rfl
  | ⟨2, _⟩ =>
    refine Fin.ext ?_
    show win0_6.index t 2 * win0_6.size 2 + 1 * k.val = k'.val
    rw [e.2.2, Nat.one_mul, hk]
    rfl

/-- The block of window 7 at a point. -/
theorem index7 : ∀ t : Fin grid0.N, win0_7.index t 0 = t.val / 8 % 8 ∧ win0_7.index t 1 = 0 ∧ win0_7.index t 2 = 0 := by decide +kernel

/-- Window 7's block at a point, at an entry. -/
theorem iblk7_apply (t : Fin cfg0.N) (i : Fin 1) (i' : Fin 8) (j : Fin 512) (j' : Fin 512) (k : Fin 128) (k' : Fin 128) (hi : i'.val = (t.val / 8 % 8) * 1 + i.val) (hj : j'.val = (0) * 512 + j.val) (hk : k'.val = (0) * 128 + k.val) :
    (iblk (F := Ideal) m c 7 t : Vec Ideal S1x512x128 .f32) (ix3 i j k) = (V (F := Ideal) m c main_v45 : Vec Ideal S8x512x128 .f32) (ix3 i' j' k') := by
  have e := index7 t
  show V (F := Ideal) m c main_v45 _ = V (F := Ideal) m c main_v45 _
  refine congrArg _ (funext fun a => ?_)
  match a with
  | ⟨0, _⟩ =>
    refine Fin.ext ?_
    show win0_7.index t 0 * win0_7.size 0 + 1 * i.val = i'.val
    rw [e.1, Nat.one_mul, hi]
    rfl
  | ⟨1, _⟩ =>
    refine Fin.ext ?_
    show win0_7.index t 1 * win0_7.size 1 + 1 * j.val = j'.val
    rw [e.2.1, Nat.one_mul, hj]
    rfl
  | ⟨2, _⟩ =>
    refine Fin.ext ?_
    show win0_7.index t 2 * win0_7.size 2 + 1 * k.val = k'.val
    rw [e.2.2, Nat.one_mul, hk]
    rfl

/-- The block of window 8 at a point. -/
theorem index8 : ∀ t : Fin grid0.N, win0_8.index t 0 = t.val / 8 % 8 ∧ win0_8.index t 1 = 0 ∧ win0_8.index t 2 = 0 := by decide +kernel

/-- Window 8's block at a point, at an entry. -/
theorem iblk8_apply (t : Fin cfg0.N) (i : Fin 1) (i' : Fin 8) (j : Fin 512) (j' : Fin 512) (k : Fin 128) (k' : Fin 128) (hi : i'.val = (t.val / 8 % 8) * 1 + i.val) (hj : j'.val = (0) * 512 + j.val) (hk : k'.val = (0) * 128 + k.val) :
    (iblk (F := Ideal) m c 8 t : Vec Ideal S1x512x128 .f32) (ix3 i j k) = (V (F := Ideal) m c main_v47 : Vec Ideal S8x512x128 .f32) (ix3 i' j' k') := by
  have e := index8 t
  show V (F := Ideal) m c main_v47 _ = V (F := Ideal) m c main_v47 _
  refine congrArg _ (funext fun a => ?_)
  match a with
  | ⟨0, _⟩ =>
    refine Fin.ext ?_
    show win0_8.index t 0 * win0_8.size 0 + 1 * i.val = i'.val
    rw [e.1, Nat.one_mul, hi]
    rfl
  | ⟨1, _⟩ =>
    refine Fin.ext ?_
    show win0_8.index t 1 * win0_8.size 1 + 1 * j.val = j'.val
    rw [e.2.1, Nat.one_mul, hj]
    rfl
  | ⟨2, _⟩ =>
    refine Fin.ext ?_
    show win0_8.index t 2 * win0_8.size 2 + 1 * k.val = k'.val
    rw [e.2.2, Nat.one_mul, hk]
    rfl

/-- The block of window 9 at a point. -/
theorem index9 : ∀ t : Fin grid0.N, win0_9.index t 0 = t.val / 8 % 8 ∧ win0_9.index t 1 = 0 ∧ win0_9.index t 2 = 0 := by decide +kernel

/-- Window 9's block at a point, at an entry. -/
theorem iblk9_apply (t : Fin cfg0.N) (i : Fin 1) (i' : Fin 8) (j : Fin 1) (j' : Fin 1) (k : Fin 512) (k' : Fin 512) (hi : i'.val = (t.val / 8 % 8) * 1 + i.val) (hj : j'.val = (0) * 1 + j.val) (hk : k'.val = (0) * 512 + k.val) :
    (iblk (F := Ideal) m c 9 t : Vec Ideal S1x1x512 .f32) (ix3 i j k) = (V (F := Ideal) m c main_v49 : Vec Ideal S8x1x512 .f32) (ix3 i' j' k') := by
  have e := index9 t
  show V (F := Ideal) m c main_v49 _ = V (F := Ideal) m c main_v49 _
  refine congrArg _ (funext fun a => ?_)
  match a with
  | ⟨0, _⟩ =>
    refine Fin.ext ?_
    show win0_9.index t 0 * win0_9.size 0 + 1 * i.val = i'.val
    rw [e.1, Nat.one_mul, hi]
    rfl
  | ⟨1, _⟩ =>
    refine Fin.ext ?_
    show win0_9.index t 1 * win0_9.size 1 + 1 * j.val = j'.val
    rw [e.2.1, Nat.one_mul, hj]
    rfl
  | ⟨2, _⟩ =>
    refine Fin.ext ?_
    show win0_9.index t 2 * win0_9.size 2 + 1 * k.val = k'.val
    rw [e.2.2, Nat.one_mul, hk]
    rfl

/-- The block of window 10 at a point. -/
theorem index10 : ∀ t : Fin grid0.N, win0_10.index t 0 = 0 ∧ win0_10.index t 1 = t.val / 8 % 8 := by decide +kernel

/-- Window 10's block at a point, at an entry. -/
theorem iblk10_apply (t : Fin cfg0.N) (i : Fin 1) (i' : Fin 1) (j : Fin 512) (j' : Fin 4096) (hi : i'.val = (0) * 1 + i.val) (hj : j'.val = (t.val / 8 % 8) * 512 + j.val) :
    (iblk (F := Ideal) m c 10 t : Vec Ideal S1x512 .f32) (ix2 i j) = (V (F := Ideal) m c main_v65 : Vec Ideal S1x4096 .f32) (ix2 i' j') := by
  have e := index10 t
  show V (F := Ideal) m c main_v65 _ = V (F := Ideal) m c main_v65 _
  refine congrArg _ (funext fun a => ?_)
  match a with
  | ⟨0, _⟩ =>
    refine Fin.ext ?_
    show win0_10.index t 0 * win0_10.size 0 + 1 * i.val = i'.val
    rw [e.1, Nat.one_mul, hi]
    rfl
  | ⟨1, _⟩ =>
    refine Fin.ext ?_
    show win0_10.index t 1 * win0_10.size 1 + 1 * j.val = j'.val
    rw [e.2, Nat.one_mul, hj]
    rfl

end Cert.Ret

end
-- ==== Proof.Ret.Outs.lean ====
/- What the retention kernel's body leaves at a grid point: the printed payloads of the point's blocks, with the state it reads. -/
module

public import proofs.«01_k».proof.Proof.Gen.KernelIdeal.Frame
public import Idealize.ShloMosaic.Lib.Pipeline.Value
public import Idealize.ShloMosaic.Lib.Tactic
public import Idealize.ShloMosaic.PureOps.Ideal

@[expose] public section

set_option maxRecDepth 16384

noncomputable section

namespace Cert.Ret

open Idealize.ShloMosaic Idealize.ShloMosaic.TcCoe Idealize.SL.Sem Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The output block a point that starts a sequence leaves. -/
theorem out0_A_11_eq (c : Dev nD) (i : grid0.Coords) (arg3 : Memref sig .tc .vmem S512x256 .f32) (harg3 : arg3.IsWhole) (arg4 : Memref sig .tc .vmem S512x256 .f32) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x512x512 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S256x512 .f32) (harg15 : arg15.IsWhole) (hc0 : cond0_0 i)
    (x0 : Vec Ideal S512x256 .f32) (x1 : Vec Ideal S512x256 .f32) (x2 : Vec Ideal S512x512 .bf16) (x3 : Vec Ideal S512x512 .f32) (x4 : Vec Ideal S512x128 .f32) (x5 : Vec Ideal S512x128 .f32) (x6 : Vec Ideal S1x512x512 .f32) (x7 : Vec Ideal S1x512x128 .f32) (x8 : Vec Ideal S1x512x128 .f32) (x9 : Vec Ideal S1x1x512 .f32) (x10 : Vec Ideal S1x512 .f32) :
    out0_A_11 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay1 (k0_pay9 (k0_pay6 x4 x5 x0) (k0_pay7 x4 x5 x0 x1 x2 x6) (k0_pay2 (F := Ideal)) x7) x10 x3 := by
  unfold out0_A_11
  rw [View.read_writes_eq_canon _ _ _ (cover0_A_11 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg15.read_unread, View.readCov_unit_zero (S := S256x512) _ hz2, View.ld_unit_zero (S := S512x128) hz2, View.ld_unit_zero (S := S512x256) hz2,
    View.ld_unit_zero (S := S512x512) hz2, View.ld_unit_zero (S := S256x512) hz2, View.ld_unit_zero (S := S1x512) hz2, View.ld_unit_zero (S := S1x512x512) hz3,
    View.ld_unit_zero (S := S1x512x128) hz3, View.ld_unit_zero (S := S1x1x512) hz3]

/-- The state a point that starts a sequence leaves. -/
theorem sout0_A_0_eq (c : Dev nD) (i : grid0.Coords) (arg3 : Memref sig .tc .vmem S512x256 .f32) (harg3 : arg3.IsWhole) (arg4 : Memref sig .tc .vmem S512x256 .f32) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x512x512 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S256x512 .f32) (harg15 : arg15.IsWhole) (hc0 : cond0_0 i)
    (x0 : Vec Ideal S512x256 .f32) (x1 : Vec Ideal S512x256 .f32) (x2 : Vec Ideal S512x512 .bf16) (x3 : Vec Ideal S512x512 .f32) (x4 : Vec Ideal S512x128 .f32) (x5 : Vec Ideal S512x128 .f32) (x6 : Vec Ideal S1x512x512 .f32) (x7 : Vec Ideal S1x512x128 .f32) (x8 : Vec Ideal S1x512x128 .f32) (x9 : Vec Ideal S1x1x512 .f32) (x10 : Vec Ideal S1x512 .f32) :
    sout0_A_0 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay8 (k0_pay5 x4 x5 x1) x2 (k0_pay2 (F := Ideal)) x8 x9 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_cons_unit_zero (S := S256x512) hz2]
  simp only [View.readAt_eq_ld, harg3.read_unread, harg4.read_unread, harg5.read_unread, harg6.read_unread, harg7.read_unread, harg8.read_unread, harg9.read_unread, harg10.read_unread, harg11.read_unread, harg12.read_unread, harg13.read_unread, harg15.read_unread, View.readCov_unit_zero (S := S256x512) _ hz2, View.ld_unit_zero (S := S512x128) hz2, View.ld_unit_zero (S := S512x256) hz2,
    View.ld_unit_zero (S := S512x512) hz2, View.ld_unit_zero (S := S256x512) hz2, View.ld_unit_zero (S := S1x512) hz2, View.ld_unit_zero (S := S1x512x512) hz3,
    View.ld_unit_zero (S := S1x512x128) hz3, View.ld_unit_zero (S := S1x1x512) hz3]

/-- The output block a point inside a sequence leaves. -/
theorem out0_B_11_eq (c : Dev nD) (i : grid0.Coords) (arg3 : Memref sig .tc .vmem S512x256 .f32) (harg3 : arg3.IsWhole) (arg4 : Memref sig .tc .vmem S512x256 .f32) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x512x512 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S256x512 .f32) (harg15 : arg15.IsWhole) (hc0 : ¬cond0_0 i)
    (x0 : Vec Ideal S512x256 .f32) (x1 : Vec Ideal S512x256 .f32) (x2 : Vec Ideal S512x512 .bf16) (x3 : Vec Ideal S512x512 .f32) (x4 : Vec Ideal S512x128 .f32) (x5 : Vec Ideal S512x128 .f32) (x6 : Vec Ideal S1x512x512 .f32) (x7 : Vec Ideal S1x512x128 .f32) (x8 : Vec Ideal S1x512x128 .f32) (x9 : Vec Ideal S1x1x512 .f32) (x10 : Vec Ideal S1x512 .f32) (xs0 : Vec Ideal S256x512 .f32) :
    out0_B_11 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 = k0_pay1 (k0_pay9 (k0_pay6 x4 x5 x0) (k0_pay7 x4 x5 x0 x1 x2 x6) xs0 x7) x10 x3 := by
  unfold out0_B_11
  rw [View.read_writes_eq_canon _ _ _ (cover0_B_11 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg15.read_unread, View.readCov_unit_zero (S := S256x512) _ hz2, View.ld_unit_zero (S := S512x128) hz2, View.ld_unit_zero (S := S512x256) hz2,
    View.ld_unit_zero (S := S512x512) hz2, View.ld_unit_zero (S := S256x512) hz2, View.ld_unit_zero (S := S1x512) hz2, View.ld_unit_zero (S := S1x512x512) hz3,
    View.ld_unit_zero (S := S1x512x128) hz3, View.ld_unit_zero (S := S1x1x512) hz3]

/-- The state a point inside a sequence leaves. -/
theorem sout0_B_0_eq (c : Dev nD) (i : grid0.Coords) (arg3 : Memref sig .tc .vmem S512x256 .f32) (harg3 : arg3.IsWhole) (arg4 : Memref sig .tc .vmem S512x256 .f32) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x512x512 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S256x512 .f32) (harg15 : arg15.IsWhole) (hc0 : ¬cond0_0 i)
    (x0 : Vec Ideal S512x256 .f32) (x1 : Vec Ideal S512x256 .f32) (x2 : Vec Ideal S512x512 .bf16) (x3 : Vec Ideal S512x512 .f32) (x4 : Vec Ideal S512x128 .f32) (x5 : Vec Ideal S512x128 .f32) (x6 : Vec Ideal S1x512x512 .f32) (x7 : Vec Ideal S1x512x128 .f32) (x8 : Vec Ideal S1x512x128 .f32) (x9 : Vec Ideal S1x1x512 .f32) (x10 : Vec Ideal S1x512 .f32) (xs0 : Vec Ideal S256x512 .f32) :
    sout0_B_0 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 = k0_pay8 (k0_pay5 x4 x5 x1) x2 xs0 x8 x9 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg15.read_unread, View.readCov_unit_zero (S := S256x512) _ hz2, View.ld_unit_zero (S := S512x128) hz2, View.ld_unit_zero (S := S512x256) hz2,
    View.ld_unit_zero (S := S512x512) hz2, View.ld_unit_zero (S := S256x512) hz2, View.ld_unit_zero (S := S1x512) hz2, View.ld_unit_zero (S := S1x512x512) hz3,
    View.ld_unit_zero (S := S1x512x128) hz3, View.ld_unit_zero (S := S1x1x512) hz3]

end Cert.Ret

end
-- ==== Proof.Ret.Math.lean ====
/- Chunkwise retention over the reals: whatever the chunk length, the chunked recurrence computes the same sums over all
   earlier positions. Its extended-real form, on finite inputs, is the coercion of the real one. -/
module

public import Mathlib.Data.EReal.Operations
public import Mathlib.Analysis.SpecialFunctions.Exp
public import Mathlib.Algebra.BigOperators.Intervals
public import Mathlib.Algebra.BigOperators.Fin
public import Mathlib.Algebra.BigOperators.Ring.Finset
public import Idealize.ShloMosaic.PureOps.Ideal
public import Mathlib.Tactic.Ring
public import Mathlib.Tactic.Linarith

@[expose] public section

noncomputable section

namespace Cert.Ret

open Finset

/-- A sum of finite extended reals is the coercion of the sum. -/
theorem coe_sum_ereal {ι : Type*} (s : Finset ι) (f : ι → ℝ) : (∑ i ∈ s, (f i : EReal)) = ((∑ i ∈ s, f i : ℝ) : EReal) := by
  classical
  induction s using Finset.induction_on with
  | empty => simp
  | insert a s ha ih => rw [sum_insert ha, sum_insert ha, ih, EReal.coe_add]

variable (L : ℝ) (q k : ℕ → Fin 256 → ℝ) (v : ℕ → Fin 512 → ℝ)

/-- The retention state before position `T`: each earlier key and value, decayed to that position. -/
def St (T : ℕ) (d : Fin 256) (e : Fin 512) : ℝ := ∑ j ∈ range T, k j d * Real.exp (L * ((T : ℝ) - 1 - j)) * v j e

/-- The retention output at position `t`: the decayed sum over the positions up to `t`. -/
def Out (t : ℕ) (e : Fin 512) : ℝ := ∑ j ∈ range (t + 1), (∑ d, q t d * k j d) * Real.exp (L * ((t : ℝ) - j)) * v j e

/-- The state moves over a chunk of `C` positions by one decay and the chunk's own terms. -/
theorem St_add (T C : ℕ) (d : Fin 256) (e : Fin 512) :
    St L k v T d e * Real.exp (L * C) + ∑ j : Fin C, k (T + j) d * Real.exp (L * ((C : ℝ) - 1 - (j : ℕ))) * v (T + j) e = St L k v (T + C) d e := by
  unfold St
  rw [sum_range_add, sum_mul, Finset.sum_range (n := C)]
  congr 1
  · refine sum_congr rfl fun j _ => ?_
    rw [show L * (((T + C : ℕ) : ℝ) - 1 - j) = L * ((T : ℝ) - 1 - j) + L * C by push_cast; ring, Real.exp_add]
    ring
  · refine sum_congr rfl fun j _ => ?_
    rw [show L * (((T + C : ℕ) : ℝ) - 1 - (T + j : ℕ)) = L * ((C : ℝ) - 1 - (j : ℕ)) by push_cast; ring]

/-- The output at position `i` of a chunk is the chunk's own masked part plus the part through the state. -/
theorem Out_add (T C : ℕ) (i : Fin C) (e : Fin 512) :
    (∑ j : Fin C, (∑ d, q (T + i) d * k (T + j) d) * (if (j : ℕ) ≤ i then Real.exp (L * (((i : ℕ) : ℝ) - (j : ℕ))) else 0) * v (T + j) e)
      + (∑ d, q (T + i) d * St L k v T d e) * Real.exp (L * (((i : ℕ) : ℝ) + 1)) = Out L q k v (T + i) e := by
  unfold Out
  rw [show T + (i : ℕ) + 1 = T + (i + 1) by ring, sum_range_add, add_comm]
  congr 1
  · unfold St
    simp only [mul_sum]
    rw [sum_comm, sum_mul]
    refine sum_congr rfl fun j _ => ?_
    rw [show L * (((T + i : ℕ) : ℝ) - j) = L * ((T : ℝ) - 1 - j) + L * (((i : ℕ) : ℝ) + 1) by push_cast; ring, Real.exp_add]
    simp only [sum_mul]
    refine sum_congr rfl fun d _ => ?_
    ring
  · rw [← Finset.sum_range (n := C) (f := fun j => (∑ d, q (T + i) d * k (T + j) d) * (if j ≤ i then Real.exp (L * (((i : ℕ) : ℝ) - j)) else 0) * v (T + j) e)]
    symm
    refine sum_subset_zero_on_sdiff (range_subset_range.2 i.isLt) (fun j hj => ?_) (fun j hj => ?_)
    · have : ¬ j ≤ i := by
        simp only [mem_sdiff, mem_range] at hj
        omega
      rw [if_neg this, mul_zero, zero_mul]
    · have : j ≤ i := by
        simp only [mem_range] at hj
        omega
      rw [if_pos this, show L * (((T + i : ℕ) : ℝ) - (T + j : ℕ)) = L * (((i : ℕ) : ℝ) - j) by push_cast; ring]

/-- One chunk's step of the state, in extended reals. -/
def stE {C : ℕ} (K : Fin C → Fin 256 → EReal) (z : Fin C → EReal) (V : Fin C → Fin 512 → EReal) (cd : EReal)
    (st : Fin 256 → Fin 512 → EReal) (d : Fin 256) (e : Fin 512) : EReal :=
  st d e * cd + ∑ j, (K j d * z j) * V j e

/-- One chunk's outputs, in extended reals: the chunk's own masked part plus the part through the state. -/
def oE {C : ℕ} (Q K : Fin C → Fin 256 → EReal) (V : Fin C → Fin 512 → EReal) (dm : Fin C → Fin C → EReal) (xi : Fin C → EReal)
    (st : Fin 256 → Fin 512 → EReal) (i : Fin C) (e : Fin 512) : EReal :=
  (∑ j, ((∑ d, Q i d * K j d) * dm i j) * V j e) + (∑ d, Q i d * st d e) * xi i

variable {L q k v}

/-- On finite inputs a chunk's step of the state is the coercion of the state after the chunk. -/
theorem stE_coe {C T : ℕ} {K : Fin C → Fin 256 → EReal} {z : Fin C → EReal} {V : Fin C → Fin 512 → EReal} {cd : EReal}
    {st : Fin 256 → Fin 512 → EReal} (hK : ∀ j d, K j d = (k (T + j) d : ℝ)) (hz : ∀ j, z j = (Real.exp (L * ((C : ℝ) - 1 - (j : ℕ))) : ℝ))
    (hV : ∀ j e, V j e = (v (T + j) e : ℝ)) (hc : cd = (Real.exp (L * C) : ℝ)) (hs : ∀ d e, st d e = (St L k v T d e : ℝ)) (d : Fin 256) (e : Fin 512) :
    stE K z V cd st d e = (St L k v (T + C) d e : ℝ) := by
  unfold stE
  simp only [hK, hz, hV, hc, hs, ← EReal.coe_mul, coe_sum_ereal, ← EReal.coe_add]
  rw [St_add]

/-- On finite inputs a chunk's outputs are the coercions of the decayed sums over all earlier positions. -/
theorem oE_coe {C T : ℕ} {Q K : Fin C → Fin 256 → EReal} {V : Fin C → Fin 512 → EReal} {dm : Fin C → Fin C → EReal} {xi : Fin C → EReal}
    {st : Fin 256 → Fin 512 → EReal} (hQ : ∀ j d, Q j d = (q (T + j) d : ℝ)) (hK : ∀ j d, K j d = (k (T + j) d : ℝ))
    (hV : ∀ j e, V j e = (v (T + j) e : ℝ))
    (hm : ∀ i j : Fin C, dm i j = ((if (j : ℕ) ≤ i then Real.exp (L * (((i : ℕ) : ℝ) - (j : ℕ))) else 0 : ℝ) : EReal))
    (hx : ∀ i : Fin C, xi i = (Real.exp (L * (((i : ℕ) : ℝ) + 1)) : ℝ)) (hs : ∀ d e, st d e = (St L k v T d e : ℝ)) (i : Fin C) (e : Fin 512) :
    oE Q K V dm xi st i e = (Out L q k v (T + i) e : ℝ) := by
  unfold oE
  simp only [hQ, hK, hV, hm, hx, hs, ← EReal.coe_mul, coe_sum_ereal, ← EReal.coe_add]
  rw [Out_add]

end Cert.Ret

end
-- ==== Proof.Ret.Core.lean ====
/- The functions both the retention kernel and its reference compute: the rotation of a row, and the group norm of a row. -/
module

public import proofs.«01_k».proof.Proof.Ret.Math
public import Idealize.ShloMosaic.PureOps.Ideal

@[expose] public section

noncomputable section

namespace Cert.Ret

open Idealize.ShloMosaic

/-- A row of 256 entries rotated: its two halves as the two coordinates of 128 planes. -/
def rotE (t : Fin 256 → EReal) (c s : Fin 128 → EReal) (d : Fin 256) : EReal :=
  if h : (d : ℕ) < 128 then t d * c ⟨d, h⟩ - t ⟨128 + d, by omega⟩ * s ⟨d, h⟩
  else t ⟨d - 128, by omega⟩ * s ⟨d - 128, by omega⟩ + t ⟨128 + (d - 128), by omega⟩ * c ⟨d - 128, by omega⟩

/-- A row centred and divided by its standard deviation. -/
def normE (o : Fin 512 → EReal) (e : Fin 512) : EReal :=
  (o e - Ideal.div (∑ x, o x) (Ideal.ofBits .f32 0x44000000#32)) *
    Ideal.rsqrt (Ideal.div (∑ y, (o y - Ideal.div (∑ x, o x) (Ideal.ofBits .f32 0x44000000#32)) * (o y - Ideal.div (∑ x, o x) (Ideal.ofBits .f32 0x44000000#32)))
      (Ideal.ofBits .f32 0x44000000#32) + Ideal.ofBits .f32 0x358637BD#32)

end Cert.Ret

end
-- ==== Proof.Ret.Pay.lean ====
/- What the retention kernel's block computations are at an index, over extended reals. -/
module

public import proofs.«01_k».proof.Proof.Gen.KernelIdeal.Skeleton
public import proofs.«01_k».proof.Proof.Ret.Core
public import Idealize.ShloMosaic.Lib.Pointwise

@[expose] public section

set_option maxRecDepth 16384

noncomputable section

namespace Cert.Ret

open Idealize.ShloMosaic Cert.KernelIdeal Cert.KernelIdeal.Gen

/-- The kernel's keys: the rotated block, scaled. -/
theorem pay5_apply (c s : FVec Ideal S512x128 .f32) (x : FVec Ideal S512x256 .f32) (i : Fin 512) (d : Fin 256) :
    k0_pay5 (F := Ideal) c s x (ix2 i d) = rotE (fun d => x (ix2 i d)) (fun d => c (ix2 i d)) (fun d => s (ix2 i d)) d * Ideal.ofBits .f32 0x3D800000#32 := by
  unfold rotE
  pointwise [k0_pay5, k0_pay3, k0_pay4]

/-- The kernel's queries: the rotated block. -/
theorem pay6_apply (c s : FVec Ideal S512x128 .f32) (x : FVec Ideal S512x256 .f32) (i : Fin 512) (d : Fin 256) :
    k0_pay6 (F := Ideal) c s x (ix2 i d) = rotE (fun d => x (ix2 i d)) (fun d => c (ix2 i d)) (fun d => s (ix2 i d)) d := by
  unfold rotE
  pointwise [k0_pay6, k0_pay3, k0_pay4]

/-- The part of an output block from its own keys and values. -/
theorem pay7_apply (c s : FVec Ideal S512x128 .f32) (x y : FVec Ideal S512x256 .f32) (v : FVec Ideal S512x512 .bf16) (w : FVec Ideal S1x512x512 .f32) (i : Fin 512) (e : Fin 512) :
    k0_pay7 (F := Ideal) c s x y v w (ix2 i e)
      = ∑ j, (∑ d, k0_pay6 (F := Ideal) c s x (ix2 i d) * k0_pay5 (F := Ideal) c s y (ix2 j d)) * w (ix3 0 i j) * v (ix2 j e) := by
  pointwise [k0_pay7]

/-- The state after a block, where the decay table repeats one value along its lanes. -/
theorem pay8_apply (k : FVec Ideal S512x256 .f32) (v : FVec Ideal S512x512 .bf16) (st : FVec Ideal S256x512 .f32) (z : FVec Ideal S1x512x128 .f32) (cd : FVec Ideal S1x1x512 .f32)
    (zf : Fin 512 → EReal) (hz : ∀ i l, z (ix3 0 i l) = zf i) (d : Fin 256) (e : Fin 512) :
    k0_pay8 (F := Ideal) k v st z cd (ix2 d e)
      = stE (fun j d => k (ix2 j d)) zf (fun j e => v (ix2 j e)) (cd (ix3 0 0 e)) (fun d e => st (ix2 d e)) d e := by
  unfold stE
  pointwise [k0_pay8, hz, dite_eq_ite, ite_self]

/-- A block's outputs centred and divided by their standard deviation, where the decay table repeats one value along its lanes. -/
theorem pay9_apply (q : FVec Ideal S512x256 .bf16) (a : FVec Ideal S512x512 .f32) (st : FVec Ideal S256x512 .f32) (z : FVec Ideal S1x512x128 .f32)
    (zf : Fin 512 → EReal) (hz : ∀ i l, z (ix3 0 i l) = zf i) (i : Fin 512) (e : Fin 512) :
    k0_pay9 (F := Ideal) q a st z (ix2 i e)
      = normE (fun e => a (ix2 i e) + (∑ d, q (ix2 i d) * st (ix2 d e)) * zf i) e := by
  unfold normE
  pointwise [k0_pay9, hz, dite_eq_ite, ite_self]

/-- The scaled and gated output block. -/
theorem pay1_apply (y : FVec Ideal S512x512 .f32) (gn : FVec Ideal S1x512 .f32) (g : FVec Ideal S512x512 .f32) (i : Fin 512) (e : Fin 512) :
    k0_pay1 (F := Ideal) y gn g (ix2 i e) = g (ix2 i e) * Ideal.logistic (g (ix2 i e)) * (y (ix2 i e) * gn (ix2 0 e)) := by
  pointwise [k0_pay1]

/-- The state a sequence starts from. -/
theorem pay2_apply (d : Fin 256) (e : Fin 512) : k0_pay2 (F := Ideal) (ix2 d e) = 0 := by
  pointwise [k0_pay2]

end Cert.Ret

end
-- ==== Proof.Ret.Tables.lean ====
/- The tables both programs build: the angles' cosines and sines, and the powers of a head's decay, as real numbers. -/
module

public import proofs.«01_k».proof.Proof.Gen.KernelIdeal.Frame
public import proofs.«01_k».proof.Proof.Gen.ReferenceIdeal.Step
public import Idealize.ShloMosaic.Lib.Pointwise
public import Idealize.ShloMosaic.Lib.IdealHost
public import Idealize.ShloMosaic.PureOps.Ideal
public import Mathlib.Tactic.Ring
public import Mathlib.Tactic.Linarith
public import Mathlib.Tactic.NormNum

@[expose] public section

set_option maxRecDepth 16384

noncomputable section

namespace Cert.Ret

open Idealize.ShloMosaic Idealize.ShloMosaic.TcCoe Idealize.SL.Sem Cert.KernelIdeal Cert.KernelIdeal.Gen

/-- The logarithm of head `h`'s decay. -/
def Lr (h : ℕ) : ℝ := Real.log (1 + -Real.exp ((11629080 / 16777216) * (-5 - h)))

/-- The angle of plane `j` at position `i`. -/
def angR (i j : ℕ) : ℝ := i * (1 / Real.rpow 10000 (j * (1 / 128)))

/-- A small integer as an extended real. -/
theorem sitofp_nat (n : ℕ) (h : n < 2 ^ 31) : (FloatOps.sitofp (F := Ideal) FTy.f32 (BitVec.ofNat 32 n) : EReal) = ((n : ℝ) : EReal) := by
  show (((BitVec.ofNat 32 n).toInt : ℝ) : EReal) = _
  have : (BitVec.ofNat 32 n).toInt = n := by
    rw [BitVec.toInt_eq_toNat_cond, BitVec.toNat_ofNat, Nat.mod_eq_of_lt (by omega), if_pos (by omega)]
  rw [this]
  norm_cast

theorem ofBits_ln2 : Ideal.ofBits .f32 0x3F317218#32 = ((11629080 / 16777216 : ℝ) : EReal) := by
  simp [Ideal.ofBits, Ideal.ieee, -EReal.coe_mul]; norm_num
theorem ofBits_neg5 : Ideal.ofBits .f32 0xC0A00000#32 = ((-5 : ℝ) : EReal) := by
  simp [Ideal.ofBits, Ideal.ieee, -EReal.coe_mul, -EReal.coe_neg]; norm_num
theorem ofBits_511 : Ideal.ofBits .f32 0x43FF8000#32 = ((511 : ℝ) : EReal) := by
  simp [Ideal.ofBits, Ideal.ieee, -EReal.coe_mul]; norm_num
theorem ofBits_512 : Ideal.ofBits .f32 0x44000000#32 = ((512 : ℝ) : EReal) := by
  simp [Ideal.ofBits, Ideal.ieee, -EReal.coe_mul]; norm_num
theorem ofBits_63 : Ideal.ofBits .f32 0x427C0000#32 = ((63 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_10000 : Ideal.ofBits .f32 0x461C4000#32 = ((10000 : ℝ) : EReal) := by
  simp [Ideal.ofBits, Ideal.ieee, -EReal.coe_mul]; norm_num
theorem ofBits_sixteenth : Ideal.ofBits .f32 0x3D800000#32 = ((1 / 16 : ℝ) : EReal) := by
  simp [Ideal.ofBits, Ideal.ieee, -EReal.coe_mul]; norm_num

/-- A head's log decay is finite. -/
theorem log_gamma_coe (h : ℕ) (hh : h < 2 ^ 31) :
    Ideal.log1p (-Ideal.exp (Ideal.ofBits .f32 0x3F317218#32 * (Ideal.ofBits .f32 0xC0A00000#32 - FloatOps.sitofp (F := Ideal) FTy.f32 (BitVec.ofNat 32 h))))
      = ((Lr h : ℝ) : EReal) := by
  rw [sitofp_nat h hh, ofBits_ln2, ofBits_neg5, ← EReal.coe_sub, ← EReal.coe_mul, Ideal.exp_coe, ← EReal.coe_neg, Ideal.log1p, ← EReal.coe_one, ← EReal.coe_add, Ideal.log_coe,
    if_neg, Lr]
  have : Real.exp ((11629080 / 16777216) * (-5 - (h : ℝ))) < 1 := by
    rw [Real.exp_lt_one_iff]
    have : (0 : ℝ) ≤ h := Nat.cast_nonneg h
    nlinarith
  linarith

/-- The angle both programs form is finite. -/
theorem angle_coe (i j : ℕ) (hi : i < 2 ^ 31) (hj : j < 2 ^ 31) :
    FloatOps.sitofp (F := Ideal) FTy.f32 (BitVec.ofNat 32 i) * Ideal.div 1 (Ideal.pow (Ideal.ofBits .f32 0x461C4000#32)
      (Ideal.div (FloatOps.sitofp (F := Ideal) FTy.f32 (BitVec.ofNat 32 j)) (Ideal.ofBits .f32 0x43000000#32))) = ((angR i j : ℝ) : EReal) := by
  rw [sitofp_nat i hi, sitofp_nat j hj, ofBits_10000, ofBits_128, Ideal.div_coe (by norm_num), ← EReal.coe_mul, Ideal.pow_coe_coe,
    Ideal.div_coe (show Real.rpow 10000 (j * (1 / 128)) ≠ 0 from (Real.rpow_pos_of_pos (by norm_num) _).ne'), one_mul, ← EReal.coe_mul, angR]

/-- The masked power of a head's decay between two positions. -/
theorem mask_coe (h i j : ℕ) (hi : i < 2 ^ 31) (hj : j < 2 ^ 31) :
    (if (0 : EReal) ≤ FloatOps.sitofp (F := Ideal) FTy.f32 (BitVec.ofNat 32 i) - FloatOps.sitofp (F := Ideal) FTy.f32 (BitVec.ofNat 32 j) then
      Ideal.exp (((Lr h : ℝ) : EReal) * max (FloatOps.sitofp (F := Ideal) FTy.f32 (BitVec.ofNat 32 i) - FloatOps.sitofp (F := Ideal) FTy.f32 (BitVec.ofNat 32 j)) 0)
      else 0)
      = ((if j ≤ i then Real.exp (Lr h * ((i : ℝ) - j)) else 0 : ℝ) : EReal) := by
  rw [sitofp_nat i hi, sitofp_nat j hj, ← EReal.coe_sub]
  by_cases hc : j ≤ i
  · have h0 : (0 : ℝ) ≤ (i : ℝ) - j := sub_nonneg.2 (by exact_mod_cast hc)
    have h1 : (0 : EReal) ≤ (((i : ℝ) - j : ℝ) : EReal) := by exact_mod_cast h0
    rw [if_pos h1, if_pos hc, max_eq_left h1, ← EReal.coe_mul, Ideal.exp_coe]
  · have h0 : (i : ℝ) - j < 0 := sub_neg.2 (by exact_mod_cast not_le.1 hc)
    have h1 : ¬ (0 : EReal) ≤ (((i : ℝ) - j : ℝ) : EReal) := not_le.2 (by exact_mod_cast h0)
    rw [if_neg h1, if_neg hc, EReal.coe_zero]

variable (m : (ℓ : Loc nD τ sig) → Buf (Elt Ideal) ℓ) (c : Dev nD)

/-- The kernel's cosines. -/
theorem tab63 (i : Fin 4096) (j : Fin 128) : (V (F := Ideal) m c main_v63 : Vec Ideal S4096x128 .f32) (ix2 i j) = ((Real.cos (angR i j) : ℝ) : EReal) := by
  rw [← Ideal.cos_coe, ← angle_coe i j (by omega) (by omega)]
  dsimp only [V, hostOps0, hostOps0_1, hostOps0_2, List.flatten_cons, List.flatten_nil, List.append_nil, List.cons_append, List.nil_append]
  after_results
  pointwise

/-- The kernel's sines. -/
theorem tab64 (i : Fin 4096) (j : Fin 128) : (V (F := Ideal) m c main_v64 : Vec Ideal S4096x128 .f32) (ix2 i j) = ((Real.sin (angR i j) : ℝ) : EReal) := by
  rw [← Ideal.sin_coe, ← angle_coe i j (by omega) (by omega)]
  dsimp only [V, hostOps0, hostOps0_1, hostOps0_2, List.flatten_cons, List.flatten_nil, List.append_nil, List.cons_append, List.nil_append]
  after_results
  pointwise

/-- The kernel's masked powers within a chunk. -/
theorem tab24 (h : Fin 8) (i j : Fin 512) : (V (F := Ideal) m c main_v24 : Vec Ideal S8x512x512 .f32) (ix3 h i j)
    = ((if (j : ℕ) ≤ i then Real.exp (Lr h * (((i : ℕ) : ℝ) - (j : ℕ))) else 0 : ℝ) : EReal) := by
  rw [← mask_coe h i j (by omega) (by omega), ← log_gamma_coe h (by omega)]
  dsimp only [V, hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  pointwise [id]

/-- The kernel's powers that carry the state into a chunk's positions. -/
theorem tab45 (h : Fin 8) (i : Fin 512) (j : Fin 128) : (V (F := Ideal) m c main_v45 : Vec Ideal S8x512x128 .f32) (ix3 h i j)
    = ((Real.exp (Lr h * (((i : ℕ) : ℝ) + 1)) : ℝ) : EReal) := by
  rw [← Ideal.exp_coe, EReal.coe_mul, EReal.coe_add, EReal.coe_one, ← sitofp_nat i (by omega), ← log_gamma_coe h (by omega)]
  dsimp only [V, hostOps0, hostOps0_1, hostOps0_2, List.flatten_cons, List.flatten_nil, List.append_nil, List.cons_append, List.nil_append]
  after_results
  pointwise

/-- The kernel's powers that carry a chunk's positions to its end. -/
theorem tab47 (h : Fin 8) (i : Fin 512) (j : Fin 128) : (V (F := Ideal) m c main_v47 : Vec Ideal S8x512x128 .f32) (ix3 h i j)
    = ((Real.exp (Lr h * (((512 : ℕ) : ℝ) - 1 - (i : ℕ))) : ℝ) : EReal) := by
  rw [show (((512 : ℕ) : ℝ) - 1 - ((i : ℕ) : ℝ)) = 511 - ((i : ℕ) : ℝ) by norm_num,
    ← Ideal.exp_coe, EReal.coe_mul, EReal.coe_sub, ← ofBits_511, ← sitofp_nat i (by omega), ← log_gamma_coe h (by omega)]
  dsimp only [V, hostOps0, hostOps0_1, hostOps0_2, List.flatten_cons, List.flatten_nil, List.append_nil, List.cons_append, List.nil_append]
  after_results
  pointwise

/-- The kernel's decay over a chunk. -/
theorem tab49 (h : Fin 8) (i : Fin 1) (j : Fin 512) : (V (F := Ideal) m c main_v49 : Vec Ideal S8x1x512 .f32) (ix3 h i j)
    = ((Real.exp (Lr h * ((512 : ℕ) : ℝ)) : ℝ) : EReal) := by
  rw [show (((512 : ℕ) : ℝ)) = 512 by norm_num, ← Ideal.exp_coe, EReal.coe_mul, ← ofBits_512, ← log_gamma_coe h (by omega)]
  dsimp only [V, hostOps0, hostOps0_1, hostOps0_2, List.flatten_cons, List.flatten_nil, List.append_nil, List.cons_append, List.nil_append]
  after_results
  pointwise

/-- The kernel's row of group norm scales. -/
theorem tab65 (z : Fin 1) (j : Fin 4096) : (V (F := Ideal) m c main_v65 : Vec Ideal S1x4096 .f32) (ix2 z j) = (m ((c : Thread nD τ).loc main_arg3) : Vec Ideal S4096 .f32) (ix1 j) := by
  dsimp only [V, hostOps0, hostOps0_1, hostOps0_2, List.flatten_cons, List.flatten_nil, List.append_nil, List.cons_append, List.nil_append]
  after_results
  pointwise

section Reference

open Cert.ReferenceIdeal.Step

/-- The reference's cosines, as the queries use them. -/
theorem rtab18 (i : Fin 4096) (j : Fin 128) : (K_main_v18 (F := Ideal)) (ix2 i j) = ((Real.cos (angR i j) : ℝ) : EReal) := by
  rw [← Ideal.cos_coe, ← angle_coe i j (by omega) (by omega)]
  pointwise [K_main_v18, K_main_v17, K_main_v16, K_main_v15, K_main_v14, K_main_v13, K_main_v12, K_main_v11, K_main_v10, K_main_v9, K_main_v8, K_main_v7, K_main_v6, K_main_v4,
    K_main_cst, K_main_cst_0, K_main_cst_1]

/-- The reference's sines, as the queries use them. -/
theorem rtab20 (i : Fin 4096) (j : Fin 128) : (K_main_v20 (F := Ideal)) (ix2 i j) = ((Real.sin (angR i j) : ℝ) : EReal) := by
  rw [← Ideal.sin_coe, ← angle_coe i j (by omega) (by omega)]
  pointwise [K_main_v20, K_main_v17, K_main_v16, K_main_v15, K_main_v14, K_main_v13, K_main_v12, K_main_v11, K_main_v10, K_main_v9, K_main_v8, K_main_v7, K_main_v6, K_main_v4,
    K_main_cst, K_main_cst_0, K_main_cst_1]

/-- The reference's cosines, as the keys use them. -/
theorem rtab48 : K_main_v48 (F := Ideal) = K_main_v18 := rfl

/-- The reference's sines, as the keys use them. -/
theorem rtab50 : K_main_v50 (F := Ideal) = K_main_v20 := rfl

/-- The reference's log decay. -/
theorem rtab81 (h : Fin 8) : (K_main_v81 (F := Ideal)) (ix1 h) = ((Lr h : ℝ) : EReal) := by
  rw [← log_gamma_coe h (by omega)]
  pointwise [K_main_v81, K_main_v80, K_main_v79, K_main_v78, K_main_v77, K_main_v76, K_main_v75, K_main_v74, K_main_cst_6, K_main_cst_7]

/-- The reference's masked powers within a chunk. -/
theorem rtab98 (h : Fin 8) (i j : Fin 64) : (K_main_v98 (F := Ideal)) (ix3 h i j)
    = ((if (j : ℕ) ≤ i then Real.exp (Lr h * (((i : ℕ) : ℝ) - (j : ℕ))) else 0 : ℝ) : EReal) := by
  rw [← mask_coe h i j (by omega) (by omega), ← rtab81]
  simp only [K_main_v98, K_main_call0_v1, K_main_v97, K_main_call0_v2, K_main_v89, K_main_v87, K_main_v88, K_main_v96, K_main_v94, K_main_v95, K_main_v93, K_main_v92, K_main_v91,
    K_main_cst_9, K_main_v90, K_main_cst_8, K_main_v86, K_main_v85, K_main_v84, K_main_v83, K_main_v82, K_main_call0_v0, K_main_cst_10, id]
  pointwise

/-- The reference's powers that carry the state into a chunk's positions. -/
theorem rtab106 (h : Fin 8) (i : Fin 64) : (K_main_v106 (F := Ideal)) (ix2 h i) = ((Real.exp (Lr h * (((i : ℕ) : ℝ) + 1)) : ℝ) : EReal) := by
  rw [← Ideal.exp_coe, EReal.coe_mul, EReal.coe_add, EReal.coe_one, ← sitofp_nat i (by omega), ← rtab81]
  pointwise [K_main_v106, K_main_v105, K_main_v104, K_main_v103, K_main_v102, K_main_v101, K_main_v100, K_main_v99, K_main_v82, K_main_cst_11]

/-- The reference's powers that carry a chunk's positions to its end. -/
theorem rtab114 (h : Fin 8) (i : Fin 64) : (K_main_v114 (F := Ideal)) (ix2 h i) = ((Real.exp (Lr h * (((64 : ℕ) : ℝ) - 1 - (i : ℕ))) : ℝ) : EReal) := by
  rw [show (((64 : ℕ) : ℝ) - 1 - ((i : ℕ) : ℝ)) = 63 - ((i : ℕ) : ℝ) by norm_num, ← Ideal.exp_coe, EReal.coe_mul, EReal.coe_sub, ← ofBits_63, ← sitofp_nat i (by omega), ← rtab81]
  pointwise [K_main_v114, K_main_v113, K_main_v112, K_main_v111, K_main_v110, K_main_v109, K_main_v108, K_main_v107, K_main_v82, K_main_cst_12]

/-- The reference's decay over a chunk. -/
theorem rtab117 (h : Fin 8) : (K_main_v117 (F := Ideal)) (ix1 h) = ((Real.exp (Lr h * ((64 : ℕ) : ℝ)) : ℝ) : EReal) := by
  rw [show (((64 : ℕ) : ℝ)) = 64 by norm_num, ← Ideal.exp_coe, EReal.coe_mul, ← ofBits_64, ← rtab81]
  pointwise [K_main_v117, K_main_v116, K_main_v115, K_main_cst_13]

end Reference

end Cert.Ret

end
-- ==== Proof.Ret.Seq.lean ====
/- The sequences of one batch and head: rotated queries, rotated and scaled keys, and values, as real numbers, and the result both programs compute from them. -/
module

public import proofs.«01_k».proof.Proof.Ret.Core
public import proofs.«01_k».proof.Proof.Ret.Tables

@[expose] public section

noncomputable section

namespace Cert.Ret

open Idealize.ShloMosaic

/-- The row of batch `b`'s position `t`. -/
def row (b : Fin 4) (t : ℕ) : Fin 16384 := ⟨b * 4096 + t % 4096, by omega⟩

/-- Every entry is a real number. -/
def Fini (x : Fin 16384 → Fin 4096 → EReal) : Prop := ∀ r k, x r k ≠ ⊤ ∧ x r k ≠ ⊥

/-- The rotation of a row of real entries by the planes' angles. -/
def rotR (t : Fin 256 → ℝ) (a : ℕ → ℝ) (d : Fin 256) : ℝ :=
  if h : (d : ℕ) < 128 then t d * Real.cos (a d) - t ⟨128 + d, by omega⟩ * Real.sin (a d)
  else t ⟨d - 128, by omega⟩ * Real.sin (a (d - 128)) + t ⟨128 + (d - 128), by omega⟩ * Real.cos (a (d - 128))

/-- On real entries the rotation is the real one. -/
theorem rotE_coe {t : Fin 256 → EReal} {c s : Fin 128 → EReal} {T : Fin 256 → ℝ} {a : ℕ → ℝ} (ht : ∀ d, t d = (T d : ℝ))
    (hc : ∀ j : Fin 128, c j = (Real.cos (a j) : ℝ)) (hs : ∀ j : Fin 128, s j = (Real.sin (a j) : ℝ)) (d : Fin 256) : rotE t c s d = (rotR T a d : ℝ) := by
  unfold rotE rotR
  split
  · rw [ht, ht, hc, hs, ← EReal.coe_mul, ← EReal.coe_mul, ← EReal.coe_sub]
  · rw [ht, ht, hc, hs, ← EReal.coe_mul, ← EReal.coe_mul, ← EReal.coe_add]

variable (x y g : Fin 16384 → Fin 4096 → EReal) (gn : Fin 4096 → EReal)

/-- The rotated queries of a batch and head. -/
def qS (b : Fin 4) (h : Fin 8) (t : ℕ) (d : Fin 256) : ℝ := rotR (fun d => (x (row b t) ⟨h * 256 + d, by omega⟩).toReal) (angR t) d

/-- The rotated and scaled keys of a batch and head. -/
def kS (b : Fin 4) (h : Fin 8) (t : ℕ) (d : Fin 256) : ℝ := rotR (fun d => (x (row b t) ⟨2048 + (h * 256 + d), by omega⟩).toReal) (angR t) d * (1 / 16)

/-- The values of a batch and head. -/
def vS (b : Fin 4) (h : Fin 8) (t : ℕ) (e : Fin 512) : ℝ := (y (row b t) ⟨h * 512 + e, by omega⟩).toReal

/-- The retention outputs of a batch and head. -/
def outS (b : Fin 4) (h : Fin 8) (t : ℕ) (e : Fin 512) : ℝ := Out (Lr h) (qS x b h) (kS x b h) (vS y b h) t e

/-- The retention state of a batch and head. -/
def stS (b : Fin 4) (h : Fin 8) (t : ℕ) (d : Fin 256) (e : Fin 512) : ℝ := St (Lr h) (kS x b h) (vS y b h) t d e

/-- An entry of the result: the gate times the normalised and scaled output. -/
def resS (b : Fin 4) (h : Fin 8) (t : ℕ) (e : Fin 512) : EReal :=
  g (row b t) ⟨h * 512 + e, by omega⟩ * Ideal.logistic (g (row b t) ⟨h * 512 + e, by omega⟩)
    * (normE (fun e => ((outS x y b h t e : ℝ) : EReal)) e * gn ⟨h * 512 + e, by omega⟩)

/-- The result, entry by entry of its array. -/
def res (r : Fin 16384) (k : Fin 4096) : EReal :=
  resS x y g gn ⟨r / 4096, by omega⟩ ⟨k / 512, by omega⟩ (r % 4096) ⟨k % 512, by omega⟩

/-- An entry of the result by its batch, head, position and column is the entry of its row and column. -/
theorem resS_eq {b : Fin 4} {h : Fin 8} {t : ℕ} {e : Fin 512} {r : Fin 16384} {k : Fin 4096} (hb : (b : ℕ) = r / 4096) (hh : (h : ℕ) = k / 512) (ht : t = r % 4096)
    (he : (e : ℕ) = k % 512) : resS x y g gn b h t e = res x y g gn r k := by
  unfold res
  subst ht
  rw [show b = ⟨r / 4096, by omega⟩ from Fin.ext hb, show h = ⟨k / 512, by omega⟩ from Fin.ext hh, show e = ⟨k % 512, by omega⟩ from Fin.ext he]

/-- The state before the first position is zero. -/
theorem stS_zero (b : Fin 4) (h : Fin 8) (d : Fin 256) (e : Fin 512) : stS x y b h 0 d e = 0 := by simp [stS, St]

variable {x y}

/-- A real entry is the coercion of its real part. -/
theorem Fini.coe (hx : Fini x) (r : Fin 16384) (k : Fin 4096) : x r k = ((x r k).toReal : EReal) := (EReal.coe_toReal (hx r k).1 (hx r k).2).symm

end Cert.Ret

end
-- ==== Proof.Ret.KVal.lean ====
/- The retention kernel's result: the state it carries is the retention state of its batch and head, each output block is the result there, and the blocks cover the array. -/
module

public import proofs.«01_k».proof.Proof.Gen.KernelIdeal.Value
public import proofs.«01_k».proof.Proof.Ret.Blocks
public import proofs.«01_k».proof.Proof.Ret.Outs
public import proofs.«01_k».proof.Proof.Ret.Pay
public import proofs.«01_k».proof.Proof.Ret.Seq

@[expose] public section

set_option maxRecDepth 16384

noncomputable section

namespace Cert.Ret

open Idealize.ShloMosaic Idealize.ShloMosaic.TcCoe Idealize.SL.Sem Cert.KernelIdeal Cert.KernelIdeal.Gen

variable (m : (ℓ : Loc nD τ sig) → Buf (Elt Ideal) ℓ) (c : Dev nD)

/-- The launched queries and keys. -/
def xK (r : Fin 16384) (k : Fin 4096) : EReal := (m ((c : Thread nD τ).loc main_arg0) : Vec Ideal S16384x4096 .f32) (ix2 r k)
/-- The launched values. -/
def yK (r : Fin 16384) (k : Fin 4096) : EReal := (m ((c : Thread nD τ).loc main_arg1) : Vec Ideal S16384x4096 .bf16) (ix2 r k)
/-- The launched gate. -/
def gK (r : Fin 16384) (k : Fin 4096) : EReal := (m ((c : Thread nD τ).loc main_arg2) : Vec Ideal S16384x4096 .f32) (ix2 r k)
/-- The launched group norm scale. -/
def gnK (k : Fin 4096) : EReal := (m ((c : Thread nD τ).loc main_arg3) : Vec Ideal S4096 .f32) (ix1 k)

/-- A point's batch. -/
def bP (t : Fin cfg0.N) : Fin 4 := ⟨t.val / 64, by have h := lt_of_lt_of_eq t.isLt (show cfg0.N = 256 from N_0); omega⟩
/-- A point's head. -/
def hP (t : Fin cfg0.N) : Fin 8 := ⟨t.val / 8 % 8, by omega⟩

variable {m c}

/-- The query block. -/
theorem q_blk (hx : Fini (xK m c)) (t : Fin cfg0.N) (i : Fin 512) (d : Fin 256) :
    k0_pay6 (F := Ideal) (iblk m c 4 t) (iblk m c 5 t) (iblk m c 0 t) (ix2 i d) = ((qS (xK m c) (bP t) (hP t) (t.val % 8 * 512 + i) d : ℝ) : EReal) := by
  have hN := lt_of_lt_of_eq t.isLt (show cfg0.N = 256 from N_0)
  rw [pay6_apply]
  refine rotE_coe (fun d => ?_) (fun j => ?_) (fun j => ?_) d
  · rw [← hx.coe, iblk0_apply m c t i (row (bP t) (t.val % 8 * 512 + i)) d ⟨hP t * 256 + d, by omega⟩ (by dsimp [row, bP]; omega) rfl, V_main_arg0]
    rfl
  · rw [iblk4_apply m c t i ⟨t.val % 8 * 512 + i, by omega⟩ j j rfl (by omega)]
    exact tab63 m c _ j
  · rw [iblk5_apply m c t i ⟨t.val % 8 * 512 + i, by omega⟩ j j rfl (by omega)]
    exact tab64 m c _ j

/-- The key block. -/
theorem k_blk (hx : Fini (xK m c)) (t : Fin cfg0.N) (i : Fin 512) (d : Fin 256) :
    k0_pay5 (F := Ideal) (iblk m c 4 t) (iblk m c 5 t) (iblk m c 1 t) (ix2 i d) = ((kS (xK m c) (bP t) (hP t) (t.val % 8 * 512 + i) d : ℝ) : EReal) := by
  have hN := lt_of_lt_of_eq t.isLt (show cfg0.N = 256 from N_0)
  rw [pay5_apply, ofBits_sixteenth, kS, EReal.coe_mul]
  congr 1
  refine rotE_coe (fun d => ?_) (fun j => ?_) (fun j => ?_) d
  · rw [← hx.coe, iblk1_apply m c t i (row (bP t) (t.val % 8 * 512 + i)) d ⟨2048 + (hP t * 256 + d), by omega⟩ (by dsimp [row, bP]; omega) (by dsimp [hP]; omega), V_main_arg0]
    rfl
  · rw [iblk4_apply m c t i ⟨t.val % 8 * 512 + i, by omega⟩ j j rfl (by omega)]
    exact tab63 m c _ j
  · rw [iblk5_apply m c t i ⟨t.val % 8 * 512 + i, by omega⟩ j j rfl (by omega)]
    exact tab64 m c _ j

/-- The value block. -/
theorem v_blk (hy : Fini (yK m c)) (t : Fin cfg0.N) (i : Fin 512) (e : Fin 512) :
    (iblk m c 2 t : Vec Ideal S512x512 .bf16) (ix2 i e) = ((vS (yK m c) (bP t) (hP t) (t.val % 8 * 512 + i) e : ℝ) : EReal) := by
  have hN := lt_of_lt_of_eq t.isLt (show cfg0.N = 256 from N_0)
  rw [vS, ← hy.coe, iblk2_apply m c t i (row (bP t) (t.val % 8 * 512 + i)) e ⟨hP t * 512 + e, by omega⟩ (by dsimp [row, bP]; omega) rfl, V_main_arg1]
  rfl

/-- The decay into a chunk's positions. -/
theorem xi_blk (t : Fin cfg0.N) (i : Fin 512) (l : Fin 128) :
    (iblk m c 7 t : Vec Ideal S1x512x128 .f32) (ix3 0 i l) = ((Real.exp (Lr (hP t) * (((i : ℕ) : ℝ) + 1)) : ℝ) : EReal) := by
  rw [iblk7_apply m c t 0 (hP t) i i l l (by dsimp [hP]; omega) (by omega) (by omega)]
  exact tab45 m c _ i l

/-- The decay to a chunk's end. -/
theorem zeta_blk (t : Fin cfg0.N) (i : Fin 512) (l : Fin 128) :
    (iblk m c 8 t : Vec Ideal S1x512x128 .f32) (ix3 0 i l) = ((Real.exp (Lr (hP t) * (((512 : ℕ) : ℝ) - 1 - (i : ℕ))) : ℝ) : EReal) := by
  rw [iblk8_apply m c t 0 (hP t) i i l l (by dsimp [hP]; omega) (by omega) (by omega)]
  exact tab47 m c _ i l

/-- The state a point leaves, of the state it finds. -/
theorem state_step (hx : Fini (xK m c)) (hy : Fini (yK m c)) (t : Fin cfg0.N) (st : FVec Ideal S256x512 .f32)
    (hs : ∀ d e, st (ix2 d e) = ((stS (xK m c) (yK m c) (bP t) (hP t) (t.val % 8 * 512) d e : ℝ) : EReal)) (d : Fin 256) (e : Fin 512) :
    k0_pay8 (F := Ideal) (k0_pay5 (iblk m c 4 t) (iblk m c 5 t) (iblk m c 1 t)) (iblk m c 2 t) st (iblk m c 8 t) (iblk m c 9 t) (ix2 d e)
      = ((stS (xK m c) (yK m c) (bP t) (hP t) (t.val % 8 * 512 + 512) d e : ℝ) : EReal) := by
  rw [pay8_apply _ _ _ _ _ _ (zeta_blk t)]
  refine stE_coe (k_blk hx t) (fun _ => rfl) (v_blk hy t) ?_ hs d e
  rw [iblk9_apply m c t 0 (hP t) 0 0 e e (by dsimp [hP]; omega) (by omega) (by omega)]
  exact tab49 m c _ 0 e

/-- The output block a point leaves, of the state it finds. -/
theorem out_step (hx : Fini (xK m c)) (hy : Fini (yK m c)) (t : Fin cfg0.N) (st : FVec Ideal S256x512 .f32)
    (hs : ∀ d e, st (ix2 d e) = ((stS (xK m c) (yK m c) (bP t) (hP t) (t.val % 8 * 512) d e : ℝ) : EReal)) (i : Fin 512) (e : Fin 512) :
    k0_pay1 (F := Ideal) (k0_pay9 (k0_pay6 (iblk m c 4 t) (iblk m c 5 t) (iblk m c 0 t)) (k0_pay7 (iblk m c 4 t) (iblk m c 5 t) (iblk m c 0 t) (iblk m c 1 t) (iblk m c 2 t) (iblk m c 6 t)) st (iblk m c 7 t))
        (iblk m c 10 t) (iblk m c 3 t) (ix2 i e)
      = resS (xK m c) (yK m c) (gK m c) (gnK m c) (bP t) (hP t) (t.val % 8 * 512 + i) e := by
  have hN := lt_of_lt_of_eq t.isLt (show cfg0.N = 256 from N_0)
  rw [pay1_apply, pay9_apply _ _ _ _ _ (xi_blk t), resS]
  rw [iblk3_apply m c t i (row (bP t) (t.val % 8 * 512 + i)) e ⟨hP t * 512 + e, by omega⟩ (by dsimp [row, bP]; omega) rfl, V_main_arg2,
    iblk10_apply m c t 0 0 e ⟨hP t * 512 + e, by omega⟩ (by omega) rfl, tab65]
  have ho : ∀ e', k0_pay7 (F := Ideal) (iblk m c 4 t) (iblk m c 5 t) (iblk m c 0 t) (iblk m c 1 t) (iblk m c 2 t) (iblk m c 6 t) (ix2 i e')
      + (∑ d, k0_pay6 (F := Ideal) (iblk m c 4 t) (iblk m c 5 t) (iblk m c 0 t) (ix2 i d) * st (ix2 d e')) * ((Real.exp (Lr (hP t) * (((i : ℕ) : ℝ) + 1)) : ℝ) : EReal)
      = ((outS (xK m c) (yK m c) (bP t) (hP t) (t.val % 8 * 512 + i) e' : ℝ) : EReal) := by
    intro e'
    rw [pay7_apply]
    refine oE_coe (dm := fun i j => (iblk m c 6 t : Vec Ideal S1x512x512 .f32) (ix3 0 i j)) (xi := fun i : Fin 512 => ((Real.exp (Lr (hP t) * (((i : ℕ) : ℝ) + 1)) : ℝ) : EReal))
      (q_blk hx t) (k_blk hx t) (v_blk hy t) (fun i j => ?_) (fun _ => rfl) hs i e'
    show (iblk m c 6 t : Vec Ideal S1x512x512 .f32) (ix3 0 i j) = _
    rw [iblk6_apply m c t 0 (hP t) i i j j (by dsimp [hP]; omega) (by omega) (by omega)]
    exact tab24 m c _ i j
  rw [funext ho]
  rfl

/-- The state every point leaves. -/
theorem state_eq (hx : Fini (xK m c)) (hy : Fini (yK m c)) (n : ℕ) : ∀ (hn : n < cfg0.N) (d : Fin 256) (e : Fin 512),
    (outsAt0 m c n hn).2 (ix2 d e) = ((stS (xK m c) (yK m c) (bP ⟨n, hn⟩) (hP ⟨n, hn⟩) (n % 8 * 512 + 512) d e : ℝ) : EReal) := by
  induction n using Nat.strong_induction_on with
  | _ n ih =>
    intro hn d e
    by_cases h0 : n % 8 = 0
    · rw [outsAt0_A m c ⟨n, hn⟩ h0]
      dsimp only
      rw [sout0_A_0_eq]
      refine state_step hx hy ⟨n, hn⟩ _ (fun d e => ?_) d e
      rw [pay2_apply, show (⟨n, hn⟩ : Fin cfg0.N).val % 8 * 512 = 0 by dsimp only; omega, stS_zero, EReal.coe_zero]
    · rw [outsAt0_B m c ⟨n, hn⟩ h0]
      dsimp only
      rw [sout0_B_0_eq]
      refine state_step hx hy ⟨n, hn⟩ _ (fun d e => ?_) d e
      rw [ih (n - 1) (by omega) (by omega) d e, show bP ⟨n - 1, by omega⟩ = bP ⟨n, hn⟩ from Fin.ext (by dsimp only [bP]; omega),
        show hP ⟨n - 1, by omega⟩ = hP ⟨n, hn⟩ from Fin.ext (by dsimp only [hP]; omega), show (n - 1) % 8 * 512 + 512 = n % 8 * 512 by omega]

/-- The output block every point leaves. -/
theorem out_eq (hx : Fini (xK m c)) (hy : Fini (yK m c)) (t : Fin cfg0.N) (i : Fin 512) (e : Fin 512) :
    (outsAt0 m c t.val t.isLt).1 (ix2 i e) = resS (xK m c) (yK m c) (gK m c) (gnK m c) (bP t) (hP t) (t.val % 8 * 512 + i) e := by
  by_cases h0 : t.val % 8 = 0
  · rw [outsAt0_A m c t h0]
    dsimp only
    rw [out0_A_11_eq]
    refine out_step hx hy t _ (fun d e => ?_) i e
    rw [pay2_apply, show t.val % 8 * 512 = 0 by omega, stS_zero, EReal.coe_zero]
  · rw [outsAt0_B m c t h0]
    dsimp only
    rw [out0_B_11_eq]
    refine out_step hx hy t _ (fun d e => ?_) i e
    rw [state_eq hx hy (t.val - 1) (by omega) d e, show bP ⟨t.val - 1, by omega⟩ = bP t from Fin.ext (by dsimp only [bP]; omega),
      show hP ⟨t.val - 1, by omega⟩ = hP t from Fin.ext (by dsimp only [hP]; omega), show (t.val - 1) % 8 * 512 + 512 = t.val % 8 * 512 by omega]

/-- The output window's block at a point. -/
theorem index11 : ∀ t : Fin grid0.N, win0_11.index t 0 = t.val / 64 * 8 + t.val % 8 ∧ win0_11.index t 1 = t.val / 8 % 8 := by decide +kernel

/-- Every block of the output window is whole. -/
theorem xsize11 : ∀ t : Fin grid0.N, win0_11.xsize (grid0.coords t) 0 = 512 ∧ win0_11.xsize (grid0.coords t) 1 = 512 := by decide +kernel

/-- The result, as an array. -/
def resArr (m : (ℓ : Loc nD τ sig) → Buf (Elt Ideal) ℓ) (c : Dev nD) : Vec Ideal S16384x4096 .bf16 :=
  fun i => res (xK m c) (yK m c) (gK m c) (gnK m c) (i 0) (i 1)

/-- An index of the result is in a point's block when its row and column are. -/
theorem mem_blk11 (t : Fin cfg0.N) (i : S16384x4096.Idx) :
    i ∈ ((cfg0.win 11).blk t).view.set ↔ ((t.val / 64 * 8 + t.val % 8) * 512 ≤ (i 0 : ℕ) ∧ (i 0 : ℕ) < (t.val / 64 * 8 + t.val % 8) * 512 + 512)
      ∧ ((t.val / 8 % 8) * 512 ≤ (i 1 : ℕ) ∧ (i 1 : ℕ) < (t.val / 8 % 8) * 512 + 512) := by
  show i ∈ ((View.whole main_v66).slice (win0_11.rect t)).set ↔ _
  rw [View.set_slice_whole, Rect.mem_set_unit]
  have e0 := index11 t
  have e1 := xsize11 t
  have s0 : win0_11.index t 0 * win0_11.size 0 = (t.val / 64 * 8 + t.val % 8) * 512 := by rw [e0.1]; rfl
  have s1 : win0_11.index t 1 * win0_11.size 1 = (t.val / 8 % 8) * 512 := by rw [e0.2]; rfl
  refine ⟨fun h => ⟨?_, ?_⟩, fun h a => ?_⟩
  · have : win0_11.index t 0 * win0_11.size 0 ≤ (i 0 : ℕ) ∧ (i 0 : ℕ) < win0_11.index t 0 * win0_11.size 0 + win0_11.xsize (grid0.coords t) 0 := h 0
    rwa [s0, e1.1] at this
  · have : win0_11.index t 1 * win0_11.size 1 ≤ (i 1 : ℕ) ∧ (i 1 : ℕ) < win0_11.index t 1 * win0_11.size 1 + win0_11.xsize (grid0.coords t) 1 := h 1
    rwa [s1, e1.2] at this
  · match a with
    | ⟨0, _⟩ =>
      show win0_11.index t 0 * win0_11.size 0 ≤ (i 0 : ℕ) ∧ (i 0 : ℕ) < win0_11.index t 0 * win0_11.size 0 + win0_11.xsize (grid0.coords t) 0
      rw [s0, e1.1]; exact h.1
    | ⟨1, _⟩ =>
      show win0_11.index t 1 * win0_11.size 1 ≤ (i 1 : ℕ) ∧ (i 1 : ℕ) < win0_11.index t 1 * win0_11.size 1 + win0_11.xsize (grid0.coords t) 1
      rw [s1, e1.2]; exact h.2

/-- The blocks cover the result. -/
theorem cover11 (i : S16384x4096.Idx) : ∃ t : Fin cfg0.N, (cfg0.win 11).flush t = true ∧ i ∈ ((cfg0.win 11).blk t).view.set := by
  have h0 : (i 0 : ℕ) < 16384 := (i 0).isLt
  have h1 : (i 1 : ℕ) < 4096 := (i 1).isLt
  refine ⟨⟨(i 0 : ℕ) / 4096 * 64 + (i 1 : ℕ) / 512 * 8 + (i 0 : ℕ) % 4096 / 512, lt_of_lt_of_eq (by omega) (show cfg0.N = 256 from N_0).symm⟩, flush0_11 _, ?_⟩
  rw [mem_blk11]
  dsimp only
  refine ⟨⟨?_, ?_⟩, ⟨?_, ?_⟩⟩ <;> omega

/-- What a point writes back is its block of the result. -/
theorem flushed11_eq (hx : Fini (xK m c)) (hy : Fini (yK m c)) (t : Fin cfg0.N) :
    (dats m 0 c).flushed 11 t = ((cfg0.win 11).blk t).view.read (Elt Ideal) (resArr m c) := by
  have hN := lt_of_lt_of_eq t.isLt (show cfg0.N = 256 from N_0)
  rw [Value.flushed11]
  funext j
  have e0 := index11 t
  have h0 : (j 0 : ℕ) < 512 := lt_of_lt_of_eq (j 0).isLt (xsize11 t).1
  have h1 : (j 1 : ℕ) < 512 := lt_of_lt_of_eq (j 1).isLt (xsize11 t).2
  have hl : (cfg0.win 11).cut (grid0.coords t) ((outsAt0 m c t.val t.isLt).1) j = (outsAt0 m c t.val t.isLt).1 (ix2 ⟨j 0, h0⟩ ⟨j 1, h1⟩) := by
    refine congrArg (outsAt0 m c t.val t.isLt).1 (funext fun a => ?_)
    match a with
    | ⟨0, _⟩ => rfl
    | ⟨1, _⟩ => rfl
  have hr : ((cfg0.win 11).blk t).view.read (Elt Ideal) (resArr m c) j = res (xK m c) (yK m c) (gK m c) (gnK m c)
      ⟨(t.val / 64 * 8 + t.val % 8) * 512 + (j 0 : ℕ), by omega⟩ ⟨(t.val / 8 % 8) * 512 + (j 1 : ℕ), by omega⟩ := by
    show res (xK m c) (yK m c) (gK m c) (gnK m c) _ _ = _
    refine congrArg₂ (res (xK m c) (yK m c) (gK m c) (gnK m c)) (Fin.ext ?_) (Fin.ext ?_)
    · show win0_11.index t 0 * win0_11.size 0 + 1 * (j 0 : ℕ) = _
      rw [e0.1, Nat.one_mul]; rfl
    · show win0_11.index t 1 * win0_11.size 1 + 1 * (j 1 : ℕ) = _
      rw [e0.2, Nat.one_mul]; rfl
  rw [hl, hr, out_eq hx hy]
  refine resS_eq _ _ _ _ ?_ ?_ ?_ ?_ <;> dsimp only [bP, hP] <;> omega

/-- The result array after the run. -/
theorem final11 (hx : Fini (xK m c)) (hy : Fini (yK m c)) : (dats m 0 c).arrAt 11 cfg0.N = resArr m c :=
  (dats m 0 c).arrAt_eq_of_cover 11 (resArr m c) (fun t _ => flushed11_eq hx hy t) cover11

end Cert.Ret

end
-- ==== Proof.Ret.RefA.lean ====
/- What the reference hands its loop and what one trip computes, entry by entry. -/
module

public import proofs.«01_k».proof.Proof.Ret.Seq
public import Idealize.ShloMosaic.Lib.Pointwise

@[expose] public section

set_option maxRecDepth 16384

noncomputable section

namespace Cert.Ret

open Idealize.ShloMosaic Cert.ReferenceIdeal Cert.ReferenceIdeal.Step Cert.ReferenceIdeal.Gen

/-- Chunks moved to the front. -/
theorem tr256_apply (X : FVec Ideal S4x64x8x64x256 .f32) (n : Fin 64) (b : Fin 4) (h : Fin 8) (i : Fin 64) (d : Fin 256) :
    transpose S64x4x8x64x256 [1, 0, 2, 3, 4] X transposes_S4x64x8x64x256_S64x4x8x64x256_1_0_2_3_4 (ix5 n b h i d) = X (ix5 b n h i d) := by
  pointwise

/-- A chunk's rows of the queries or keys. -/
theorem tr69_apply (X : FVec Ideal S4x4096x8x256 .f32) (b : Fin 4) (n : Fin 64) (h : Fin 8) (i : Fin 64) (d : Fin 256) :
    transpose S4x64x8x64x256 [0, 1, 3, 2, 4] (shapeCast S4x64x64x8x256 X shapeCasts_S4x4096x8x256_S4x64x64x8x256) transposes_S4x64x64x8x256_S4x64x8x64x256_0_1_3_2_4 (ix5 b n h i d)
      = X (ix4 b ⟨n * 64 + i, by omega⟩ h d) := by
  pointwise

/-- The masked powers, repeated. -/
theorem K120_apply (b : Fin 4) (n : Fin 64) (h : Fin 8) (i j : Fin 64) :
    K_main_v120 (F := Ideal) (ix5 b n h i j) = K_main_v98 (F := Ideal) (ix3 h i j) := by
  show broadcastInDim S4x64x8x64x64 ![0, 1, 2, 3, 4] bcast_S1x1x8x64x64_S4x64x8x64x64_0_1_2_3_4 (broadcastInDim S1x1x8x64x64 ![2, 3, 4] bcast_S8x64x64_S1x1x8x64x64_2_3_4 (K_main_v98 (F := Ideal))) _ = _
  generalize K_main_v98 (F := Ideal) = K
  pointwise

/-- The powers to a chunk's end, repeated. -/
theorem K125_apply (b : Fin 4) (n : Fin 64) (h : Fin 8) (i : Fin 64) (d : Fin 256) :
    K_main_v125 (F := Ideal) (ix5 b n h i d) = K_main_v114 (F := Ideal) (ix2 h i) := by
  show broadcastInDim S4x64x8x64x256 ![0, 1, 2, 3, 4] bcast_S1x1x8x64x1_S4x64x8x64x256_0_1_2_3_4 (broadcastInDim S1x1x8x64x1 ![2, 3] bcast_S8x64_S1x1x8x64x1_2_3 (K_main_v114 (F := Ideal))) _ = _
  generalize K_main_v114 (F := Ideal) = K
  pointwise

/-- A chunk's rows of the values. -/
theorem tr73_apply (a1 : FVec Ideal S16384x4096 .f32) (b : Fin 4) (n : Fin 64) (h : Fin 8) (i : Fin 64) (e : Fin 512) :
    transpose S4x64x8x64x512 [0, 1, 3, 2, 4] (shapeCast S4x64x64x8x512 (shapeCast S4x4096x8x512 a1 shapeCasts_S16384x4096_S4x4096x8x512) shapeCasts_S4x4096x8x512_S4x64x64x8x512) transposes_S4x64x64x8x512_S4x64x8x64x512_0_1_3_2_4 (ix5 b n h i e)
      = a1 (ix2 ⟨b * 4096 + n * 64 + i, by omega⟩ ⟨h * 512 + e, by omega⟩) := by
  pointwise

/-- Chunks moved to the front. -/
theorem tr512_apply (X : FVec Ideal S4x64x8x64x512 .f32) (n : Fin 64) (b : Fin 4) (h : Fin 8) (i : Fin 64) (d : Fin 512) :
    transpose S64x4x8x64x512 [1, 0, 2, 3, 4] X transposes_S4x64x8x64x512_S64x4x8x64x512_1_0_2_3_4 (ix5 n b h i d) = X (ix5 b n h i d) := by
  pointwise

/-- A small integer read back from its word. -/
theorem toInt_nat (n : ℕ) (h : n < 2 ^ 31) : (BitVec.ofNat 32 n).toInt = n := by
  rw [BitVec.toInt_eq_toNat_cond, BitVec.toNat_ofNat, Nat.mod_eq_of_lt (by omega), if_pos (by omega)]

/-- One chunk's slice, its first axis of one entry and the others whole. -/
theorem slice5 {W : ℕ} (x : FVec Ideal (⟨5, ![64, 4, 8, 64, W]⟩ : Shape) .f32) (start : Fin 5 → ℤ) (h : (⟨5, ![64, 4, 8, 64, W]⟩ : Shape).Slices (fun _ => 0) (⟨5, ![1, 4, 8, 64, W]⟩ : Shape))
    (j : ℕ) (hj : j < 64) (h0 : start 0 = j) (h1 : start 1 = 0) (h2 : start 2 = 0) (h3 : start 3 = 0) (h4 : start 4 = 0) (b : Fin 4) (c : Fin 8) (i : Fin 64) (d : Fin W) :
    Host.dynamicSlice (⟨5, ![1, 4, 8, 64, W]⟩ : Shape) x start h (ix5 0 b c i d) = x (ix5 ⟨j, hj⟩ b c i d) := by
  have e0 : Host.clampedStart (⟨5, ![64, 4, 8, 64, W]⟩ : Shape) (⟨5, ![1, 4, 8, 64, W]⟩ : Shape) h.1 start 0 = j := Host.clampedStart_of_le (s := (⟨5, ![64, 4, 8, 64, W]⟩ : Shape)) (t := (⟨5, ![1, 4, 8, 64, W]⟩ : Shape)) _ _ 0 j h0 (by show j + 1 ≤ 64; omega)
  have e1 : Host.clampedStart (⟨5, ![64, 4, 8, 64, W]⟩ : Shape) (⟨5, ![1, 4, 8, 64, W]⟩ : Shape) h.1 start 1 = 0 := Host.clampedStart_of_le (s := (⟨5, ![64, 4, 8, 64, W]⟩ : Shape)) (t := (⟨5, ![1, 4, 8, 64, W]⟩ : Shape)) _ _ 1 0 h1 (by show 0 + 4 ≤ 4; omega)
  have e2 : Host.clampedStart (⟨5, ![64, 4, 8, 64, W]⟩ : Shape) (⟨5, ![1, 4, 8, 64, W]⟩ : Shape) h.1 start 2 = 0 := Host.clampedStart_of_le (s := (⟨5, ![64, 4, 8, 64, W]⟩ : Shape)) (t := (⟨5, ![1, 4, 8, 64, W]⟩ : Shape)) _ _ 2 0 h2 (by show 0 + 8 ≤ 8; omega)
  have e3 : Host.clampedStart (⟨5, ![64, 4, 8, 64, W]⟩ : Shape) (⟨5, ![1, 4, 8, 64, W]⟩ : Shape) h.1 start 3 = 0 := Host.clampedStart_of_le (s := (⟨5, ![64, 4, 8, 64, W]⟩ : Shape)) (t := (⟨5, ![1, 4, 8, 64, W]⟩ : Shape)) _ _ 3 0 h3 (by show 0 + 64 ≤ 64; omega)
  have e4 : Host.clampedStart (⟨5, ![64, 4, 8, 64, W]⟩ : Shape) (⟨5, ![1, 4, 8, 64, W]⟩ : Shape) h.1 start 4 = 0 := Host.clampedStart_of_le (s := (⟨5, ![64, 4, 8, 64, W]⟩ : Shape)) (t := (⟨5, ![1, 4, 8, 64, W]⟩ : Shape)) _ _ 4 0 h4 (by show 0 + W ≤ W; omega)
  refine congrArg x (funext fun a => Fin.ext ?_)
  match a with
  | ⟨0, _⟩ => show Host.clampedStart (⟨5, ![64, 4, 8, 64, W]⟩ : Shape) (⟨5, ![1, 4, 8, 64, W]⟩ : Shape) h.1 start 0 + 0 = j; rw [e0, Nat.add_zero]
  | ⟨1, _⟩ => show Host.clampedStart (⟨5, ![64, 4, 8, 64, W]⟩ : Shape) (⟨5, ![1, 4, 8, 64, W]⟩ : Shape) h.1 start 1 + b.val = b.val; rw [e1, Nat.zero_add]
  | ⟨2, _⟩ => show Host.clampedStart (⟨5, ![64, 4, 8, 64, W]⟩ : Shape) (⟨5, ![1, 4, 8, 64, W]⟩ : Shape) h.1 start 2 + c.val = c.val; rw [e2, Nat.zero_add]
  | ⟨3, _⟩ => show Host.clampedStart (⟨5, ![64, 4, 8, 64, W]⟩ : Shape) (⟨5, ![1, 4, 8, 64, W]⟩ : Shape) h.1 start 3 + i.val = i.val; rw [e3, Nat.zero_add]
  | ⟨4, _⟩ => show Host.clampedStart (⟨5, ![64, 4, 8, 64, W]⟩ : Shape) (⟨5, ![1, 4, 8, 64, W]⟩ : Shape) h.1 start 4 + d.val = d.val; rw [e4, Nat.zero_add]

/-- One chunk's update: the chunk's own rows are the update's, the others stay. -/
theorem update5 (x : FVec Ideal S64x4x8x64x512 .f32) (u : FVec Ideal S1x4x8x64x512 .f32) (start : Fin 5 → ℤ) (h : S64x4x8x64x512.Slices (fun _ => 0) S1x4x8x64x512)
    (j : ℕ) (hj : j < 64) (h0 : start 0 = j) (h1 : start 1 = 0) (h2 : start 2 = 0) (h3 : start 3 = 0) (h4 : start 4 = 0) (n : Fin 64) (b : Fin 4) (c : Fin 8) (i : Fin 64) (d : Fin 512) :
    Host.dynamicUpdateSlice x u start h (ix5 n b c i d) = if (n : ℕ) = j then u (ix5 0 b c i d) else x (ix5 n b c i d) := by
  have e0 : Host.clampedStart S64x4x8x64x512 S1x4x8x64x512 h.1 start 0 = j := Host.clampedStart_of_le _ _ _ j h0 (by show j + 1 ≤ 64; omega)
  have e1 : Host.clampedStart S64x4x8x64x512 S1x4x8x64x512 h.1 start 1 = 0 := Host.clampedStart_of_le _ _ _ 0 h1 (by show 0 + 4 ≤ 4; omega)
  have e2 : Host.clampedStart S64x4x8x64x512 S1x4x8x64x512 h.1 start 2 = 0 := Host.clampedStart_of_le _ _ _ 0 h2 (by show 0 + 8 ≤ 8; omega)
  have e3 : Host.clampedStart S64x4x8x64x512 S1x4x8x64x512 h.1 start 3 = 0 := Host.clampedStart_of_le _ _ _ 0 h3 (by show 0 + 64 ≤ 64; omega)
  have e4 : Host.clampedStart S64x4x8x64x512 S1x4x8x64x512 h.1 start 4 = 0 := Host.clampedStart_of_le _ _ _ 0 h4 (by show 0 + 512 ≤ 512; omega)
  rw [Host.dynamicUpdateSlice_apply]
  by_cases hn : (n : ℕ) = j
  · rw [if_pos hn, dif_pos]
    · refine congrArg u (funext fun a => Fin.ext ?_)
      match a with
      | ⟨0, _⟩ => show n.val - Host.clampedStart S64x4x8x64x512 S1x4x8x64x512 h.1 start 0 = 0; rw [e0, hn, Nat.sub_self]
      | ⟨1, _⟩ => show b.val - Host.clampedStart S64x4x8x64x512 S1x4x8x64x512 h.1 start 1 = b.val; rw [e1, Nat.sub_zero]
      | ⟨2, _⟩ => show c.val - Host.clampedStart S64x4x8x64x512 S1x4x8x64x512 h.1 start 2 = c.val; rw [e2, Nat.sub_zero]
      | ⟨3, _⟩ => show i.val - Host.clampedStart S64x4x8x64x512 S1x4x8x64x512 h.1 start 3 = i.val; rw [e3, Nat.sub_zero]
      | ⟨4, _⟩ => show d.val - Host.clampedStart S64x4x8x64x512 S1x4x8x64x512 h.1 start 4 = d.val; rw [e4, Nat.sub_zero]
    · intro a
      match a with
      | ⟨0, _⟩ => show Host.clampedStart S64x4x8x64x512 S1x4x8x64x512 h.1 start 0 ≤ n.val ∧ n.val < Host.clampedStart S64x4x8x64x512 S1x4x8x64x512 h.1 start 0 + 1; rw [e0]; omega
      | ⟨1, _⟩ => show Host.clampedStart S64x4x8x64x512 S1x4x8x64x512 h.1 start 1 ≤ b.val ∧ b.val < Host.clampedStart S64x4x8x64x512 S1x4x8x64x512 h.1 start 1 + 4; rw [e1]; omega
      | ⟨2, _⟩ => show Host.clampedStart S64x4x8x64x512 S1x4x8x64x512 h.1 start 2 ≤ c.val ∧ c.val < Host.clampedStart S64x4x8x64x512 S1x4x8x64x512 h.1 start 2 + 8; rw [e2]; omega
      | ⟨3, _⟩ => show Host.clampedStart S64x4x8x64x512 S1x4x8x64x512 h.1 start 3 ≤ i.val ∧ i.val < Host.clampedStart S64x4x8x64x512 S1x4x8x64x512 h.1 start 3 + 64; rw [e3]; omega
      | ⟨4, _⟩ => show Host.clampedStart S64x4x8x64x512 S1x4x8x64x512 h.1 start 4 ≤ d.val ∧ d.val < Host.clampedStart S64x4x8x64x512 S1x4x8x64x512 h.1 start 4 + 512; rw [e4]; omega
  · rw [if_neg hn, dif_neg]
    intro hall
    have := hall 0
    have h' : Host.clampedStart S64x4x8x64x512 S1x4x8x64x512 h.1 start 0 ≤ n.val ∧ n.val < Host.clampedStart S64x4x8x64x512 S1x4x8x64x512 h.1 start 0 + 1 := this
    rw [e0] at h'
    omega

/-- A trip's queries. -/
theorem b4_apply (j : ℕ) (hj : j < 64) (s : State Ideal) (b : Fin 4) (h : Fin 8) (i : Fin 64) (d : Fin 256) :
    b4 (F := Ideal) j s (ix5 0 b h i d) = s.main_v132_0 (ix5 ⟨j, hj⟩ b h i d) :=
  slice5 _ _ _ j hj (toInt_nat j (by omega)) rfl rfl rfl rfl b h i d
/-- A trip's decayed keys. -/
theorem b10_apply (j : ℕ) (hj : j < 64) (s : State Ideal) (b : Fin 4) (h : Fin 8) (i : Fin 64) (d : Fin 256) :
    b10 (F := Ideal) j s (ix5 0 b h i d) = s.main_v132_1 (ix5 ⟨j, hj⟩ b h i d) :=
  slice5 _ _ _ j hj (toInt_nat j (by omega)) rfl rfl rfl rfl b h i d
/-- A trip's values. -/
theorem b16_apply (j : ℕ) (hj : j < 64) (s : State Ideal) (b : Fin 4) (h : Fin 8) (i : Fin 64) (d : Fin 512) :
    b16 (F := Ideal) j s (ix5 0 b h i d) = s.main_v132_2 (ix5 ⟨j, hj⟩ b h i d) :=
  slice5 _ _ _ j hj (toInt_nat j (by omega)) rfl rfl rfl rfl b h i d
/-- A trip's own masked part. -/
theorem b22_apply (j : ℕ) (hj : j < 64) (s : State Ideal) (b : Fin 4) (h : Fin 8) (i : Fin 64) (d : Fin 512) :
    b22 (F := Ideal) j s (ix5 0 b h i d) = s.main_v132_3 (ix5 ⟨j, hj⟩ b h i d) :=
  slice5 _ _ _ j hj (toInt_nat j (by omega)) rfl rfl rfl rfl b h i d
/-- The outputs after a trip. -/
theorem b39_apply (j : ℕ) (hj : j < 64) (s : State Ideal) (n : Fin 64) (b : Fin 4) (h : Fin 8) (i : Fin 64) (d : Fin 512) :
    b39 (F := Ideal) j s (ix5 n b h i d) = if (n : ℕ) = j then b34 j s (ix5 0 b h i d) else s.main_v132_8 (ix5 n b h i d) :=
  update5 _ _ _ _ j hj (toInt_nat j (by omega)) rfl rfl rfl rfl n b h i d

/-- A trip's outputs. -/
theorem b34_apply (j : ℕ) (s : State Ideal) (b : Fin 4) (h : Fin 8) (i : Fin 64) (e : Fin 512) :
    b34 (F := Ideal) j s (ix5 0 b h i e) = b22 j s (ix5 0 b h i e) + (∑ d, b4 j s (ix5 0 b h i d) * s.main_v132_7 (ix4 b h d e)) * K_main_v106 (F := Ideal) (ix2 h i) := by
  pointwise [b34, b33, b32, b31, b30, b24, b23, b5]

/-- The state after a trip. -/
theorem b29_apply (j : ℕ) (s : State Ideal) (b : Fin 4) (h : Fin 8) (d : Fin 256) (e : Fin 512) :
    b29 (F := Ideal) j s (ix4 b h d e) = s.main_v132_7 (ix4 b h d e) * K_main_v117 (F := Ideal) (ix1 h) + ∑ i, b10 j s (ix5 0 b h i d) * b16 j s (ix5 0 b h i e) := by
  pointwise [b29, b28, b27, b26, b25, b17, b11]

/-- The products of a chunk's queries and keys. -/
theorem A118_dot (X Y : FVec Ideal S4x64x8x64x256 .f32) (b : Fin 4) (n : Fin 64) (h : Fin 8) (i j : Fin 64) :
    Host.dotGeneral (F := Ideal) dot_S4x64x8x64x256_S4x64x8x64x256_S4x64x8x64x64_4_4_3_3_012_012 none X Y (ix5 b n h i j) = ∑ d, X (ix5 b n h i d) * Y (ix5 b n h j d) := by
  pointwise

/-- A chunk's masked products against its values. -/
theorem A122_dot (X : FVec Ideal S4x64x8x64x64 .f32) (Y : FVec Ideal S4x64x8x64x512 .f32) (b : Fin 4) (n : Fin 64) (h : Fin 8) (i : Fin 64) (e : Fin 512) :
    Host.dotGeneral (F := Ideal) dot_S4x64x8x64x64_S4x64x8x64x512_S4x64x8x64x512_4_3_3_4_012_012 none X Y (ix5 b n h i e) = ∑ j, X (ix5 b n h i j) * Y (ix5 b n h j e) := by
  pointwise

/-- The query columns. -/
theorem A5_apply (a0 : Vec Ideal S16384x4096 .f32) (a1 : Vec Ideal S16384x4096 .bf16) (b : Fin 4) (s : Fin 4096) (h : Fin 8) (d : Fin 256) :
    A_main_v5 (F := Ideal) a0 a1 (ix4 b s h d) = a0 (ix2 ⟨b * 4096 + s, by omega⟩ ⟨h * 256 + d, by omega⟩) := by
  pointwise [A_main_v5, A_main_v1, A_main_v0]

/-- The key columns. -/
theorem A35_apply (a0 : Vec Ideal S16384x4096 .f32) (a1 : Vec Ideal S16384x4096 .bf16) (b : Fin 4) (s : Fin 4096) (h : Fin 8) (d : Fin 256) :
    A_main_v35 (F := Ideal) a0 a1 (ix4 b s h d) = a0 (ix2 ⟨b * 4096 + s, by omega⟩ ⟨2048 + (h * 256 + d), by omega⟩) := by
  pointwise [A_main_v35, A_main_v2, A_main_v0]

/-- The rotated queries. -/
theorem A34_apply (a0 : Vec Ideal S16384x4096 .f32) (a1 : Vec Ideal S16384x4096 .bf16) (b : Fin 4) (s : Fin 4096) (h : Fin 8) (d : Fin 256) :
    A_main_v34 (F := Ideal) a0 a1 (ix4 b s h d) = rotE (fun d => A_main_v5 (F := Ideal) a0 a1 (ix4 b s h d)) (fun j => K_main_v18 (F := Ideal) (ix2 s j))
      (fun j => K_main_v20 (F := Ideal) (ix2 s j)) d := by
  unfold rotE
  pointwise [A_main_v34, A_main_v33, A_main_v32, A_main_v30, A_main_v28, A_main_v27, A_main_v25, A_main_v23, A_main_v22,
    K_main_v24, K_main_v26, K_main_v29, K_main_v31, K_main_v19, K_main_v21]

/-- The rotated keys. -/
theorem A64_apply (a0 : Vec Ideal S16384x4096 .f32) (a1 : Vec Ideal S16384x4096 .bf16) (b : Fin 4) (s : Fin 4096) (h : Fin 8) (d : Fin 256) :
    A_main_v64 (F := Ideal) a0 a1 (ix4 b s h d) = rotE (fun d => A_main_v35 (F := Ideal) a0 a1 (ix4 b s h d)) (fun j => K_main_v48 (F := Ideal) (ix2 s j))
      (fun j => K_main_v50 (F := Ideal) (ix2 s j)) d := by
  unfold rotE
  pointwise [A_main_v64, A_main_v63, A_main_v62, A_main_v60, A_main_v58, A_main_v57, A_main_v55, A_main_v53, A_main_v52,
    K_main_v54, K_main_v56, K_main_v59, K_main_v61, K_main_v49, K_main_v51]

end Cert.Ret

end
-- ==== Proof.Ret.RefVal.lean ====
/- The retention reference's result: after each trip its state and its outputs are the retention state and outputs of every batch and head. -/
module

public import proofs.«01_k».proof.Proof.Ret.RefA

@[expose] public section

set_option maxRecDepth 16384

noncomputable section

namespace Cert.Ret

open Idealize.ShloMosaic Cert.ReferenceIdeal Cert.ReferenceIdeal.Step Cert.ReferenceIdeal.Gen

variable (a0 : Vec Ideal S16384x4096 .f32) (a1 : Vec Ideal S16384x4096 .bf16)

/-- The queries and keys by row and column. -/
def xR (r : Fin 16384) (k : Fin 4096) : EReal := a0 (ix2 r k)
/-- The values by row and column. -/
def yR (r : Fin 16384) (k : Fin 4096) : EReal := a1 (ix2 r k)

variable {a0 a1}

/-- A chunk's queries are the rotated queries of its positions. -/
theorem q_ref (hx : Fini (xR a0)) (b : Fin 4) (n : Fin 64) (h : Fin 8) (i : Fin 64) (d : Fin 256) :
    A_main_v69 (F := Ideal) a0 a1 (ix5 b n h i d) = ((qS (xR a0) b h (n * 64 + i) d : ℝ) : EReal) := by
  refine (tr69_apply (A_main_v34 (F := Ideal) a0 a1) b n h i d).trans ?_
  rw [A34_apply]
  refine rotE_coe (fun d => ?_) (fun j => rtab18 _ j) (fun j => rtab20 _ j) d
  rw [← hx.coe, A5_apply]
  exact congrArg (fun r => a0 (ix2 r _)) (Fin.ext (by dsimp only [row]; omega))

/-- A chunk's keys are the rotated and scaled keys of its positions. -/
theorem k_ref (hx : Fini (xR a0)) (b : Fin 4) (n : Fin 64) (h : Fin 8) (i : Fin 64) (d : Fin 256) :
    A_main_v71 (F := Ideal) a0 a1 (ix5 b n h i d) = ((kS (xR a0) b h (n * 64 + i) d : ℝ) : EReal) := by
  refine (tr69_apply (A_main_v66 (F := Ideal) a0 a1) b n h i d).trans ?_
  show A_main_v64 (F := Ideal) a0 a1 _ * Ideal.ofBits .f32 0x3D800000#32 = _
  rw [A64_apply, ofBits_sixteenth, kS, EReal.coe_mul]
  refine congrArg (· * (((1 / 16 : ℝ)) : EReal)) (rotE_coe (fun d => ?_) (fun j => rtab18 _ j) (fun j => rtab20 _ j) d)
  rw [← hx.coe, A35_apply]
  exact congrArg (fun r => a0 (ix2 r _)) (Fin.ext (by dsimp only [row]; omega))

/-- A chunk's values are the values of its positions. -/
theorem v_ref (hy : Fini (yR a1)) (b : Fin 4) (n : Fin 64) (h : Fin 8) (i : Fin 64) (e : Fin 512) :
    A_main_v73 (F := Ideal) a0 a1 (ix5 b n h i e) = ((vS (yR a1) b h (n * 64 + i) e : ℝ) : EReal) := by
  refine (tr73_apply (A_main_v3 (F := Ideal) a0 a1) b n h i e).trans ?_
  rw [vS, ← hy.coe]
  exact congrArg (fun r => a1 (ix2 r _)) (Fin.ext (by dsimp only [row]; omega))

/-- A chunk's own masked part, as the sums its outputs begin with. -/
theorem intra_ref (b : Fin 4) (n : Fin 64) (h : Fin 8) (i : Fin 64) (e : Fin 512) :
    A_main_v122 (F := Ideal) a0 a1 (ix5 b n h i e)
      = ∑ j, (∑ d, A_main_v69 (F := Ideal) a0 a1 (ix5 b n h i d) * A_main_v71 (F := Ideal) a0 a1 (ix5 b n h j d)) * K_main_v98 (F := Ideal) (ix3 h i j)
          * A_main_v73 (F := Ideal) a0 a1 (ix5 b n h j e) := by
  unfold A_main_v122
  rw [A122_dot]
  refine Finset.sum_congr rfl fun j _ => ?_
  unfold A_main_v121
  rw [mulf_apply, K120_apply]
  unfold A_main_v118
  rw [A118_dot]
  rfl

/-- What holds before trip `n`. -/
structure Inv (a0 : Vec Ideal S16384x4096 .f32) (a1 : Vec Ideal S16384x4096 .bf16) (n : ℕ) (s : State Ideal) : Prop where
  q : s.main_v132_0 = A_main_v123 a0 a1
  k : s.main_v132_1 = A_main_v127 a0 a1
  v : s.main_v132_2 = A_main_v128 a0 a1
  o : s.main_v132_3 = A_main_v129 a0 a1
  st : ∀ b h d e, s.main_v132_7 (ix4 b h d e) = ((stS (xR a0) (yR a1) b h (n * 64) d e : ℝ) : EReal)
  out : ∀ (j : Fin 64) b h (i : Fin 64) e, (j : ℕ) < n → s.main_v132_8 (ix5 j b h i e) = ((outS (xR a0) (yR a1) b h (j * 64 + i) e : ℝ) : EReal)

/-- It holds before the first trip. -/
theorem inv_init : Inv a0 a1 0 (init (F := Ideal) a0 a1) where
  q := rfl
  k := rfl
  v := rfl
  o := rfl
  st b h d e := by
    show K_main_v130 (F := Ideal) (ix4 b h d e) = _
    rw [Nat.zero_mul, stS_zero, EReal.coe_zero]
    pointwise [K_main_v130, K_main_cst_14]
  out j b h i e hj := absurd hj (Nat.not_lt_zero _)

/-- A trip keeps it. -/
theorem inv_step (hx : Fini (xR a0)) (hy : Fini (yR a1)) (n : ℕ) (hn : n < 64) (s : State Ideal) (hi : Inv a0 a1 n s) : Inv a0 a1 (n + 1) (step (F := Ideal) n s) where
  q := hi.q
  k := hi.k
  v := hi.v
  o := hi.o
  st b h d e := by
    rw [step_main_v132_7, b29_apply]
    have hs := stE_coe (C := 64) (T := n * 64) (L := Lr h) (k := kS (xR a0) b h) (v := vS (yR a1) b h)
      (K := fun i d => A_main_v71 (F := Ideal) a0 a1 (ix5 b ⟨n, hn⟩ h i d)) (z := fun i => K_main_v114 (F := Ideal) (ix2 h i))
      (V := fun i e => A_main_v73 (F := Ideal) a0 a1 (ix5 b ⟨n, hn⟩ h i e)) (cd := K_main_v117 (F := Ideal) (ix1 h)) (st := fun d e => s.main_v132_7 (ix4 b h d e))
      (fun i d => k_ref hx b ⟨n, hn⟩ h i d) (fun i => rtab114 h i) (fun i e => v_ref hy b ⟨n, hn⟩ h i e) (rtab117 h) (fun d e => hi.st b h d e) d e
    rw [show (n + 1) * 64 = n * 64 + 64 by ring, stS, ← hs, stE]
    refine congrArg (_ + ·) (Finset.sum_congr rfl fun i _ => ?_)
    rw [b10_apply n hn, b16_apply n hn, hi.k, hi.v]
    refine congrArg₂ (· * ·) ?_ ?_
    · unfold A_main_v127
      rw [tr256_apply]
      unfold A_main_v126
      rw [mulf_apply, K125_apply]
      rfl
    · unfold A_main_v128
      rw [tr512_apply]
  out j b h i e hj := by
    rw [step_main_v132_8, b39_apply n hn]
    by_cases hjn : (j : ℕ) = n
    · rw [if_pos hjn, b34_apply]
      obtain rfl : j = ⟨n, hn⟩ := Fin.ext hjn
      have ho := oE_coe (C := 64) (T := n * 64) (L := Lr h) (q := qS (xR a0) b h) (k := kS (xR a0) b h) (v := vS (yR a1) b h)
        (Q := fun i d => A_main_v69 (F := Ideal) a0 a1 (ix5 b ⟨n, hn⟩ h i d)) (K := fun i d => A_main_v71 (F := Ideal) a0 a1 (ix5 b ⟨n, hn⟩ h i d))
        (V := fun i e => A_main_v73 (F := Ideal) a0 a1 (ix5 b ⟨n, hn⟩ h i e)) (dm := fun i j => K_main_v98 (F := Ideal) (ix3 h i j))
        (xi := fun i => K_main_v106 (F := Ideal) (ix2 h i)) (st := fun d e => s.main_v132_7 (ix4 b h d e))
        (fun i d => q_ref hx b ⟨n, hn⟩ h i d) (fun i d => k_ref hx b ⟨n, hn⟩ h i d) (fun i e => v_ref hy b ⟨n, hn⟩ h i e) (fun i j => rtab98 h i j) (fun i => rtab106 h i)
        (fun d e => hi.st b h d e) i e
      rw [outS, ← ho, oE]
      refine congrArg₂ (· + ·) ?_ (congrArg (· * K_main_v106 (F := Ideal) (ix2 h i)) (Finset.sum_congr rfl fun d _ => ?_))
      · rw [b22_apply n hn, hi.o]
        unfold A_main_v129
        rw [tr512_apply, intra_ref]
      · rw [b4_apply n hn, hi.q]
        unfold A_main_v123
        rw [tr256_apply]
    · rw [if_neg hjn]
      exact hi.out j b h i e (by omega)

/-- It holds before every trip and after the last. -/
theorem inv_all (hx : Fini (xR a0)) (hy : Fini (yR a1)) (it : ℕ → State Ideal) (h0 : it 0 = init a0 a1) (hs : ∀ n, it (n + 1) = step n (it n)) (n : ℕ) (hn : n ≤ 64) : Inv a0 a1 n (it n) := by
  induction n with
  | zero => rw [h0]; exact inv_init
  | succ n ih => rw [hs n]; exact inv_step hx hy n (by omega) _ (ih (by omega))

/-- What the reference makes of its loop's outputs. -/
theorem R_apply (s : State Ideal) (a2 : Vec Ideal S16384x4096 .f32) (a3 : Vec Ideal S4096 .f32) (r : Fin 16384) (k : Fin 4096) :
    R_main_v161 (F := Ideal) s a2 a3 (ix2 r k) = a2 (ix2 r k) * Ideal.div 1 (1 + Ideal.exp (-a2 (ix2 r k)))
      * (normE (fun e => s.main_v132_8 (ix5 ⟨r % 4096 / 64, by omega⟩ ⟨r / 4096, by omega⟩ ⟨k / 512, by omega⟩ ⟨r % 4096 % 64, by omega⟩ e)) ⟨k % 512, by omega⟩ * a3 (ix1 k)) := by
  unfold normE
  pointwise [R_main_v161]

/-- The reference's result, entry by entry. -/
theorem R_eq (s : State Ideal) (hi : Inv a0 a1 64 s) (a2 : Vec Ideal S16384x4096 .f32) (a3 : Vec Ideal S4096 .f32) (r : Fin 16384) (k : Fin 4096) :
    R_main_v161 (F := Ideal) s a2 a3 (ix2 r k) = res (xR a0) (yR a1) (fun r k => a2 (ix2 r k)) (fun k => a3 (ix1 k)) r k := by
  rw [R_apply]
  have ho : (fun e => s.main_v132_8 (ix5 ⟨(r : ℕ) % 4096 / 64, by omega⟩ ⟨(r : ℕ) / 4096, by omega⟩ ⟨(k : ℕ) / 512, by omega⟩ ⟨(r : ℕ) % 4096 % 64, by omega⟩ e))
      = fun e => ((outS (xR a0) (yR a1) ⟨(r : ℕ) / 4096, by omega⟩ ⟨(k : ℕ) / 512, by omega⟩ (r % 4096) e : ℝ) : EReal) := by
    funext e
    rw [hi.out _ _ _ _ _ (by dsimp only; omega), show (r : ℕ) % 4096 / 64 * 64 + r % 4096 % 64 = r % 4096 by omega]
  have hr : row ⟨(r : ℕ) / 4096, by omega⟩ (r % 4096) = r := Fin.ext (by dsimp only [row]; omega)
  have hk : (⟨(k : ℕ) / 512 * 512 + k % 512, by omega⟩ : Fin 4096) = k := Fin.ext (by dsimp only; omega)
  unfold res resS
  rw [ho, hr, hk]
  rfl

end Cert.Ret

end
-- ==== Proof.Ret.Final.lean ====
/- The two runs end at the same result: the precondition gives finite entries, and each run ends at the retention of the launched arrays. -/
module

public import proofs.«01_k».proof.Defs
public import proofs.«01_k».proof.Proof.RefLoop
public import proofs.«01_k».proof.Proof.Gen.Kernel.Frame
public import proofs.«01_k».proof.Proof.Ret.KVal
public import proofs.«01_k».proof.Proof.Ret.RefVal
public import Idealize.ShloMosaic.Lib.ReduceAll
public import Idealize.ShloMosaic.Adequacy

@[expose] public section

set_option maxRecDepth 16384

noncomputable section

namespace Cert.Ret

open Idealize.ShloMosaic Idealize.ShloMosaic.TcCoe Idealize.SL.Sem

/-- The precondition's own shape facts. -/
theorem preFacts : Cert.Pre_finite.Facts where
  bcast_S_S16384x4096 := by decide
  reducesTo_S16384x4096_S_d0_1 := by decide
  h_S_ := by decide
  bitsLt_bf16_f32 := by decide

/-- An entry whose absolute value is below infinity is a number. -/
theorem fin_of_lt (a : EReal) (h : Ideal.cmp .olt (max a (-a)) (Ideal.ofBits .f32 0x7F800000#32) = 1#1) : a ≠ ⊤ ∧ a ≠ ⊥ := by
  rw [show Ideal.ofBits .f32 0x7F800000#32 = ⊤ by simp [Ideal.ofBits, Ideal.ieee]] at h
  induction a using EReal.rec <;> simp_all [Ideal.cmp]

attribute [local instance] preFacts in
/-- The precondition makes the launched queries, keys and values finite. -/
theorem fini (m : (ℓ : Loc Cert.KernelIdeal.nD Cert.KernelIdeal.τ Cert.KernelIdeal.sig) → Buf (Elt Ideal) ℓ)
    (h : Cert.Pre_KernelIdeal_finite (hPre_finite := preFacts) m) (c : Dev Cert.KernelIdeal.nD) : Fini (xK m c) ∧ Fini (yK m c) := by
  have h0 := congrFun (h c) ix0
  dsimp only [Cert.Pre_finite.fn] at h0
  obtain ⟨hx, hy⟩ := IntOp.andi_eq_one.mp h0
  refine ⟨fun r k => ?_, fun r k => ?_⟩
  · exact fin_of_lt _ (Host.reduce_andi_all _ _ _ _ _ hx (ix2 r k))
  · exact fin_of_lt _ (Host.reduce_andi_all _ _ _ _ _ hy (ix2 r k))

/-- The idealized kernel ends at the retention of its arrays. -/
theorem runK (m : (ℓ : Loc Cert.KernelIdeal.nD Cert.KernelIdeal.τ Cert.KernelIdeal.sig) → Buf (Elt Ideal) ℓ) (ρ : Dev Cert.KernelIdeal.nD → PrngReg)
    (h : Cert.Pre_KernelIdeal_finite (hPre_finite := preFacts) m) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c : Thread Cert.KernelIdeal.nD Cert.KernelIdeal.τ).loc Cert.KernelIdeal.main_v66) = resArr m c
      ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
      ∧ r.2.mem ((c : Thread Cert.KernelIdeal.nD Cert.KernelIdeal.τ).loc Cert.KernelIdeal.main_arg3) = m ((c : Thread Cert.KernelIdeal.nD Cert.KernelIdeal.τ).loc Cert.KernelIdeal.main_arg3) :=
  (θ_run _ _ _).mono (fun _ hr c => ⟨(hr c).1.trans (final11 (fini m h c).1 (fini m h c).2), (hr c).2⟩) (Cert.KernelIdeal.Value.run_blocks (F := Ideal) m ρ)

section Reference

open Cert.ReferenceIdeal

/-- The reference's loop state before trip `n`. -/
def refIt (m : (ℓ : Loc nD τ sig) → Buf (Elt Ideal) ℓ) (c : Dev nD) (n : ℕ) : Cert.ReferenceIdeal.Step.State Ideal :=
  Nat.rec (Loop.initState m c) (fun n s => Step.step n s) n

/-- The reference's frame. -/
theorem frameR (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, Idealize.ShloMosaic.sem_eq_zero_of_no_sems (by decide) r.2⟩) (Value.run (F := Ideal) m ρ)

/-- The reference's result is the retention of its arrays. -/
theorem ref_res (m : (ℓ : Loc nD τ sig) → Buf (Elt Ideal) ℓ) (c : Dev nD)
    (hx : Fini (xR (m ((c.tc : Thread nD τ).loc main_arg0)))) (hy : Fini (yR (m ((c.tc : Thread nD τ).loc main_arg1))))
    (s : Step.State Ideal) (hs : s = refIt m c 64) (r : Fin 16384) (k : Fin 4096) :
    Step.R_main_v161 (F := Ideal) s (m ((c.tc : Thread nD τ).loc main_arg2)) (m ((c.tc : Thread nD τ).loc main_arg3)) (ix2 r k)
      = res (xR (m ((c.tc : Thread nD τ).loc main_arg0))) (yR (m ((c.tc : Thread nD τ).loc main_arg1)))
          (fun r k => (m ((c.tc : Thread nD τ).loc main_arg2) : Vec Ideal S16384x4096 .f32) (ix2 r k))
          (fun k => (m ((c.tc : Thread nD τ).loc main_arg3) : Vec Ideal S4096 .f32) (ix1 k)) r k := by
  subst hs
  exact R_eq _ (inv_all hx hy (refIt m c) rfl (fun _ => rfl) 64 (le_refl _)) _ _ r k

end Reference

/-- The idealized kernel and the reference end at one result. -/
theorem algebraic : Cert.algebraic_KernelIdeal_ReferenceIdeal_pre_finite (hPre_finite := preFacts) := by
  intro m ρ m' ρ' hp ha
  refine ⟨fun c => resArr m c, runK m ρ hp, ?_⟩
  refine (θ_run _ _ _).mono (fun _ h c => ⟨(h c).1.trans ?_, (h c).2⟩) (Cert.ReferenceIdeal.Loop.run_iter (F := Ideal) m' ρ' (fun c => refIt m' c) (fun _ => rfl) (fun _ _ => rfl))
  obtain ⟨h0, h1, h2, h3⟩ := ha c
  have hx : xR (m' ((c.tc : Thread Cert.ReferenceIdeal.nD Cert.ReferenceIdeal.τ).loc Cert.ReferenceIdeal.main_arg0)) = xK m c := by rw [h0]; rfl
  have hy : yR (m' ((c.tc : Thread Cert.ReferenceIdeal.nD Cert.ReferenceIdeal.τ).loc Cert.ReferenceIdeal.main_arg1)) = yK m c := by rw [h1]; rfl
  refine funext fun (i : Cert.KernelIdeal.S16384x4096.Idx) => ?_
  obtain ⟨r, k, rfl⟩ : ∃ r k, i = ix2 r k := ⟨i 0, i 1, eq_ix2 i⟩
  refine (ref_res m' c (hx ▸ (fini m hp c).1) (hy ▸ (fini m hp c).2) _ rfl r k).trans ?_
  rw [hx, hy, h2, h3]
  rfl

end Cert.Ret

end
-- ==== Proof.Lay.Norm.lean ====
/- The normalised row both the projections' kernels and their references form. -/
module

public import proofs.«01_k».proof.Defs
public import Idealize.ShloMosaic.Lib.Pointwise
public import Idealize.ShloMosaic.Lib.Pointwise.Index
public import Idealize.ShloMosaic.PureOps.Ideal

@[expose] public section

noncomputable section

namespace Cert.Lay

open Idealize.ShloMosaic

/-- One entry of a row divided by the root of its mean square, scaled by the gain. -/
def nrm (x g : Fin 2048 → EReal) (k : Fin 2048) : EReal :=
  x k * Ideal.rsqrt (Ideal.div (∑ l : Fin 2048, x l * x l) (Ideal.ofBits .f32 0x45000000#32) + Ideal.ofBits .f32 0x358637BD#32) * g k

/-- One entry of the normalised rows' product with a column of weights. -/
def pr (x : Vec Ideal ⟨2, ![16384, 2048]⟩ .f32) (g : Vec Ideal ⟨1, ![2048]⟩ .f32) (w : Fin 2048 → EReal) (r : Fin 16384) : EReal :=
  ∑ k : Fin 2048, nrm (fun l => x (ix2 r l)) (fun l => g (ix1 l)) k * w k

theorem hz2 : (![0, 0] : Fin 2 → Nat) = fun _ => 0 := funext fun a => by fin_cases a <;> rfl

end Cert.Lay

end
-- ==== Proof.Lay.InRun.lean ====
/- The retention's input projection at one grid point: what each branch of the body leaves in the buffers it stores into. -/
module

public import proofs.«01_k».proof.Proof.Lay.Norm
public import proofs.«01_k».proof.Proof.Gen.Kernel2Ideal.Frame

@[expose] public section

set_option maxRecDepth 16384

noncomputable section

namespace Cert.LayIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen Cert.Lay

variable {F : FTy → Type} [FloatOps F]

local notation "𝕄" => MT nD τ sig Unit (Elt F) ℕ (UR sig nD τ) ℕ

theorem hz3 : (![0, 0, 0] : Fin 3 → ℕ) = fun _ => 0 := by
  funext a
  match a with
  | ⟨0, _⟩ => rfl
  | ⟨1, _⟩ => rfl
  | ⟨2, _⟩ => rfl

/-- The normalised rows the first point of a row of blocks stores. -/
def hnv (x : Vec F S1024x2048 .f32) (g : Vec F S1x2048 .f32) : FVec F S1024x2048 .bf16 :=
  shapeCast S1024x2048 (truncf .bf16 (mulf (mulf x (broadcastTo S1024x2048 (rsqrt (addf (divf (shapeCast S1024x1
    (multiReduction .add [1] S1024 (mulf x x) 0x00000000#32 reduces_S1024x2048_S1024 (.inl rfl) rfl) shapeCasts_S1024_S1024x1)
    (broadcast S1024x1 (Scalar.ofBits .f32 0x45000000#32))) (broadcast S1024x1 (Scalar.ofBits .f32 0x358637BD#32))))
    broadcasts_S1024x1_S1024x2048)) (broadcastTo S1024x2048 (shapeCast S1x2048 g shapeCasts_S1x2048_S1x2048) broadcasts_S1x2048_S1024x2048))
    bitsLt_bf16_f32) shapeCasts_S1024x2048_S1024x2048

/-- The product of normalised rows with a block of weights. -/
def prod (h : Vec F S1024x2048 .bf16) (w : Vec F S1x2048x1024 .bf16) : FVec F S1024x1024 .f32 :=
  matmul dot_S1024x2048_S2048x1024_S1024x1024_1_0_0_1_n_n none h (shapeCast S2048x1024 w shapeCasts_S1x2048x1024_S2048x1024 : FVec F S2048x1024 .bf16)
    (constant S1024x1024 .f32 0x00000000#32)

/-- The same product stored at half width. -/
def prodH (h : Vec F S1024x2048 .bf16) (w : Vec F S1x2048x1024 .bf16) : FVec F S1024x1024 .bf16 := truncf .bf16 (prod h w) bitsLt_bf16_f32

/-- The first branch is taken at the first point of a row of blocks. -/
abbrev cond1 (i : grid0.Coords) : Prop := (Scalar.cmpi .ne (Scalar.extui (Scalar.cmpi .eq (BitVec.ofNat 32 (i 1).val) 0#32)) 0#32) = 1#1

section Runs

variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S1x2048x1024 .bf16) (harg4 : arg4.IsWhole) (arg5 : Memref sig .tc .vmem S1024x1024 .f32) (harg5 : arg5.IsWhole)
  (arg6 : Memref sig .tc .vmem S1024x1024 .bf16) (harg6 : arg6.IsWhole) (arg7 : Memref sig .tc .vmem S1024x1024 .f32) (harg7 : arg7.IsWhole)
  (arg8 : Memref sig .tc .vmem S1024x2048 .bf16) (harg8 : arg8.IsWhole)

/-- A point of the first output that is not the first of its row. -/
theorem run3 (h1 : ¬cond1 i) (h2 : k0_cond2 i = 1#1) (h3 : ¬k0_cond3 i = 1#1) (h4 : ¬k0_cond4 i = 1#1)
    (w : Vec F S1x2048x1024 .bf16) (h : Vec F S1024x2048 .bf16) (E : Set ℕ) (K : PUnit → sProp 𝕄) :
    iprop(owns (c : Thread nD τ) arg4 fullShare w ∗ (∃ d, owns (c : Thread nD τ) arg5 fullShare d) ∗ owns (c : Thread nD τ) arg8 fullShare h
        ∗ (iprop(owns (c : Thread nD τ) arg4 fullShare w ∗ owns (c : Thread nD τ) arg5 fullShare (prod h w) ∗ owns (c : Thread nD τ) arg8 fullShare h) -∗ K ⟨⟩))
      ⊢ wp frame (wpE (defs₀ (F := F)) Variants.none c none) E (cc0_norm_matmul_split i arg2 harg2 arg3 harg3 arg4 harg4 arg5 harg5 arg6 harg6 arg7 harg7 arg8 harg8) K := by
  unfold cc0_norm_matmul_split
  unfold owns
  iintro ⟨⟨%f4, %hf4, H4⟩, ⟨%d5, %f5, -, H5⟩, ⟨%f8, %hf8, H8⟩, Hk⟩
  obtain rfl := harg4.eq_unread hf4; obtain rfl := harg8.eq_unread hf8
  sl_exec (disch := first | sl_exact h1 | sl_exact h2 | sl_exact h3 | sl_exact h4)
  sl_step
  iapply Hk
  isplitl [H4]
  · iexists _; isplitr; · ipureintro; exact harg4.read_unread _
    iexact H4
  isplitl [H5]
  · iexists _; isplitr
    swap; · iexact H5
    ipureintro
    refine (View.read_writes_eq_canon _ _ _ (View.cover_of_tiledL _ S1024x1024.size (by sl_kernel_rfl))).trans ?_
    sl_unfold_words
    rw [View.canon_unit_zero hz2]
    simp only [View.readAt_eq_ld, harg4.read_unread, harg8.read_unread, View.ld_unit_zero (S := S1024x2048) hz2, View.ld_unit_zero (S := S1x2048x1024) hz3]
    rfl
  iexists _; isplitr; · ipureintro; exact harg8.read_unread _
  iexact H8

/-- A point of the second output. -/
theorem run4 (h1 : ¬cond1 i) (h2 : ¬k0_cond2 i = 1#1) (h3 : k0_cond3 i = 1#1) (h4 : ¬k0_cond4 i = 1#1)
    (w : Vec F S1x2048x1024 .bf16) (h : Vec F S1024x2048 .bf16) (E : Set ℕ) (K : PUnit → sProp 𝕄) :
    iprop(owns (c : Thread nD τ) arg4 fullShare w ∗ (∃ d, owns (c : Thread nD τ) arg6 fullShare d) ∗ owns (c : Thread nD τ) arg8 fullShare h
        ∗ (iprop(owns (c : Thread nD τ) arg4 fullShare w ∗ owns (c : Thread nD τ) arg6 fullShare (prodH h w) ∗ owns (c : Thread nD τ) arg8 fullShare h) -∗ K ⟨⟩))
      ⊢ wp frame (wpE (defs₀ (F := F)) Variants.none c none) E (cc0_norm_matmul_split i arg2 harg2 arg3 harg3 arg4 harg4 arg5 harg5 arg6 harg6 arg7 harg7 arg8 harg8) K := by
  unfold cc0_norm_matmul_split
  unfold owns
  iintro ⟨⟨%f4, %hf4, H4⟩, ⟨%d5, %f5, -, H5⟩, ⟨%f8, %hf8, H8⟩, Hk⟩
  obtain rfl := harg4.eq_unread hf4; obtain rfl := harg8.eq_unread hf8
  sl_exec (disch := first | sl_exact h1 | sl_exact h2 | sl_exact h3 | sl_exact h4)
  sl_step
  iapply Hk
  isplitl [H4]
  · iexists _; isplitr; · ipureintro; exact harg4.read_unread _
    iexact H4
  isplitl [H5]
  · iexists _; isplitr
    swap; · iexact H5
    ipureintro
    refine (View.read_writes_eq_canon _ _ _ (View.cover_of_tiledL _ S1024x1024.size (by sl_kernel_rfl))).trans ?_
    sl_unfold_words
    rw [View.canon_unit_zero hz2]
    simp only [View.readAt_eq_ld, harg4.read_unread, harg8.read_unread, View.ld_unit_zero (S := S1024x2048) hz2, View.ld_unit_zero (S := S1x2048x1024) hz3]
    rfl
  iexists _; isplitr; · ipureintro; exact harg8.read_unread _
  iexact H8

/-- A point of the third output. -/
theorem run5 (h1 : ¬cond1 i) (h2 : ¬k0_cond2 i = 1#1) (h3 : ¬k0_cond3 i = 1#1) (h4 : k0_cond4 i = 1#1)
    (w : Vec F S1x2048x1024 .bf16) (h : Vec F S1024x2048 .bf16) (E : Set ℕ) (K : PUnit → sProp 𝕄) :
    iprop(owns (c : Thread nD τ) arg4 fullShare w ∗ (∃ d, owns (c : Thread nD τ) arg7 fullShare d) ∗ owns (c : Thread nD τ) arg8 fullShare h
        ∗ (iprop(owns (c : Thread nD τ) arg4 fullShare w ∗ owns (c : Thread nD τ) arg7 fullShare (prod h w) ∗ owns (c : Thread nD τ) arg8 fullShare h) -∗ K ⟨⟩))
      ⊢ wp frame (wpE (defs₀ (F := F)) Variants.none c none) E (cc0_norm_matmul_split i arg2 harg2 arg3 harg3 arg4 harg4 arg5 harg5 arg6 harg6 arg7 harg7 arg8 harg8) K := by
  unfold cc0_norm_matmul_split
  unfold owns
  iintro ⟨⟨%f4, %hf4, H4⟩, ⟨%d5, %f5, -, H5⟩, ⟨%f8, %hf8, H8⟩, Hk⟩
  obtain rfl := harg4.eq_unread hf4; obtain rfl := harg8.eq_unread hf8
  sl_exec (disch := first | sl_exact h1 | sl_exact h2 | sl_exact h3 | sl_exact h4)
  sl_step
  iapply Hk
  isplitl [H4]
  · iexists _; isplitr; · ipureintro; exact harg4.read_unread _
    iexact H4
  isplitl [H5]
  · iexists _; isplitr
    swap; · iexact H5
    ipureintro
    refine (View.read_writes_eq_canon _ _ _ (View.cover_of_tiledL _ S1024x1024.size (by sl_kernel_rfl))).trans ?_
    sl_unfold_words
    rw [View.canon_unit_zero hz2]
    simp only [View.readAt_eq_ld, harg4.read_unread, harg8.read_unread, View.ld_unit_zero (S := S1024x2048) hz2, View.ld_unit_zero (S := S1x2048x1024) hz3]
    rfl
  iexists _; isplitr; · ipureintro; exact harg8.read_unread _
  iexact H8

/-- The first point of a row of blocks: the normalised rows and the first output's block. -/
theorem run0 (h1 : cond1 i) (h2 : k0_cond2 i = 1#1) (h3 : ¬k0_cond3 i = 1#1) (h4 : ¬k0_cond4 i = 1#1)
    (x : Vec F S1024x2048 .f32) (g : Vec F S1x2048 .f32) (w : Vec F S1x2048x1024 .bf16) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg8 fullShare d)
        ∗ (iprop(owns (c : Thread nD τ) arg2 fullShare x ∗ owns (c : Thread nD τ) arg3 fullShare g ∗ owns (c : Thread nD τ) arg4 fullShare w
            ∗ owns (c : Thread nD τ) arg5 fullShare (prod (hnv x g) w) ∗ owns (c : Thread nD τ) arg8 fullShare (hnv x g)) -∗ K ⟨⟩))
      ⊢ wp frame (wpE (defs₀ (F := F)) Variants.none c none) E (cc0_norm_matmul_split i arg2 harg2 arg3 harg3 arg4 harg4 arg5 harg5 arg6 harg6 arg7 harg7 arg8 harg8) K := by
  unfold cc0_norm_matmul_split
  unfold owns
  iintro ⟨⟨%f2, %hf2, H2⟩, ⟨%f3, %hf3, H3⟩, ⟨%f4, %hf4, H4⟩, ⟨%d5, %f5, -, H5⟩, ⟨%d8, %f8, -, H8⟩, Hk⟩
  obtain rfl := harg2.eq_unread hf2; obtain rfl := harg3.eq_unread hf3; obtain rfl := harg4.eq_unread hf4
  sl_exec (disch := first | sl_exact h1 | sl_exact h2 | sl_exact h3 | sl_exact h4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (View.read_writes_eq_canon _ _ _ (View.cover_of_tiledL _ S1024x1024.size (by sl_kernel_rfl))).trans ?_
    sl_unfold_words
    rw [View.canon_unit_zero hz2]
    simp only [View.readAt_eq_ld, harg2.read_unread, harg3.read_unread, harg4.read_unread, View.readCov_unit_zero (S := S1024x2048) _ hz2,
      View.ld_unit_zero (S := S1024x2048) hz2, View.ld_unit_zero (S := S1x2048) hz2, View.ld_unit_zero (S := S1x2048x1024) hz3]
    rfl
  iexists _; isplitr
  swap; · iexact H8
  ipureintro
  refine (View.read_writes_eq_canon _ _ _ (View.cover_of_tiledL _ S1024x2048.size (by sl_kernel_rfl))).trans ?_
  sl_unfold_words
  rw [View.canon_unit_zero hz2]
  simp only [View.readAt_eq_ld, harg2.read_unread, harg3.read_unread, View.ld_unit_zero (S := S1024x2048) hz2, View.ld_unit_zero (S := S1x2048) hz2]
  rfl

end Runs

end Cert.LayIn

end
-- ==== Proof.Lay.InFrame.lean ====
/- The retention's input projection over its grid: every buffer's contents point by point, and the frames of both programs. -/
module

public import proofs.«01_k».proof.Proof.Lay.InRun
public import proofs.«01_k».proof.Proof.Gen.Kernel2
public import proofs.«01_k».proof.Defs
public import Idealize.ShloMosaic.Lib.Pipeline.TableIdle
public import Idealize.ShloMosaic.Lib.Claim

@[expose] public section

set_option maxRecDepth 16384

noncomputable section

namespace Cert.LayIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen Cert.Lay

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Which branches run at a point: the first at the start of a row of blocks, then one per output. -/
theorem conds : ∀ t : Fin grid0.N, (cond1 (grid0.coords t) ↔ t.val % 12 = 0) ∧ (k0_cond2 (grid0.coords t) = 1#1 ↔ t.val % 12 < 4)
    ∧ (k0_cond3 (grid0.coords t) = 1#1 ↔ 4 ≤ t.val % 12 ∧ t.val % 12 < 8) ∧ (k0_cond4 (grid0.coords t) = 1#1 ↔ 8 ≤ t.val % 12) := by decide +kernel

/-- Which points write an output's block back. -/
theorem flushes : ∀ t : Fin grid0.N, (win0_3.flushF t = true ↔ t.val % 12 < 3 ∨ t.val % 12 = 11)
    ∧ (win0_4.flushF t = true ↔ 4 ≤ t.val % 12 ∧ t.val % 12 < 7 ∨ t.val % 12 = 11) ∧ (win0_5.flushF t = true ↔ 8 ≤ t.val % 12) := by decide +kernel

theorem flush3 (t : Fin cfg0.N) : (cfg0.win 3).flush t = true ↔ t.val % 12 < 3 ∨ t.val % 12 = 11 := by
  rw [Window.flush_eq_flushF]; exact (flushes t).1
theorem flush4 (t : Fin cfg0.N) : (cfg0.win 4).flush t = true ↔ 4 ≤ t.val % 12 ∧ t.val % 12 < 7 ∨ t.val % 12 = 11 := by
  rw [Window.flush_eq_flushF]; exact (flushes t).2.1
theorem flush5 (t : Fin cfg0.N) : (cfg0.win 5).flush t = true ↔ 8 ≤ t.val % 12 := by
  rw [Window.flush_eq_flushF]; exact (flushes t).2.2

/-- Which points leave an output's buffer alone. -/
theorem idle3 (t : Fin cfg0.N) : cfg0.idle 3 (cfg0.grid.coords t) = true ↔ ¬t.val % 12 < 4 := by
  rw [← (conds t).2.1]
  show (!(k0_cond2 (grid0.coords t) == 1#1)) = true ↔ _
  simp
theorem idle4 (t : Fin cfg0.N) : cfg0.idle 4 (cfg0.grid.coords t) = true ↔ ¬(4 ≤ t.val % 12 ∧ t.val % 12 < 8) := by
  rw [← (conds t).2.2.1]
  show (!(k0_cond3 (grid0.coords t) == 1#1)) = true ↔ _
  simp
theorem idle5 (t : Fin cfg0.N) : cfg0.idle 5 (cfg0.grid.coords t) = true ↔ ¬8 ≤ t.val % 12 := by
  rw [← (conds t).2.2.2]
  show (!(k0_cond4 (grid0.coords t) == 1#1)) = true ↔ _
  simp

/-! ## What the buffers hold -/

/-- Grid points by number. -/
def pt (n : ℕ) : Fin cfg0.N := ⟨n % 192, lt_of_lt_of_eq (Nat.mod_lt _ (by decide)) (show cfg0.N = 192 from N_0).symm⟩

theorem pt_val (t : Fin cfg0.N) (n : ℕ) (h : n = t.val) : pt n = t :=
  Fin.ext ((congrArg (· % 192) h).trans (Nat.mod_eq_of_lt (lt_of_lt_of_eq t.isLt (show cfg0.N = 192 from N_0))))

/-- The normalised rows carried along row `r` of blocks. -/
def hn (c : Dev nD) (r : ℕ) : Vec F S1024x2048 .bf16 := hnv (iblk m c 0 (pt (r * 12))) (iblk m c 1 (pt (r * 12)))

/-- The first output's buffer after point `n`. -/
def out3 (c : Dev nD) (n : ℕ) : Vec F S1024x1024 .f32 := prod (hn m c (n / 12)) (iblk m c 2 (pt (n / 12 * 12 + min (n % 12) 3)))
/-- The second output's, once a point of the row has stored it. -/
def out4 (c : Dev nD) (n : ℕ) : Vec F S1024x1024 .bf16 := prodH (hn m c (n / 12)) (iblk m c 2 (pt (n / 12 * 12 + min (n % 12) 7)))
/-- The third output's, once a point of the row has stored it. -/
def out5 (c : Dev nD) (n : ℕ) : Vec F S1024x1024 .f32 := prod (hn m c (n / 12)) (iblk m c 2 (pt n))

/-- The scratch operand. -/
abbrev scM : Memref sig .tc .vmem S1024x2048 .bf16 := Memref.whole cc0_scratch0

/-- The invariant before the first point: the scratch at anything. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The invariant before point `n`: after the first point the scratch holds the normalised rows of the row before it. -/
def PhiS (c : Dev nD) : (n : ℕ) → n ≤ cfg0.N → sProp 𝕄
  | 0, _ => Pipeline.ΦA spec0 c
  | n + 1, _ => iprop(iprop(owns (c : Thread nD τ) scM fullShare (hn m c (n / 12))) ∗ (∃ r, prngReg c r))

theorem PhiS_pos (c : Dev nD) (n : ℕ) (h : n ≤ cfg0.N) (hz : n ≠ 0) :
    PhiS m c n h = iprop(iprop(owns (c : Thread nD τ) scM fullShare (hn m c ((n - 1) / 12))) ∗ (∃ r, prngReg c r)) := by
  cases n with
  | zero => exact absurd rfl hz
  | succ n => rfl

/-- At any point the scratch may be forgotten. -/
theorem PhiS_any (c : Dev nD) (n : ℕ) (h : n ≤ cfg0.N) : PhiS m c n h ⊢ Pipeline.ΦA spec0 c := by
  cases n with
  | zero => exact Idealize.SL.BI.Entails.refl _
  | succ n =>
    rw [PhiA_eq]
    show iprop(iprop(owns (c : Thread nD τ) scM fullShare (hn m c (n / 12))) ∗ (∃ r, prngReg c r)) ⊢ _
    iintro ⟨HS0, Hg⟩
    isplitl [HS0]
    · iexists _; iexact HS0
    iexact Hg

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t.val
    | ⟨4, _⟩ => out4 m c t.val
    | ⟨5, _⟩ => out5 m c t.val
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_cast (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = out3 m c t.val := by dsimp only [dats]
theorem after_4 (c : Dev nD) (t : Fin cfg0.N) : (dats m 0 c).after 4 t = out4 m c t.val := by dsimp only [dats]
theorem after_5 (c : Dev nD) (t : Fin cfg0.N) : (dats m 0 c).after 5 t = out5 m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- A buffer stored at a point that does not write it back, and left alone since, holds what was stored. -/
theorem before_kept (c : Dev nD) (w : Fin cfg0.W) (hw : (cfg0.win w).isOut = true) (hclip : ∀ (i : cfg0.grid.Coords) a, (cfg0.win w).clip i a = none)
    (t s : Fin cfg0.N) (d) (hst : s.val < t.val) (hs : cfg0.idle w (cfg0.grid.coords s) = false) (hf : (cfg0.win w).flush s = false)
    (hrun : ∀ j : Fin cfg0.N, s.val < j.val → j.val < t.val → cfg0.idle w (cfg0.grid.coords j) = true ∧ (cfg0.win w).flush j = false) :
    (dats m 0 c).before w t d = (dats m 0 c).after w s := by
  have hb := Nat.lt_of_le_of_lt (Nat.succ_le_of_lt hst) t.isLt
  have e : t.val - (t.val - (s.val + 1)) = s.val + 1 := by omega
  rw [(dats m 0 c).before_idle_run w (fun t => (cfg0.win w).fetch_out hw t) d (t.val - (s.val + 1)) t (Nat.sub_le _ _)
    (fun j h1 h2 => hrun j (by omega) h2)]
  rw [show (⟨t.val - (t.val - (s.val + 1)), by omega⟩ : Fin cfg0.N) = ⟨s.val + 1, hb⟩ from Fin.ext e]
  rw [(dats m 0 c).before_of_pos w _ (Nat.succ_ne_zero _) ((cfg0.win w).fetch_out hw _) d]
  rw [show (⟨s.val + 1 - 1, Nat.lt_of_le_of_lt (Nat.sub_le _ _) hb⟩ : Fin cfg0.N) = s from Fin.ext (Nat.add_sub_cancel _ _)]
  rw [hf, if_neg Bool.false_ne_true]
  unfold Dat.left
  rw [hs]
  show (dats m 0 c).kept w s d = _
  unfold Dat.kept
  rw [Pipeline.fill_of_clip_none w _ (hclip _) d ((dats m 0 c).after w s), Window.fill_cut]

theorem before_3 (c : Dev nD) (t : Fin cfg0.N) (ht : t.val % 12 = 11) (d) : (dats m 0 c).before 3 t d = (dats m 0 c).after 3 t := by
  refine (before_kept m c 3 rfl (fun _ _ => rfl) t ⟨t.val - 8, by omega⟩ d (by dsimp only; omega) ?_ ?_ ?_).trans ?_
  · rw [← Bool.not_eq_true, idle3]; dsimp only; omega
  · rw [← Bool.not_eq_true, flush3]; dsimp only; omega
  · intro j h1 h2
    dsimp only at h1
    rw [idle3, ← Bool.not_eq_true, flush3]
    omega
  · rw [after_3, after_3]
    unfold out3
    dsimp only
    rw [show (t.val - 8) / 12 = t.val / 12 by omega, show min ((t.val - 8) % 12) 3 = min (t.val % 12) 3 by omega]

theorem before_4 (c : Dev nD) (t : Fin cfg0.N) (ht : t.val % 12 = 11) (d) : (dats m 0 c).before 4 t d = (dats m 0 c).after 4 t := by
  refine (before_kept m c 4 rfl (fun _ _ => rfl) t ⟨t.val - 4, by omega⟩ d (by dsimp only; omega) ?_ ?_ ?_).trans ?_
  · rw [← Bool.not_eq_true, idle4]; dsimp only; omega
  · rw [← Bool.not_eq_true, flush4]; dsimp only; omega
  · intro j h1 h2
    dsimp only at h1
    rw [idle4, ← Bool.not_eq_true, flush4]
    omega
  · rw [after_4, after_4]
    unfold out4
    dsimp only
    rw [show (t.val - 4) / 12 = t.val / 12 by omega, show min ((t.val - 4) % 12) 7 = min (t.val % 12) 7 by omega]

/-- What is asked of an output's buffer where the body stores it. -/
theorem give_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- What is asked where the body leaves it alone: the buffer as found, holding the stored block if it is written back there. -/
theorem give_idle (c : Dev nD) (w : Fin cfg0.W) (t : Fin cfg0.N) (d) (h : cfg0.idle w (cfg0.grid.coords t) = true)
    (hf : (cfg0.win w).flush t = true → (dats m 0 c).before w t d = (dats m 0 c).after w t) :
    (owns (c : Thread nD τ) ((cfg0.win w).stage (cfg0.slots t w)) fullShare ((dats m 0 c).before w t d) : sProp 𝕄) ⊢ (dats m 0 c).leavesExact w t := by
  cases hfl : (cfg0.win w).flush t
  · rw [Dat.leavesExact_idle _ w t h hfl]
    iintro H; iexists d; iexact H
  · unfold Dat.leavesExact; rw [h, hfl, hf hfl]
    try exact Idealize.SL.BI.Entails.refl _

theorem give_3 (c : Dev nD) (t : Fin cfg0.N) (d) (h : ¬t.val % 12 < 4) :
    (owns (c : Thread nD τ) (st0_3 t) fullShare ((dats m 0 c).before 3 t d) : sProp 𝕄) ⊢ (dats m 0 c).leavesExact 3 t :=
  give_idle m c 3 t d ((idle3 t).mpr h) fun hf => before_3 m c t (by rw [flush3] at hf; omega) d
theorem give_4 (c : Dev nD) (t : Fin cfg0.N) (d) (h : ¬(4 ≤ t.val % 12 ∧ t.val % 12 < 8)) :
    (owns (c : Thread nD τ) (st0_4 t) fullShare ((dats m 0 c).before 4 t d) : sProp 𝕄) ⊢ (dats m 0 c).leavesExact 4 t :=
  give_idle m c 4 t d ((idle4 t).mpr h) fun hf => before_4 m c t (by rw [flush4] at hf; omega) d
theorem give_5 (c : Dev nD) (t : Fin cfg0.N) (d) (h : ¬8 ≤ t.val % 12) :
    (owns (c : Thread nD τ) (st0_5 t) fullShare ((dats m 0 c).before 5 t d) : sProp 𝕄) ⊢ (dats m 0 c).leavesExact 5 t :=
  give_idle m c 5 t d ((idle5 t).mpr h) fun hf => absurd ((flush5 t).mp hf) h

theorem hn_first (c : Dev nD) (t : Fin cfg0.N) (h : t.val % 12 = 0) : hnv (iblk m c 0 t) (iblk m c 1 t) = hn m c (t.val / 12) := by
  unfold hn; rw [pt_val t (t.val / 12 * 12) (by omega)]
theorem live_3 (c : Dev nD) (t : Fin cfg0.N) (h : t.val % 12 < 4) :
    (dats m 0 c).leavesExact 3 t = owns (c : Thread nD τ) (st0_3 t) fullShare (prod (hn m c (t.val / 12)) (iblk m c 2 t)) := by
  rw [give_live m c 3 t (by rw [← Bool.not_eq_true, idle3]; omega), after_3]
  unfold out3; rw [pt_val t _ (by omega)]
theorem live_4 (c : Dev nD) (t : Fin cfg0.N) (h : 4 ≤ t.val % 12 ∧ t.val % 12 < 8) :
    (dats m 0 c).leavesExact 4 t = owns (c : Thread nD τ) (st0_4 t) fullShare (prodH (hn m c (t.val / 12)) (iblk m c 2 t)) := by
  rw [give_live m c 4 t (by rw [← Bool.not_eq_true, idle4]; omega), after_4]
  unfold out4; rw [pt_val t _ (by omega)]
theorem live_5 (c : Dev nD) (t : Fin cfg0.N) (h : 8 ≤ t.val % 12) :
    (dats m 0 c).leavesExact 5 t = owns (c : Thread nD τ) (st0_5 t) fullShare (prod (hn m c (t.val / 12)) (iblk m c 2 t)) := by
  rw [give_live m c 5 t (by rw [← Bool.not_eq_true, idle5]; omega), after_5]
  unfold out5; rw [pt_val t _ rfl]

/-! ## The body at any point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t ∗ (dats m 0 c).leavesExact 4 t ∗ (dats m 0 c).leavesExact 5 t)

/-- After a point the invariant is the normalised rows of its row of blocks. -/
theorem Phi_succ (c : Dev nD) (t : Fin cfg0.N) :
    (dats m 0 c).Φ t.succ = iprop(iprop(owns (c : Thread nD τ) scM fullShare (hn m c (t.val / 12))) ∗ (∃ r, prngReg c r)) := rfl

/-- Before a point inside a row it is already. -/
theorem Phi_mid (c : Dev nD) (t : Fin cfg0.N) (h : t.val % 12 ≠ 0) :
    (dats m 0 c).Φ t.castSucc = iprop(iprop(owns (c : Thread nD τ) scM fullShare (hn m c (t.val / 12))) ∗ (∃ r, prngReg c r)) := by
  rw [Phi_cast, PhiS_pos m c _ _ (by omega), show (t.val - 1) / 12 = t.val / 12 by omega]

theorem Phi_any (c : Dev nD) (t : Fin cfg0.N) :
    (dats m 0 c).Φ t.castSucc ⊢ iprop(iprop((∃ d, owns (c : Thread nD τ) scM fullShare d)) ∗ (∃ r, prngReg c r)) := by
  rw [Phi_cast, ← PhiA_eq]; exact PhiS_any m c _ _

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1, after_2, Phi_succ]
  obtain ⟨k1, k2, k3, k4⟩ := conds t
  by_cases h0 : t.val % 12 = 0
  · rw [live_3 m c t (by omega), ← hn_first m c t h0]
    iintro ⟨HΦ, Ho, ⟨%d0, H0⟩, ⟨%d1, H1⟩, ⟨%d2, H2⟩, ⟨%d3, H3⟩, ⟨%d4, H4⟩, ⟨%d5, H5⟩⟩
    ihave HΦ := (Phi_any m c t) $$ HΦ
    icases HΦ with ⟨HS, Hg⟩
    ihave H4 := (give_4 m c t d4 (by omega)) $$ H4
    ihave H5 := (give_5 m c t d5 (by omega)) $$ H5
    iapply (run0 c (grid0.coords t) _ _ _ _ _ _ _ _ _ _ _ _ _ _ (k1.mpr h0) (k2.mpr (by omega)) (mt k3.mp (by omega)) (mt k4.mp (by omega))
      (iblk m c 0 t) (iblk m c 1 t) (iblk m c 2 t) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  rw [Phi_mid m c t h0]
  iintro ⟨⟨HS, Hg⟩, Ho, ⟨%d0, H0⟩, ⟨%d1, H1⟩, ⟨%d2, H2⟩, ⟨%d3, H3⟩, ⟨%d4, H4⟩, ⟨%d5, H5⟩⟩
  by_cases h4 : t.val % 12 < 4
  · rw [live_3 m c t h4]
    ihave H4 := (give_4 m c t d4 (by omega)) $$ H4
    ihave H5 := (give_5 m c t d5 (by omega)) $$ H5
    iapply (run3 c (grid0.coords t) _ _ _ _ _ _ _ _ _ _ _ _ _ _ (mt k1.mp h0) (k2.mpr h4) (mt k3.mp (by omega)) (mt k4.mp (by omega)) (iblk m c 2 t) _ Set.univ _)
    isplitl [H2]; · iexact H2
    isplitl [H3]; · iexists _; iexact H3
    isplitl [HS]; · iexact HS
    iintro ⟨H2, H3, HS⟩
    iframe
  by_cases h8 : t.val % 12 < 8
  · rw [live_4 m c t (by omega)]
    ihave H3 := (give_3 m c t d3 h4) $$ H3
    ihave H5 := (give_5 m c t d5 (by omega)) $$ H5
    iapply (run4 c (grid0.coords t) _ _ _ _ _ _ _ _ _ _ _ _ _ _ (mt k1.mp h0) (mt k2.mp h4) (k3.mpr (by omega)) (mt k4.mp (by omega)) (iblk m c 2 t) _ Set.univ _)
    isplitl [H2]; · iexact H2
    isplitl [H4]; · iexists _; iexact H4
    isplitl [HS]; · iexact HS
    iintro ⟨H2, H4, HS⟩
    iframe
  · rw [live_5 m c t (by omega)]
    ihave H3 := (give_3 m c t d3 h4) $$ H3
    ihave H4 := (give_4 m c t d4 (by omega)) $$ H4
    iapply (run5 c (grid0.coords t) _ _ _ _ _ _ _ _ _ _ _ _ _ _ (mt k1.mp h0) (mt k2.mp h4) (mt k3.mp (by omega)) (k4.mpr (by omega)) (iblk m c 2 t) _ Set.univ _)
    isplitl [H2]; · iexact H2
    isplitl [H5]; · iexists _; iexact H5
    isplitl [HS]; · iexact HS
    iintro ⟨H2, H5, HS⟩
    iframe

/-- The body table's row at a point is the body there. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

/-! ## The run and the frames -/

-- the launch's implicit arguments are found by unifying its conclusion with this one, which unfolds definitions in types
set_option backward.isDefEq.respectTransparency.types false in
/-- The run of either program, for any values. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The idealized program's frame. -/
theorem frameI : Cert.quiescent_Kernel2Ideal := fun m ρ _ => frame m ρ

/-- Both programs call one body at every label. -/
theorem defs_eq : (Cert.Kernel2.defs (F := Bits)) = Cert.Kernel2Ideal.defs := by sl_kernel_rfl

/-- The program's frame: its text is the idealized one's, so the same run at machine words. -/
theorem frameK : Cert.quiescent_Kernel2 := fun m ρ _ => by
  rw [defs_eq]
  exact (θ_run Cert.Kernel2Ideal.defs _ _).mono (fun _ h => h) (frame (F := Bits) m ρ)

end Cert.LayIn

end
-- ==== Proof.Lay.In.lean ====
/- The retention's input projection: normalised tokens times the weights' three column ranges, block by block. -/
module

public import proofs.«01_k».proof.Proof.Lay.InFrame
public import proofs.«01_k».proof.Proof.Gen.Reference2Ideal.Run
public import Idealize.ShloMosaic.Lib.Tactic
public import Idealize.ShloMosaic.Adequacy

@[expose] public section

set_option maxRecDepth 16384

noncomputable section

namespace Cert.LayIn

open Idealize.ShloMosaic Idealize.ShloMosaic.TcCoe Idealize.SL.Sem Cert.Lay

/-- One entry of the tokens' product with column `s` of the weights' first matrix. -/
def en (x : Vec Ideal ⟨2, ![16384, 2048]⟩ .f32) (g : Vec Ideal ⟨1, ![2048]⟩ .f32) (w : Vec Ideal ⟨3, ![2, 2048, 12288]⟩ .f32) (r : Fin 16384) (s : Fin 12288) : EReal :=
  pr x g (fun k => w (ix3 0 k s)) r

/-- The projection onto the 4096 columns from `lo` on, entry by entry. -/
def G (lo : ℕ) (hlo : lo + 4096 ≤ 12288) (x : Vec Ideal ⟨2, ![16384, 2048]⟩ .f32) (g : Vec Ideal ⟨1, ![2048]⟩ .f32) (w : Vec Ideal ⟨3, ![2, 2048, 12288]⟩ .f32) :
    (⟨2, ![16384, 4096]⟩ : Shape).Idx → EReal :=
  fun i => en x g w (i 0) ⟨lo + (i 1 : ℕ), Nat.lt_of_lt_of_le (Nat.add_lt_add_left (i 1).isLt lo) hlo⟩

section Ref

open Cert.Reference2Ideal Cert.Reference2Ideal.Gen

/-- The reference's product of the normalised tokens with all the columns. -/
abbrev P (x : FVec Ideal S16384x2048 .f32) (g : FVec Ideal S2048 .f32) (w : FVec Ideal S2x2048x12288 .f32) : FVec Ideal S16384x12288 .f32 :=
  Host.dotGeneral (F := Ideal) (φ₂ := .f32) dot_S16384x2048_S2048x12288_S16384x12288_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))) (shapeCast S2048x12288 (extractStridedSlice S1x2048x12288 ![0, 0, 0] w slices_S2x2048x12288_S1x2048x12288_0_0_0) shapeCasts_S1x2048x12288_S2048x12288)

/-- Its entries. -/
theorem P_eq (x : FVec Ideal S16384x2048 .f32) (g : FVec Ideal S2048 .f32) (w : FVec Ideal S2x2048x12288 .f32) (r : Fin 16384) (s : Fin 12288) :
    P x g w (ix2 r s) = en x g w r s := by
  unfold en pr nrm
  pointwise [P]

/-- The first result is two halves side by side. -/
theorem ref3 (p : FVec Ideal S16384x12288 .f32) (r : Fin 16384) (s : Fin 4096) :
    concatenate S16384x4096 1 [⟨S16384x2048, extractStridedSlice S16384x2048 ![0, 0] p slices_S16384x12288_S16384x2048_0_0⟩,
      ⟨S16384x2048, extractStridedSlice S16384x2048 ![0, 2048] p slices_S16384x12288_S16384x2048_0_2048⟩] concatenates_S16384x2048_S16384x2048_S16384x4096_d1 (ix2 r s)
      = p (ix2 r ⟨0 + s.val, by omega⟩) := by
  pointwise
  split
  · rfl
  · exact congrArg (fun n => p (ix2 r n)) (Fin.ext (by dsimp only; omega))

theorem ref4 (p : FVec Ideal S16384x12288 .f32) (r : Fin 16384) (s : Fin 4096) :
    (truncf (F := Ideal) .bf16 (extractStridedSlice S16384x4096 ![0, 4096] p slices_S16384x12288_S16384x4096_0_4096) bitsLt_bf16_f32 (ix2 r s) : EReal) = p (ix2 r ⟨4096 + s.val, by omega⟩) := by
  pointwise

theorem ref5 (p : FVec Ideal S16384x12288 .f32) (r : Fin 16384) (s : Fin 4096) :
    extractStridedSlice S16384x4096 ![0, 8192] p slices_S16384x12288_S16384x4096_0_8192 (ix2 r s) = p (ix2 r ⟨8192 + s.val, by omega⟩) := by
  pointwise

/-- The frame of the reference. -/
theorem frameR : Cert.quiescent_Reference2Ideal := fun m ρ _ =>
  (θ_run _ _ _).mono (fun r h => ⟨fun c => (h c).2.2.2, Idealize.ShloMosaic.sem_eq_zero_of_no_sems (by decide) r.2⟩) (Value.run (F := Ideal) m ρ)

end Ref

open Cert.Kernel2Ideal Cert.Kernel2Ideal.Gen

/-- The normalised rows, entry by entry. -/
theorem hnv_eq (x : Vec Ideal S1024x2048 .f32) (g : Vec Ideal S1x2048 .f32) (i : Fin 1024) (k : Fin 2048) :
    hnv (F := Ideal) x g (ix2 i k) = (nrm (fun l => x (ix2 i l)) (fun l => g (ix2 0 l)) k : EReal) := by
  unfold nrm
  pointwise [hnv]

/-- The product, entry by entry, -/
theorem prod_eq (h : Vec Ideal S1024x2048 .bf16) (w : Vec Ideal S1x2048x1024 .bf16) (i j : Fin 1024) :
    prod (F := Ideal) h w (ix2 i j) = ((∑ k : Fin 2048, h (ix2 i k) * w (ix3 0 k j)) : EReal) := by
  pointwise [prod]

/-- and at half width. -/
theorem prodH_eq (h : Vec Ideal S1024x2048 .bf16) (w : Vec Ideal S1x2048x1024 .bf16) (i j : Fin 1024) :
    prodH (F := Ideal) h w (ix2 i j) = ((∑ k : Fin 2048, h (ix2 i k) * w (ix3 0 k j)) : EReal) := by
  pointwise [prodH, prod]

variable (m : (ℓ : Loc nD τ sig) → Buf (Elt Ideal) ℓ) (c : Dev nD)

/-- The launched tokens. -/
abbrev xA : Vec Ideal S16384x2048 .f32 := m ((c : Thread nD τ).loc main_arg0)
/-- The launched gain. -/
abbrev gA : Vec Ideal S2048 .f32 := m ((c : Thread nD τ).loc main_arg1)
/-- The launched weights. -/
abbrev wA : Vec Ideal S2x2048x12288 .f32 := m ((c : Thread nD τ).loc main_arg2)

/-- The weights as the region finds them. -/
theorem V_w (i : S2x2048x12288.Idx) : (V (F := Ideal) m c main_v0 : Vec Ideal S2x2048x12288 .bf16) i = wA m c i := by
  dsimp only [V, hostOps0, List.flatten_cons, List.flatten_nil, List.append_nil, List.cons_append, List.nil_append]
  after_results
  rfl

/-- The gain as the region finds it. -/
theorem V_g (k : Fin 2048) : (V (F := Ideal) m c main_v1 : Vec Ideal S1x2048 .f32) (ix2 0 k) = gA m c (ix1 k) := by
  dsimp only [V, hostOps0, List.flatten_cons, List.flatten_nil, List.append_nil, List.cons_append, List.nil_append]
  after_results
  pointwise

/-- The inputs' block indices. -/
theorem idxIn : ∀ t : Fin grid0.N, (win0_0.index t 0 = t.val / 12 ∧ win0_0.index t 1 = 0) ∧ (win0_1.index t 0 = 0 ∧ win0_1.index t 1 = 0)
    ∧ (win0_2.index t 0 = 0 ∧ win0_2.index t 1 = 0 ∧ win0_2.index t 2 = t.val % 12) := by decide +kernel

/-- The outputs' block indices: an output's columns stand still before and after its own points. -/
theorem idxOut : ∀ t : Fin grid0.N, (win0_3.index t 0 = t.val / 12 ∧ win0_3.index t 1 = min (t.val % 12) 3) ∧ (win0_4.index t 0 = t.val / 12 ∧ win0_4.index t 1 = min (t.val % 12 - 4) 3)
    ∧ (win0_5.index t 0 = t.val / 12 ∧ win0_5.index t 1 = min (t.val % 12 - 8) 3) := by decide +kernel

/-- A point's rows of the tokens. -/
theorem x_blk (t : Fin cfg0.N) (i : Fin 1024) (k : Fin 2048) (r : Fin 16384) (hr : r.val = t.val / 12 * 1024 + i.val) :
    (iblk (F := Ideal) m c 0 t : Vec Ideal S1024x2048 .f32) (ix2 i k) = xA m c (ix2 r k) := by
  have e := (idxIn t).1
  refine (show _ = (V (F := Ideal) m c main_arg0 : Vec Ideal S16384x2048 .f32) (ix2 r k) from congrArg (V (F := Ideal) m c main_arg0) (funext fun a => Fin.ext ?_)).trans (congrFun (V_main_arg0 m c) _)
  match a with
  | ⟨0, _⟩ => show win0_0.index t 0 * 1024 + 1 * i.val = r.val; rw [e.1, hr, Nat.one_mul]
  | ⟨1, _⟩ => show win0_0.index t 1 * 2048 + 1 * k.val = k.val; rw [e.2]; omega

/-- A point's gain. -/
theorem g_blk (t : Fin cfg0.N) (k : Fin 2048) : (iblk (F := Ideal) m c 1 t : Vec Ideal S1x2048 .f32) (ix2 0 k) = gA m c (ix1 k) := by
  have e := (idxIn t).2.1
  refine (show _ = (V (F := Ideal) m c main_v1 : Vec Ideal S1x2048 .f32) (ix2 0 k) from congrArg (V (F := Ideal) m c main_v1) (funext fun a => Fin.ext ?_)).trans (V_g m c k)
  match a with
  | ⟨0, _⟩ => show win0_1.index t 0 * 1 + 1 * 0 = 0; rw [e.1]
  | ⟨1, _⟩ => show win0_1.index t 1 * 2048 + 1 * k.val = k.val; rw [e.2]; omega

/-- A point's columns of the weights. -/
theorem w_blk (t : Fin cfg0.N) (k : Fin 2048) (j : Fin 1024) (s : Fin 12288) (hs : s.val = t.val % 12 * 1024 + j.val) :
    (iblk (F := Ideal) m c 2 t : Vec Ideal S1x2048x1024 .bf16) (ix3 0 k j) = wA m c (ix3 0 k s) := by
  have e := (idxIn t).2.2
  refine (show _ = (V (F := Ideal) m c main_v0 : Vec Ideal S2x2048x12288 .bf16) (ix3 0 k s) from congrArg (V (F := Ideal) m c main_v0) (funext fun a => Fin.ext ?_)).trans (V_w m c _)
  match a with
  | ⟨0, _⟩ => show win0_2.index t 0 * 1 + 1 * 0 = 0; rw [e.1]
  | ⟨1, _⟩ => show win0_2.index t 1 * 2048 + 1 * k.val = k.val; rw [e.2.1]; omega
  | ⟨2, _⟩ => show win0_2.index t 2 * 1024 + 1 * j.val = s.val; rw [e.2.2, hs, Nat.one_mul]

/-- The rows carried along a row of blocks, entry by entry. -/
theorem hn_eq (a : ℕ) (ha : a < 16) (i : Fin 1024) (k : Fin 2048) (r : Fin 16384) (hr : r.val = a * 1024 + i.val) :
    hn (F := Ideal) m c a (ix2 i k) = (nrm (fun l => xA m c (ix2 r l)) (fun l => gA m c (ix1 l)) k : EReal) := by
  have e : (pt (a * 12)).val = a * 12 := Nat.mod_eq_of_lt (by omega)
  unfold hn
  refine (hnv_eq _ _ i k).trans (congrFun (congrArg₂ nrm (funext fun l => ?_) (funext fun l => ?_)) k)
  · exact x_blk m c _ i l r (by rw [e, hr]; omega)
  · exact g_blk m c _ l

/-- A row of blocks times a point's columns of the weights, entry by entry. -/
theorem entry (a b : ℕ) (ha : a < 16) (hb : b < 12) (i j : Fin 1024) (r : Fin 16384) (s : Fin 12288) (hr : r.val = a * 1024 + i.val) (hs : s.val = b * 1024 + j.val) :
    ((∑ k : Fin 2048, (hn (F := Ideal) m c a (ix2 i k) : EReal) * (iblk (F := Ideal) m c 2 (pt (a * 12 + b)) : Vec Ideal S1x2048x1024 .bf16) (ix3 0 k j)) : EReal) = en (xA m c) (gA m c) (wA m c) r s := by
  have e : (pt (a * 12 + b)).val = a * 12 + b := Nat.mod_eq_of_lt (by omega)
  unfold en pr
  refine Finset.sum_congr rfl fun k _ => ?_
  rw [hn_eq m c a ha i k r hr, w_blk m c _ k j s (by rw [e, hs]; omega)]

/-! ## The first output -/

/-- Its value. -/
abbrev G3 : Vec Ideal S16384x4096 .f32 := G 0 (by decide) (xA m c) (gA m c) (wA m c)

theorem mem_blk3 (t : Fin cfg0.N) (i : S16384x4096.Idx) (h0 : t.val / 12 * 1024 ≤ (i 0 : ℕ) ∧ (i 0 : ℕ) < t.val / 12 * 1024 + 1024)
    (h1 : min (t.val % 12) 3 * 1024 ≤ (i 1 : ℕ) ∧ (i 1 : ℕ) < min (t.val % 12) 3 * 1024 + 1024) : i ∈ ((cfg0.win 3).blk t).view.set := by
  have e := (idxOut t).1
  show i ∈ ((View.whole main_v2_0).slice (win0_3.rect t)).set
  rw [View.set_slice_whole, Rect.mem_set_unit]
  intro a
  match a with
  | ⟨0, _⟩ => show win0_3.index t 0 * 1024 ≤ (i 0 : ℕ) ∧ (i 0 : ℕ) < win0_3.index t 0 * 1024 + 1024; rwa [e.1]
  | ⟨1, _⟩ => show win0_3.index t 1 * 1024 ≤ (i 1 : ℕ) ∧ (i 1 : ℕ) < win0_3.index t 1 * 1024 + 1024; rwa [e.2]

theorem cover3 (i : S16384x4096.Idx) : ∃ t : Fin cfg0.N, (cfg0.win 3).flush t = true ∧ i ∈ ((cfg0.win 3).blk t).view.set := by
  have h0 : (i 0 : ℕ) < 16384 := (i 0).isLt
  have h1 : (i 1 : ℕ) < 4096 := (i 1).isLt
  let q : ℕ := (i 1 : ℕ) / 1024
  refine ⟨⟨(i 0 : ℕ) / 1024 * 12 + (if (i 1 : ℕ) / 1024 = 3 then 11 else 0 + (i 1 : ℕ) / 1024), lt_of_lt_of_eq (by split <;> omega) (show cfg0.N = 192 from N_0).symm⟩, (flush3 _).mpr ?_, mem_blk3 _ _ ?_ ?_⟩ <;> dsimp only <;> split <;> omega

theorem flushed_eq3 (t : Fin cfg0.N) (hf : (cfg0.win 3).flush t = true) :
    (dats m 0 c).flushed 3 t = ((cfg0.win 3).blk t).view.read (Elt Ideal) (G3 m c) := by
  have hN := lt_of_lt_of_eq t.isLt (show cfg0.N = 192 from N_0)
  have e := (idxOut t).1
  have hp := (flush3 t).mp hf
  show (cfg0.win 3).cut (grid0.coords t) ((dats m 0 c).after 3 t) = _
  rw [after_3]
  funext j
  have h0 : (j 0 : ℕ) < 1024 := (j 0).isLt
  have h1 : (j 1 : ℕ) < 1024 := (j 1).isLt
  have hr : ((cfg0.win 3).blk t).view.read (Elt Ideal) (G3 m c) j = G3 m c
      (ix2 ⟨t.val / 12 * 1024 + (j 0 : ℕ), by omega⟩ ⟨min (t.val % 12) 3 * 1024 + (j 1 : ℕ), by omega⟩) := by
    show G3 m c _ = _
    refine congrArg (G3 m c) (funext fun a => Fin.ext ?_)
    match a with
    | ⟨0, _⟩ => show win0_3.index t 0 * 1024 + 1 * (j 0 : ℕ) = t.val / 12 * 1024 + (j 0 : ℕ); rw [e.1, Nat.one_mul]
    | ⟨1, _⟩ => show win0_3.index t 1 * 1024 + 1 * (j 1 : ℕ) = min (t.val % 12) 3 * 1024 + (j 1 : ℕ); rw [e.2, Nat.one_mul]
  have hl : (cfg0.win 3).cut (grid0.coords t) (out3 (F := Ideal) m c t.val) j = out3 (F := Ideal) m c t.val (ix2 ⟨j 0, h0⟩ ⟨j 1, h1⟩) := by
    refine congrArg (out3 (F := Ideal) m c t.val) (funext fun a => ?_)
    match a with
    | ⟨0, _⟩ => rfl
    | ⟨1, _⟩ => rfl
  rw [hr, hl]
  unfold out3
  refine (prod_eq _ _ _ _).trans ?_
  exact entry m c (t.val / 12) (min (t.val % 12) 3) (by omega) (by omega) ⟨j 0, h0⟩ ⟨j 1, h1⟩ _ _ rfl (by show 0 + (min (t.val % 12) 3 * 1024 + (j 1 : ℕ)) = (min (t.val % 12) 3) * 1024 + (j 1 : ℕ); omega)

theorem final3 : (dats m 0 c).arrAt 3 cfg0.N = G3 m c :=
  (dats m 0 c).arrAt_eq_of_cover 3 (G3 m c) (fun t ht => flushed_eq3 m c t ht) cover3

/-! ## The second output -/

/-- Its value. -/
abbrev G4 : Vec Ideal S16384x4096 .bf16 := G 4096 (by decide) (xA m c) (gA m c) (wA m c)

theorem mem_blk4 (t : Fin cfg0.N) (i : S16384x4096.Idx) (h0 : t.val / 12 * 1024 ≤ (i 0 : ℕ) ∧ (i 0 : ℕ) < t.val / 12 * 1024 + 1024)
    (h1 : min (t.val % 12 - 4) 3 * 1024 ≤ (i 1 : ℕ) ∧ (i 1 : ℕ) < min (t.val % 12 - 4) 3 * 1024 + 1024) : i ∈ ((cfg0.win 4).blk t).view.set := by
  have e := (idxOut t).2.1
  show i ∈ ((View.whole main_v2_1).slice (win0_4.rect t)).set
  rw [View.set_slice_whole, Rect.mem_set_unit]
  intro a
  match a with
  | ⟨0, _⟩ => show win0_4.index t 0 * 1024 ≤ (i 0 : ℕ) ∧ (i 0 : ℕ) < win0_4.index t 0 * 1024 + 1024; rwa [e.1]
  | ⟨1, _⟩ => show win0_4.index t 1 * 1024 ≤ (i 1 : ℕ) ∧ (i 1 : ℕ) < win0_4.index t 1 * 1024 + 1024; rwa [e.2]

theorem cover4 (i : S16384x4096.Idx) : ∃ t : Fin cfg0.N, (cfg0.win 4).flush t = true ∧ i ∈ ((cfg0.win 4).blk t).view.set := by
  have h0 : (i 0 : ℕ) < 16384 := (i 0).isLt
  have h1 : (i 1 : ℕ) < 4096 := (i 1).isLt
  let q : ℕ := (i 1 : ℕ) / 1024
  refine ⟨⟨(i 0 : ℕ) / 1024 * 12 + (if (i 1 : ℕ) / 1024 = 3 then 11 else 4 + (i 1 : ℕ) / 1024), lt_of_lt_of_eq (by split <;> omega) (show cfg0.N = 192 from N_0).symm⟩, (flush4 _).mpr ?_, mem_blk4 _ _ ?_ ?_⟩ <;> dsimp only <;> split <;> omega

theorem flushed_eq4 (t : Fin cfg0.N) (hf : (cfg0.win 4).flush t = true) :
    (dats m 0 c).flushed 4 t = ((cfg0.win 4).blk t).view.read (Elt Ideal) (G4 m c) := by
  have hN := lt_of_lt_of_eq t.isLt (show cfg0.N = 192 from N_0)
  have e := (idxOut t).2.1
  have hp := (flush4 t).mp hf
  show (cfg0.win 4).cut (grid0.coords t) ((dats m 0 c).after 4 t) = _
  rw [after_4]
  funext j
  have h0 : (j 0 : ℕ) < 1024 := (j 0).isLt
  have h1 : (j 1 : ℕ) < 1024 := (j 1).isLt
  have hr : ((cfg0.win 4).blk t).view.read (Elt Ideal) (G4 m c) j = G4 m c
      (ix2 ⟨t.val / 12 * 1024 + (j 0 : ℕ), by omega⟩ ⟨min (t.val % 12 - 4) 3 * 1024 + (j 1 : ℕ), by omega⟩) := by
    show G4 m c _ = _
    refine congrArg (G4 m c) (funext fun a => Fin.ext ?_)
    match a with
    | ⟨0, _⟩ => show win0_4.index t 0 * 1024 + 1 * (j 0 : ℕ) = t.val / 12 * 1024 + (j 0 : ℕ); rw [e.1, Nat.one_mul]
    | ⟨1, _⟩ => show win0_4.index t 1 * 1024 + 1 * (j 1 : ℕ) = min (t.val % 12 - 4) 3 * 1024 + (j 1 : ℕ); rw [e.2, Nat.one_mul]
  have hl : (cfg0.win 4).cut (grid0.coords t) (out4 (F := Ideal) m c t.val) j = out4 (F := Ideal) m c t.val (ix2 ⟨j 0, h0⟩ ⟨j 1, h1⟩) := by
    refine congrArg (out4 (F := Ideal) m c t.val) (funext fun a => ?_)
    match a with
    | ⟨0, _⟩ => rfl
    | ⟨1, _⟩ => rfl
  rw [hr, hl]
  unfold out4
  refine (prodH_eq _ _ _ _).trans ?_
  exact entry m c (t.val / 12) (min (t.val % 12) 7) (by omega) (by omega) ⟨j 0, h0⟩ ⟨j 1, h1⟩ _ _ rfl (by show 4096 + (min (t.val % 12 - 4) 3 * 1024 + (j 1 : ℕ)) = (min (t.val % 12) 7) * 1024 + (j 1 : ℕ); omega)

theorem final4 : (dats m 0 c).arrAt 4 cfg0.N = G4 m c :=
  (dats m 0 c).arrAt_eq_of_cover 4 (G4 m c) (fun t ht => flushed_eq4 m c t ht) cover4

/-! ## The third output -/

/-- Its value. -/
abbrev G5 : Vec Ideal S16384x4096 .f32 := G 8192 (by decide) (xA m c) (gA m c) (wA m c)

theorem mem_blk5 (t : Fin cfg0.N) (i : S16384x4096.Idx) (h0 : t.val / 12 * 1024 ≤ (i 0 : ℕ) ∧ (i 0 : ℕ) < t.val / 12 * 1024 + 1024)
    (h1 : min (t.val % 12 - 8) 3 * 1024 ≤ (i 1 : ℕ) ∧ (i 1 : ℕ) < min (t.val % 12 - 8) 3 * 1024 + 1024) : i ∈ ((cfg0.win 5).blk t).view.set := by
  have e := (idxOut t).2.2
  show i ∈ ((View.whole main_v2_2).slice (win0_5.rect t)).set
  rw [View.set_slice_whole, Rect.mem_set_unit]
  intro a
  match a with
  | ⟨0, _⟩ => show win0_5.index t 0 * 1024 ≤ (i 0 : ℕ) ∧ (i 0 : ℕ) < win0_5.index t 0 * 1024 + 1024; rwa [e.1]
  | ⟨1, _⟩ => show win0_5.index t 1 * 1024 ≤ (i 1 : ℕ) ∧ (i 1 : ℕ) < win0_5.index t 1 * 1024 + 1024; rwa [e.2]

theorem cover5 (i : S16384x4096.Idx) : ∃ t : Fin cfg0.N, (cfg0.win 5).flush t = true ∧ i ∈ ((cfg0.win 5).blk t).view.set := by
  have h0 : (i 0 : ℕ) < 16384 := (i 0).isLt
  have h1 : (i 1 : ℕ) < 4096 := (i 1).isLt
  let q : ℕ := (i 1 : ℕ) / 1024
  refine ⟨⟨(i 0 : ℕ) / 1024 * 12 + (if (i 1 : ℕ) / 1024 = 3 then 11 else 8 + (i 1 : ℕ) / 1024), lt_of_lt_of_eq (by split <;> omega) (show cfg0.N = 192 from N_0).symm⟩, (flush5 _).mpr ?_, mem_blk5 _ _ ?_ ?_⟩ <;> dsimp only <;> split <;> omega

theorem flushed_eq5 (t : Fin cfg0.N) (hf : (cfg0.win 5).flush t = true) :
    (dats m 0 c).flushed 5 t = ((cfg0.win 5).blk t).view.read (Elt Ideal) (G5 m c) := by
  have hN := lt_of_lt_of_eq t.isLt (show cfg0.N = 192 from N_0)
  have e := (idxOut t).2.2
  have hp := (flush5 t).mp hf
  show (cfg0.win 5).cut (grid0.coords t) ((dats m 0 c).after 5 t) = _
  rw [after_5]
  funext j
  have h0 : (j 0 : ℕ) < 1024 := (j 0).isLt
  have h1 : (j 1 : ℕ) < 1024 := (j 1).isLt
  have hr : ((cfg0.win 5).blk t).view.read (Elt Ideal) (G5 m c) j = G5 m c
      (ix2 ⟨t.val / 12 * 1024 + (j 0 : ℕ), by omega⟩ ⟨min (t.val % 12 - 8) 3 * 1024 + (j 1 : ℕ), by omega⟩) := by
    show G5 m c _ = _
    refine congrArg (G5 m c) (funext fun a => Fin.ext ?_)
    match a with
    | ⟨0, _⟩ => show win0_5.index t 0 * 1024 + 1 * (j 0 : ℕ) = t.val / 12 * 1024 + (j 0 : ℕ); rw [e.1, Nat.one_mul]
    | ⟨1, _⟩ => show win0_5.index t 1 * 1024 + 1 * (j 1 : ℕ) = min (t.val % 12 - 8) 3 * 1024 + (j 1 : ℕ); rw [e.2, Nat.one_mul]
  have hl : (cfg0.win 5).cut (grid0.coords t) (out5 (F := Ideal) m c t.val) j = out5 (F := Ideal) m c t.val (ix2 ⟨j 0, h0⟩ ⟨j 1, h1⟩) := by
    refine congrArg (out5 (F := Ideal) m c t.val) (funext fun a => ?_)
    match a with
    | ⟨0, _⟩ => rfl
    | ⟨1, _⟩ => rfl
  rw [hr, hl]
  unfold out5
  refine (prod_eq _ _ _ _).trans ?_
  rw [show pt t.val = pt (t.val / 12 * 12 + t.val % 12) from congrArg pt (by omega)]
  exact entry m c (t.val / 12) (t.val % 12) (by omega) (by omega) ⟨j 0, h0⟩ ⟨j 1, h1⟩ _ _ rfl (by show 8192 + (min (t.val % 12 - 8) 3 * 1024 + (j 1 : ℕ)) = (t.val % 12) * 1024 + (j 1 : ℕ); omega)

theorem final5 : (dats m 0 c).arrAt 5 cfg0.N = G5 m c :=
  (dats m 0 c).arrAt_eq_of_cover 5 (G5 m c) (fun t ht => flushed_eq5 m c t ht) cover5

/-- The idealized kernel and the reference end at one result. -/
theorem algebraic : Cert.algebraic_Kernel2Ideal_Reference2Ideal := by
  intro m ρ m' ρ' _ ha
  refine ⟨fun c => G3 m c, fun c => G4 m c, fun c => G5 m c, ?_, ?_⟩
  · refine (θ_run _ _ _).mono (fun _ h c => ⟨((h.1 c).1 3).trans (final3 m c), ((h.1 c).1 4).trans (final4 m c), ((h.1 c).1 5).trans (final5 m c), h.2 c⟩)
      (θ_run_and (run_main (F := Ideal) m ρ) (frame_of m ρ (dats m) (A_eq m) (run_main m ρ)))
  · refine (θ_run _ _ _).mono (fun _ h c => ⟨(h c).1.trans ?_, (h c).2.1.trans ?_, (h c).2.2.1.trans ?_, (h c).2.2.2⟩) (Cert.Reference2Ideal.Value.run (F := Ideal) m' ρ')
    all_goals
      obtain ⟨h0, h1, h2⟩ := ha c
      rw [h0, h1, h2]
      funext i
      obtain ⟨r, s, rfl⟩ : ∃ r s, i = ix2 r s := ⟨i 0, i 1, eq_ix2 i⟩
    · exact (ref3 (P (xA m c) (gA m c) (wA m c)) r s).trans (P_eq _ _ _ _ _)
    · exact (ref4 (P (xA m c) (gA m c) (wA m c)) r s).trans (P_eq _ _ _ _ _)
    · exact (ref5 (P (xA m c) (gA m c) (wA m c)) r s).trans (P_eq _ _ _ _ _)

end Cert.LayIn

end
-- ==== Proof.Lay.Out.lean ====
/- The retention's output projection with the residual: the kernel's blocks of rows and columns make up the product plus the residual. -/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Pointwise.Index
public import Idealize.ShloMosaic.PureOps.Ideal
public import Idealize.ShloMosaic.Adequacy

@[expose] public section

set_option maxRecDepth 16384

noncomputable section

namespace Cert.LayOut

open Idealize.ShloMosaic Idealize.ShloMosaic.TcCoe Idealize.SL.Sem Cert.Kernel3Ideal Cert.Kernel3Ideal.Gen

/-- The residual plus the product, entry by entry. -/
def G (y : Vec Ideal S16384x4096 .bf16) (w : Vec Ideal S4096x2048 .f32) (x : Vec Ideal S16384x2048 .f32) : Vec Ideal S16384x2048 .f32 :=
  fun i => (x i + ∑ k : Fin 4096, y (ix2 (i 0) k) * w (ix2 k (i 1)) : EReal)

theorem hz2 : (![0, 0] : Fin 2 → Nat) = fun _ => 0 := funext fun a => by fin_cases a <;> rfl

/-- What the body stores, entry by entry. -/
theorem pay (x : Vec Ideal S1024x512 .f32) (y : Vec Ideal S1024x4096 .bf16) (w : Vec Ideal S4096x512 .bf16) (i : Fin 1024) (j : Fin 512) :
    k0_pay1 (F := Ideal) x y w (ix2 i j) = (x (ix2 i j) + ∑ k : Fin 4096, y (ix2 i k) * w (ix2 k j) : EReal) := by
  pointwise [k0_pay1]

/-- The block the body leaves. -/
theorem out_eq (y : Vec Ideal S1024x4096 .bf16) (w : Vec Ideal S4096x512 .bf16) (x : Vec Ideal S1024x512 .f32) :
    out0_3 (F := Ideal) y w x = k0_pay1 x y w := by
  unfold out0_3
  rw [View.canon_unit_zero hz2, View.ld_unit_zero (S := S1024x512) hz2, View.ld_unit_zero (S := S1024x4096) hz2, View.ld_unit_zero (S := S4096x512) hz2]

variable (m : (ℓ : Loc nD τ sig) → Buf (Elt Ideal) ℓ) (c : Dev nD)

/-- The launched product's left side. -/
abbrev yA : Vec Ideal S16384x4096 .bf16 := m ((c : Thread nD τ).loc main_arg0)
/-- The launched weights. -/
abbrev wA : Vec Ideal S4096x2048 .f32 := m ((c : Thread nD τ).loc main_arg1)
/-- The launched residual. -/
abbrev xA : Vec Ideal S16384x2048 .f32 := m ((c : Thread nD τ).loc main_arg2)

/-- The weights as the region finds them. -/
theorem V_w (k : Fin 4096) (j : Fin 2048) : (V (F := Ideal) m c main_v0 : Vec Ideal S4096x2048 .bf16) (ix2 k j) = wA m c (ix2 k j) := by
  dsimp only [V, hostOps0, List.flatten_cons, List.flatten_nil, List.append_nil, List.cons_append, List.nil_append]
  after_results
  rfl

/-- Every window's block indices and the sizes of the output's. -/
theorem idx : ∀ t : Fin grid0.N, (win0_0.index t 0 = t.val / 4 ∧ win0_0.index t 1 = 0) ∧ (win0_1.index t 0 = 0 ∧ win0_1.index t 1 = t.val % 4)
    ∧ (win0_2.index t 0 = t.val / 4 ∧ win0_2.index t 1 = t.val % 4) ∧ (win0_3.index t 0 = t.val / 4 ∧ win0_3.index t 1 = t.val % 4)
    ∧ win0_3.xsize (grid0.coords t) 0 = 1024 ∧ win0_3.xsize (grid0.coords t) 1 = 512 := by decide +kernel

/-- A point's rows of the left side. -/
theorem y_blk (t : Fin cfg0.N) (i : Fin 1024) (k : Fin 4096) (r : Fin 16384) (hr : r.val = t.val / 4 * 1024 + i.val) :
    (iblk (F := Ideal) m c 0 t : Vec Ideal S1024x4096 .bf16) (ix2 i k) = yA m c (ix2 r k) := by
  have e := (idx t).1
  refine (show _ = (V (F := Ideal) m c main_arg0 : Vec Ideal S16384x4096 .bf16) (ix2 r k) from congrArg (V (F := Ideal) m c main_arg0) (funext fun a => Fin.ext ?_)).trans (congrFun (V_main_arg0 m c) _)
  match a with
  | ⟨0, _⟩ => show win0_0.index t 0 * 1024 + 1 * i.val = r.val; rw [e.1, hr, Nat.one_mul]
  | ⟨1, _⟩ => show win0_0.index t 1 * 4096 + 1 * k.val = k.val; rw [e.2]; omega

/-- A point's columns of the weights. -/
theorem w_blk (t : Fin cfg0.N) (k : Fin 4096) (j : Fin 512) (s : Fin 2048) (hs : s.val = t.val % 4 * 512 + j.val) :
    (iblk (F := Ideal) m c 1 t : Vec Ideal S4096x512 .bf16) (ix2 k j) = wA m c (ix2 k s) := by
  have e := (idx t).2.1
  refine (show _ = (V (F := Ideal) m c main_v0 : Vec Ideal S4096x2048 .bf16) (ix2 k s) from congrArg (V (F := Ideal) m c main_v0) (funext fun a => Fin.ext ?_)).trans (V_w m c k s)
  match a with
  | ⟨0, _⟩ => show win0_1.index t 0 * 4096 + 1 * k.val = k.val; rw [e.1]; omega
  | ⟨1, _⟩ => show win0_1.index t 1 * 512 + 1 * j.val = s.val; rw [e.2, hs, Nat.one_mul]

/-- A point's block of the residual. -/
theorem x_blk (t : Fin cfg0.N) (i : Fin 1024) (j : Fin 512) (r : Fin 16384) (s : Fin 2048) (hr : r.val = t.val / 4 * 1024 + i.val) (hs : s.val = t.val % 4 * 512 + j.val) :
    (iblk (F := Ideal) m c 2 t : Vec Ideal S1024x512 .f32) (ix2 i j) = xA m c (ix2 r s) := by
  have e := (idx t).2.2.1
  refine (show _ = (V (F := Ideal) m c main_arg2 : Vec Ideal S16384x2048 .f32) (ix2 r s) from congrArg (V (F := Ideal) m c main_arg2) (funext fun a => Fin.ext ?_)).trans (congrFun (V_main_arg2 m c) _)
  match a with
  | ⟨0, _⟩ => show win0_2.index t 0 * 1024 + 1 * i.val = r.val; rw [e.1, hr, Nat.one_mul]
  | ⟨1, _⟩ => show win0_2.index t 1 * 512 + 1 * j.val = s.val; rw [e.2, hs, Nat.one_mul]

/-- An index is in a point's output block when its row and column are. -/
theorem mem_blk (t : Fin cfg0.N) (i : S16384x2048.Idx) (h0 : t.val / 4 * 1024 ≤ (i 0 : ℕ) ∧ (i 0 : ℕ) < t.val / 4 * 1024 + 1024)
    (h1 : t.val % 4 * 512 ≤ (i 1 : ℕ) ∧ (i 1 : ℕ) < t.val % 4 * 512 + 512) : i ∈ ((cfg0.win 3).blk t).view.set := by
  show i ∈ ((View.whole main_v1).slice (win0_3.rect t)).set
  rw [View.set_slice_whole, Rect.mem_set_unit]
  obtain ⟨-, -, -, e, e0, e1⟩ := idx t
  intro a
  match a with
  | ⟨0, _⟩ => show win0_3.index t 0 * 1024 ≤ (i 0 : ℕ) ∧ (i 0 : ℕ) < win0_3.index t 0 * 1024 + win0_3.xsize (grid0.coords t) 0; rwa [e.1, e0]
  | ⟨1, _⟩ => show win0_3.index t 1 * 512 ≤ (i 1 : ℕ) ∧ (i 1 : ℕ) < win0_3.index t 1 * 512 + win0_3.xsize (grid0.coords t) 1; rwa [e.2, e1]

/-- The blocks cover the result. -/
theorem cover (i : S16384x2048.Idx) : ∃ t : Fin cfg0.N, (cfg0.win 3).flush t = true ∧ i ∈ ((cfg0.win 3).blk t).view.set := by
  have h0 : (i 0 : ℕ) < 16384 := (i 0).isLt
  have h1 : (i 1 : ℕ) < 2048 := (i 1).isLt
  refine ⟨⟨(i 0 : ℕ) / 1024 * 4 + (i 1 : ℕ) / 512, lt_of_lt_of_eq (by omega) (show cfg0.N = 64 from N_0).symm⟩, flush0_3 _, mem_blk _ _ ?_ ?_⟩ <;> dsimp only <;> omega

/-- What a point writes back is its block of the result. -/
theorem flushed_eq (t : Fin cfg0.N) :
    (dats m 0 c).flushed 3 t = ((cfg0.win 3).blk t).view.read (Elt Ideal) (G (yA m c) (wA m c) (xA m c)) := by
  have hN := lt_of_lt_of_eq t.isLt (show cfg0.N = 64 from N_0)
  obtain ⟨-, -, -, e, e0, e1⟩ := idx t
  rw [Value.flushed3, out_eq]
  funext j
  have h0 : (j 0 : ℕ) < 1024 := lt_of_lt_of_eq (j 0).isLt e0
  have h1 : (j 1 : ℕ) < 512 := lt_of_lt_of_eq (j 1).isLt e1
  have hr : ((cfg0.win 3).blk t).view.read (Elt Ideal) (G (yA m c) (wA m c) (xA m c)) j = G (yA m c) (wA m c) (xA m c)
      (ix2 ⟨t.val / 4 * 1024 + (j 0 : ℕ), by omega⟩ ⟨t.val % 4 * 512 + (j 1 : ℕ), by omega⟩) := by
    show G (yA m c) (wA m c) (xA m c) _ = _
    refine congrArg _ (funext fun a => Fin.ext ?_)
    match a with
    | ⟨0, _⟩ => show win0_3.index t 0 * 1024 + 1 * (j 0 : ℕ) = t.val / 4 * 1024 + (j 0 : ℕ); rw [e.1, Nat.one_mul]
    | ⟨1, _⟩ => show win0_3.index t 1 * 512 + 1 * (j 1 : ℕ) = t.val % 4 * 512 + (j 1 : ℕ); rw [e.2, Nat.one_mul]
  have hl : ∀ o : Vec Ideal S1024x512 .f32, (cfg0.win 3).cut (grid0.coords t) o j = o (ix2 ⟨j 0, h0⟩ ⟨j 1, h1⟩) := fun o => by
    refine congrArg o (funext fun a => ?_)
    match a with
    | ⟨0, _⟩ => rfl
    | ⟨1, _⟩ => rfl
  rw [hr, hl, pay, x_blk m c t ⟨j 0, h0⟩ ⟨j 1, h1⟩ ⟨t.val / 4 * 1024 + (j 0 : ℕ), by omega⟩ ⟨t.val % 4 * 512 + (j 1 : ℕ), by omega⟩ rfl rfl]
  refine congrArg (_ + ·) (Finset.sum_congr rfl fun k _ => ?_)
  rw [y_blk m c t ⟨j 0, h0⟩ k ⟨t.val / 4 * 1024 + (j 0 : ℕ), by omega⟩ rfl, w_blk m c t k ⟨j 1, h1⟩ ⟨t.val % 4 * 512 + (j 1 : ℕ), by omega⟩ rfl]
  rfl

/-- The result after the run. -/
theorem final : (dats m 0 c).arrAt 3 cfg0.N = G (yA m c) (wA m c) (xA m c) :=
  (dats m 0 c).arrAt_eq_of_cover 3 (G (yA m c) (wA m c) (xA m c)) (fun t _ => flushed_eq m c t) cover

/-- The reference's result, entry by entry. -/
theorem ref_eq (y : Vec Ideal S16384x4096 .bf16) (w : Vec Ideal S4096x2048 .f32) (x : Vec Ideal S16384x2048 .f32) :
    (addf x (Host.dotGeneral (F := Ideal) (φ₂ := .f32) Cert.Reference3Ideal.dot_S16384x4096_S4096x2048_S16384x2048_1_0_0_1_n_n none (extf .f32 y Cert.Reference3Ideal.Gen.bitsLt_bf16_f32 : FVec Ideal S16384x4096 .f32) (w : FVec Ideal S4096x2048 .f32) : FVec Ideal S16384x2048 .f32) : Vec Ideal S16384x2048 .f32) = G y w x := by
  funext i
  obtain ⟨r, s, rfl⟩ : ∃ r s, i = ix2 r s := ⟨i 0, i 1, eq_ix2 i⟩
  unfold G
  pointwise

/-- The frame of the reference. -/
theorem frameR : Cert.quiescent_Reference3Ideal := fun m ρ _ =>
  (θ_run _ _ _).mono (fun r h => ⟨fun c => (h c).2, Idealize.ShloMosaic.sem_eq_zero_of_no_sems (by decide) r.2⟩) (Cert.Reference3Ideal.Value.run (F := Ideal) m ρ)

/-- The idealized kernel and the reference end at one result. -/
theorem algebraic : Cert.algebraic_Kernel3Ideal_Reference3Ideal := by
  intro m ρ m' ρ' _ ha
  refine ⟨fun c => G (yA m c) (wA m c) (xA m c), (θ_run _ _ _).mono (fun _ h c => ⟨(h c).1.trans (final m c), (h c).2⟩) (Value.run_blocks (F := Ideal) m ρ), ?_⟩
  refine (θ_run _ _ _).mono (fun _ h c => ⟨(h c).1.trans ?_, (h c).2⟩) (Cert.Reference3Ideal.Value.run (F := Ideal) m' ρ')
  obtain ⟨h0, h1, h2⟩ := ha c
  rw [h0, h1, h2]
  exact ref_eq _ _ _

end Cert.LayOut

end
-- ==== Proof.Lay.Kv.lean ====
/- The attention's projection to keys and values: normalised tokens times the weights, block by block. -/
module

public import proofs.«01_k».proof.Proof.Lay.Norm
public import proofs.«01_k».proof.Proof.Gen.Kernel4Ideal.Value
public import proofs.«01_k».proof.Proof.Gen.Reference4Ideal.Run
public import Idealize.ShloMosaic.Lib.Tactic
public import Idealize.ShloMosaic.Adequacy

@[expose] public section

set_option maxRecDepth 16384

noncomputable section

namespace Cert.LayKv

open Idealize.ShloMosaic Idealize.ShloMosaic.TcCoe Idealize.SL.Sem Cert.Lay

/-- The projection, entry by entry. -/
def G (x : Vec Ideal ⟨2, ![16384, 2048]⟩ .f32) (g : Vec Ideal ⟨1, ![2048]⟩ .f32) (w : Vec Ideal ⟨2, ![2048, 4096]⟩ .f32) : Vec Ideal ⟨2, ![16384, 4096]⟩ .bf16 :=
  fun i => (pr x g (fun k => w (ix2 k (i 1))) (i 0) : EReal)

section Ref

open Cert.Reference4Ideal Cert.Reference4Ideal.Gen

/-- The reference's result, entry by entry. -/
theorem ref_eq (x : FVec Ideal S16384x2048 .f32) (g : FVec Ideal S2048 .f32) (w : FVec Ideal S2048x4096 .f32) :
    truncf .bf16 (Host.dotGeneral (F := Ideal) (φ₂ := .f32) dot_S16384x2048_S2048x4096_S16384x4096_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))) w) bitsLt_bf16_f32 = G x g w := by
  funext i
  obtain ⟨r, s, rfl⟩ : ∃ r s, i = ix2 r s := ⟨i 0, i 1, eq_ix2 i⟩
  unfold G pr nrm
  pointwise

/-- The frame of the reference. -/
theorem frameR : Cert.quiescent_Reference4Ideal := fun m ρ _ =>
  (θ_run _ _ _).mono (fun r h => ⟨fun c => (h c).2, Idealize.ShloMosaic.sem_eq_zero_of_no_sems (by decide) r.2⟩) (Value.run (F := Ideal) m ρ)

end Ref

open Cert.Kernel4Ideal Cert.Kernel4Ideal.Gen

/-- The normalised rows, entry by entry. -/
theorem pay1 (x : Vec Ideal S1024x2048 .f32) (g : Vec Ideal S1x2048 .f32) (i : Fin 1024) (k : Fin 2048) :
    k0_pay1 (F := Ideal) x g (ix2 i k) = (nrm (fun l => x (ix2 i l)) (fun l => g (ix2 0 l)) k : EReal) := by
  unfold nrm
  pointwise [k0_pay1]

/-- The stored product, entry by entry. -/
theorem pay2 (h : Vec Ideal S1024x2048 .bf16) (w : Vec Ideal S2048x1024 .bf16) (i : Fin 1024) (j : Fin 1024) :
    k0_pay2 (F := Ideal) h w (ix2 i j) = ((∑ k : Fin 2048, h (ix2 i k) * w (ix2 k j)) : EReal) := by
  pointwise [k0_pay2]

/-- The block a point that starts a row of blocks leaves. -/
theorem outA_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x2048 .bf16) (harg6 : arg6.IsWhole) (hc0 : cond0_0 i)
    (x0 : Vec Ideal S1024x2048 .f32) (x1 : Vec Ideal S1x2048 .f32) (x2 : Vec Ideal S2048x1024 .bf16) : out0_A_3 (F := Ideal) c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz2]
  simp only [View.readAt_eq_ld, harg2.read_unread, harg3.read_unread, harg4.read_unread, View.readCov_unit_zero (S := S1024x2048) _ hz2,
    View.ld_unit_zero (S := S1024x2048) hz2, View.ld_unit_zero (S := S1x2048) hz2, View.ld_unit_zero (S := S2048x1024) hz2]

/-- The normalised rows such a point leaves. -/
theorem soutA_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x2048 .bf16) (harg6 : arg6.IsWhole) (hc0 : cond0_0 i)
    (x0 : Vec Ideal S1024x2048 .f32) (x1 : Vec Ideal S1x2048 .f32) (x2 : Vec Ideal S2048x1024 .bf16) : sout0_A_0 (F := Ideal) c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz2]
  simp only [View.readAt_eq_ld, harg2.read_unread, harg3.read_unread, View.ld_unit_zero (S := S1024x2048) hz2, View.ld_unit_zero (S := S1x2048) hz2]

/-- The block any other point leaves. -/
theorem outB_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x2048 .bf16) (harg6 : arg6.IsWhole) (hc0 : ¬cond0_0 i)
    (x0 : Vec Ideal S1024x2048 .f32) (x1 : Vec Ideal S1x2048 .f32) (x2 : Vec Ideal S2048x1024 .bf16) (xs0 : Vec Ideal S1024x2048 .bf16) : out0_B_3 (F := Ideal) c i arg2 harg2 arg3 harg3 arg4 harg4 arg5 harg5 arg6 harg6 hc0 x0 x1 x2 xs0 = k0_pay2 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero hz2]
  simp only [View.readAt_eq_ld, harg4.read_unread, harg6.read_unread, View.ld_unit_zero (S := S1024x2048) hz2, View.ld_unit_zero (S := S2048x1024) hz2]

variable (m : (ℓ : Loc nD τ sig) → Buf (Elt Ideal) ℓ) (c : Dev nD)

/-- The launched tokens. -/
abbrev xA : Vec Ideal S16384x2048 .f32 := m ((c : Thread nD τ).loc main_arg0)
/-- The launched gain. -/
abbrev gA : Vec Ideal S2048 .f32 := m ((c : Thread nD τ).loc main_arg1)
/-- The launched weights. -/
abbrev wA : Vec Ideal S2048x4096 .f32 := m ((c : Thread nD τ).loc main_arg2)

/-- The weights as the region finds them. -/
theorem V_w (k : Fin 2048) (j : Fin 4096) : (V (F := Ideal) m c main_v0 : Vec Ideal S2048x4096 .bf16) (ix2 k j) = wA m c (ix2 k j) := by
  dsimp only [V, hostOps0, List.flatten_cons, List.flatten_nil, List.append_nil, List.cons_append, List.nil_append]
  after_results
  rfl

/-- The gain as the region finds it. -/
theorem V_g (k : Fin 2048) : (V (F := Ideal) m c main_v1 : Vec Ideal S1x2048 .f32) (ix2 0 k) = gA m c (ix1 k) := by
  dsimp only [V, hostOps0, List.flatten_cons, List.flatten_nil, List.append_nil, List.cons_append, List.nil_append]
  after_results
  pointwise

/-- Every window's block indices and the sizes of the output's. -/
theorem idx : ∀ t : Fin grid0.N, (win0_0.index t 0 = t.val / 4 ∧ win0_0.index t 1 = 0) ∧ (win0_1.index t 0 = 0 ∧ win0_1.index t 1 = 0)
    ∧ (win0_2.index t 0 = 0 ∧ win0_2.index t 1 = t.val % 4) ∧ (win0_3.index t 0 = t.val / 4 ∧ win0_3.index t 1 = t.val % 4)
    ∧ win0_3.xsize (grid0.coords t) 0 = 1024 ∧ win0_3.xsize (grid0.coords t) 1 = 1024 := by decide +kernel

/-- A point's rows of the tokens. -/
theorem x_blk (t : Fin cfg0.N) (i : Fin 1024) (k : Fin 2048) (r : Fin 16384) (hr : r.val = t.val / 4 * 1024 + i.val) :
    (iblk (F := Ideal) m c 0 t : Vec Ideal S1024x2048 .f32) (ix2 i k) = xA m c (ix2 r k) := by
  have e := (idx t).1
  refine (show _ = (V (F := Ideal) m c main_arg0 : Vec Ideal S16384x2048 .f32) (ix2 r k) from congrArg (V (F := Ideal) m c main_arg0) (funext fun a => Fin.ext ?_)).trans (congrFun (V_main_arg0 m c) _)
  match a with
  | ⟨0, _⟩ => show win0_0.index t 0 * 1024 + 1 * i.val = r.val; rw [e.1, hr, Nat.one_mul]
  | ⟨1, _⟩ => show win0_0.index t 1 * 2048 + 1 * k.val = k.val; rw [e.2]; omega

/-- A point's gain. -/
theorem g_blk (t : Fin cfg0.N) (k : Fin 2048) : (iblk (F := Ideal) m c 1 t : Vec Ideal S1x2048 .f32) (ix2 0 k) = gA m c (ix1 k) := by
  have e := (idx t).2.1
  refine (show _ = (V (F := Ideal) m c main_v1 : Vec Ideal S1x2048 .f32) (ix2 0 k) from congrArg (V (F := Ideal) m c main_v1) (funext fun a => Fin.ext ?_)).trans (V_g m c k)
  match a with
  | ⟨0, _⟩ => show win0_1.index t 0 * 1 + 1 * 0 = 0; rw [e.1]
  | ⟨1, _⟩ => show win0_1.index t 1 * 2048 + 1 * k.val = k.val; rw [e.2]; omega

/-- A point's columns of the weights. -/
theorem w_blk (t : Fin cfg0.N) (k : Fin 2048) (j : Fin 1024) (s : Fin 4096) (hs : s.val = t.val % 4 * 1024 + j.val) :
    (iblk (F := Ideal) m c 2 t : Vec Ideal S2048x1024 .bf16) (ix2 k j) = wA m c (ix2 k s) := by
  have e := (idx t).2.2.1
  refine (show _ = (V (F := Ideal) m c main_v0 : Vec Ideal S2048x4096 .bf16) (ix2 k s) from congrArg (V (F := Ideal) m c main_v0) (funext fun a => Fin.ext ?_)).trans (V_w m c k s)
  match a with
  | ⟨0, _⟩ => show win0_2.index t 0 * 2048 + 1 * k.val = k.val; rw [e.1]; omega
  | ⟨1, _⟩ => show win0_2.index t 1 * 1024 + 1 * j.val = s.val; rw [e.2, hs, Nat.one_mul]

/-- The normalised rows of a point's own blocks. -/
theorem pay1_blk (t : Fin cfg0.N) (i : Fin 1024) (k : Fin 2048) (r : Fin 16384) (hr : r.val = t.val / 4 * 1024 + i.val) :
    k0_pay1 (F := Ideal) (iblk m c 0 t) (iblk m c 1 t) (ix2 i k) = (nrm (fun l => xA m c (ix2 r l)) (fun l => gA m c (ix1 l)) k : EReal) := by
  refine (pay1 _ _ i k).trans (congrFun (congrArg₂ nrm (funext fun l => ?_) (funext fun l => ?_)) k)
  · exact x_blk m c t i l r hr
  · exact g_blk m c t l

/-- The carried rows after a point are the normalised rows of the point's block of tokens. -/
theorem hn_eq (n : ℕ) (hn : n < cfg0.N) (i : Fin 1024) (k : Fin 2048) (r : Fin 16384) (hr : r.val = n / 4 * 1024 + i.val) :
    (outsAt0 (F := Ideal) m c n hn).2 (ix2 i k) = (nrm (fun l => xA m c (ix2 r l)) (fun l => gA m c (ix1 l)) k : EReal) := by
  induction n with
  | zero =>
    rw [outsAt0_A m c ⟨0, hn⟩ (Nat.zero_mod _)]
    dsimp only
    rw [soutA_eq]
    exact pay1_blk m c ⟨0, hn⟩ i k r hr
  | succ n ih =>
    by_cases h0 : (n + 1) % 4 = 0
    · rw [outsAt0_A m c ⟨n + 1, hn⟩ h0]
      dsimp only
      rw [soutA_eq]
      exact pay1_blk m c ⟨n + 1, hn⟩ i k r hr
    · rw [outsAt0_B m c ⟨n + 1, hn⟩ h0]
      dsimp only
      unfold sout0_B_0
      exact ih (Nat.lt_of_succ_lt hn) (by rw [hr]; omega)

/-- The block after a point, entry by entry. -/
theorem out_eq (t : Fin cfg0.N) (i j : Fin 1024) (r : Fin 16384) (s : Fin 4096) (hr : r.val = t.val / 4 * 1024 + i.val) (hs : s.val = t.val % 4 * 1024 + j.val) :
    (outsAt0 (F := Ideal) m c t.val t.isLt).1 (ix2 i j) = G (xA m c) (gA m c) (wA m c) (ix2 r s) := by
  have key : ∀ h : Vec Ideal S1024x2048 .bf16, (∀ k, h (ix2 i k) = (nrm (fun l => xA m c (ix2 r l)) (fun l => gA m c (ix1 l)) k : EReal)) →
      k0_pay2 (F := Ideal) h (iblk m c 2 t) (ix2 i j) = G (xA m c) (gA m c) (wA m c) (ix2 r s) := fun h hh => by
    refine (pay2 h _ i j).trans ?_
    unfold G pr
    refine Finset.sum_congr rfl fun k _ => ?_
    rw [hh k, w_blk m c t k j s hs]
    rfl
  by_cases h0 : t.val % 4 = 0
  · rw [outsAt0_A m c t h0]
    dsimp only
    rw [outA_eq]
    exact key _ fun k => pay1_blk m c t i k r hr
  · rw [outsAt0_B m c t h0]
    dsimp only
    rw [outB_eq]
    exact key _ fun k => hn_eq m c (t.val - 1) _ i k r (by rw [hr]; omega)

/-- An index is in a point's output block when its row and column are. -/
theorem mem_blk (t : Fin cfg0.N) (i : S16384x4096.Idx) (h0 : t.val / 4 * 1024 ≤ (i 0 : ℕ) ∧ (i 0 : ℕ) < t.val / 4 * 1024 + 1024)
    (h1 : t.val % 4 * 1024 ≤ (i 1 : ℕ) ∧ (i 1 : ℕ) < t.val % 4 * 1024 + 1024) : i ∈ ((cfg0.win 3).blk t).view.set := by
  show i ∈ ((View.whole main_v2).slice (win0_3.rect t)).set
  rw [View.set_slice_whole, Rect.mem_set_unit]
  obtain ⟨-, -, -, e, e0, e1⟩ := idx t
  intro a
  match a with
  | ⟨0, _⟩ => show win0_3.index t 0 * 1024 ≤ (i 0 : ℕ) ∧ (i 0 : ℕ) < win0_3.index t 0 * 1024 + win0_3.xsize (grid0.coords t) 0; rwa [e.1, e0]
  | ⟨1, _⟩ => show win0_3.index t 1 * 1024 ≤ (i 1 : ℕ) ∧ (i 1 : ℕ) < win0_3.index t 1 * 1024 + win0_3.xsize (grid0.coords t) 1; rwa [e.2, e1]

/-- The blocks cover the result. -/
theorem cover (i : S16384x4096.Idx) : ∃ t : Fin cfg0.N, (cfg0.win 3).flush t = true ∧ i ∈ ((cfg0.win 3).blk t).view.set := by
  have h0 : (i 0 : ℕ) < 16384 := (i 0).isLt
  have h1 : (i 1 : ℕ) < 4096 := (i 1).isLt
  refine ⟨⟨(i 0 : ℕ) / 1024 * 4 + (i 1 : ℕ) / 1024, lt_of_lt_of_eq (by omega) (show cfg0.N = 64 from N_0).symm⟩, flush0_3 _, mem_blk _ _ ?_ ?_⟩ <;> dsimp only <;> omega

/-- What a point writes back is its block of the result. -/
theorem flushed_eq (t : Fin cfg0.N) :
    (dats m 0 c).flushed 3 t = ((cfg0.win 3).blk t).view.read (Elt Ideal) (G (xA m c) (gA m c) (wA m c)) := by
  have hN := lt_of_lt_of_eq t.isLt (show cfg0.N = 64 from N_0)
  obtain ⟨-, -, -, e, e0, e1⟩ := idx t
  rw [Value.flushed3]
  funext j
  have h0 : (j 0 : ℕ) < 1024 := lt_of_lt_of_eq (j 0).isLt e0
  have h1 : (j 1 : ℕ) < 1024 := lt_of_lt_of_eq (j 1).isLt e1
  have hr : ((cfg0.win 3).blk t).view.read (Elt Ideal) (G (xA m c) (gA m c) (wA m c)) j = G (xA m c) (gA m c) (wA m c)
      (ix2 ⟨t.val / 4 * 1024 + (j 0 : ℕ), by omega⟩ ⟨t.val % 4 * 1024 + (j 1 : ℕ), by omega⟩) := by
    show G (xA m c) (gA m c) (wA m c) _ = _
    refine congrArg _ (funext fun a => Fin.ext ?_)
    match a with
    | ⟨0, _⟩ => show win0_3.index t 0 * 1024 + 1 * (j 0 : ℕ) = t.val / 4 * 1024 + (j 0 : ℕ); rw [e.1, Nat.one_mul]
    | ⟨1, _⟩ => show win0_3.index t 1 * 1024 + 1 * (j 1 : ℕ) = t.val % 4 * 1024 + (j 1 : ℕ); rw [e.2, Nat.one_mul]
  have hl : ∀ o : Vec Ideal S1024x1024 .bf16, (cfg0.win 3).cut (grid0.coords t) o j = o (ix2 ⟨j 0, h0⟩ ⟨j 1, h1⟩) := fun o => by
    refine congrArg o (funext fun a => ?_)
    match a with
    | ⟨0, _⟩ => rfl
    | ⟨1, _⟩ => rfl
  rw [hr, hl]
  exact out_eq m c t ⟨j 0, h0⟩ ⟨j 1, h1⟩ _ _ rfl rfl

/-- The result after the run. -/
theorem final : (dats m 0 c).arrAt 3 cfg0.N = G (xA m c) (gA m c) (wA m c) :=
  (dats m 0 c).arrAt_eq_of_cover 3 (G (xA m c) (gA m c) (wA m c)) (fun t _ => flushed_eq m c t) cover

/-- The idealized kernel and the reference end at one result. -/
theorem algebraic : Cert.algebraic_Kernel4Ideal_Reference4Ideal := by
  intro m ρ m' ρ' _ ha
  refine ⟨fun c => G (xA m c) (gA m c) (wA m c), (θ_run _ _ _).mono (fun _ h c => ⟨(h c).1.trans (final m c), (h c).2⟩) (Value.run_blocks (F := Ideal) m ρ), ?_⟩
  refine (θ_run _ _ _).mono (fun _ h c => ⟨(h c).1.trans ?_, (h c).2⟩) (Cert.Reference4Ideal.Value.run (F := Ideal) m' ρ')
  obtain ⟨h0, h1, h2⟩ := ha c
  rw [h0, h1, h2]
  exact ref_eq _ _ _

end Cert.LayKv

end
-- ==== Proof.Lay.AttQ.lean ====
/- The attention's projection to queries: normalised tokens times the weights, times the scale, block by block. -/
module

public import proofs.«01_k».proof.Proof.Lay.Norm
public import proofs.«01_k».proof.Proof.Gen.Kernel5Ideal.Value
public import proofs.«01_k».proof.Proof.Gen.Reference5Ideal.Run
public import Idealize.ShloMosaic.Lib.Tactic
public import Idealize.ShloMosaic.Adequacy

@[expose] public section

set_option maxRecDepth 16384

noncomputable section

namespace Cert.LayAttQ

open Idealize.ShloMosaic Idealize.ShloMosaic.TcCoe Idealize.SL.Sem Cert.Lay

/-- The projection, entry by entry. -/
def G (x : Vec Ideal ⟨2, ![16384, 2048]⟩ .f32) (g : Vec Ideal ⟨1, ![2048]⟩ .f32) (w : Vec Ideal ⟨2, ![2048, 2048]⟩ .f32) : Vec Ideal ⟨2, ![16384, 2048]⟩ .bf16 :=
  fun i => (pr x g (fun k => w (ix2 k (i 1))) (i 0) * Ideal.ofBits .f32 0x3DB504F3#32 : EReal)

section Ref

open Cert.Reference5Ideal Cert.Reference5Ideal.Gen

/-- The reference's result, entry by entry. -/
theorem ref_eq (x : FVec Ideal S16384x2048 .f32) (g : FVec Ideal S2048 .f32) (w : FVec Ideal S2048x2048 .f32) :
    truncf .bf16 (mulf (Host.dotGeneral (F := Ideal) (φ₂ := .f32) dot_S16384x2048_S2048x2048_S16384x2048_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))) w) (broadcastInDim S16384x2048 ![] bcast_S_S16384x2048 (constant S_ .f32 0x3DB504F3#32))) bitsLt_bf16_f32 = G x g w := by
  funext i
  obtain ⟨r, s, rfl⟩ : ∃ r s, i = ix2 r s := ⟨i 0, i 1, eq_ix2 i⟩
  unfold G pr nrm
  pointwise

/-- The frame of the reference. -/
theorem frameR : Cert.quiescent_Reference5Ideal := fun m ρ _ =>
  (θ_run _ _ _).mono (fun r h => ⟨fun c => (h c).2, Idealize.ShloMosaic.sem_eq_zero_of_no_sems (by decide) r.2⟩) (Value.run (F := Ideal) m ρ)

end Ref

open Cert.Kernel5Ideal Cert.Kernel5Ideal.Gen

/-- The normalised rows, entry by entry. -/
theorem pay1 (x : Vec Ideal S1024x2048 .f32) (g : Vec Ideal S1x2048 .f32) (i : Fin 1024) (k : Fin 2048) :
    k0_pay1 (F := Ideal) x g (ix2 i k) = (nrm (fun l => x (ix2 i l)) (fun l => g (ix2 0 l)) k : EReal) := by
  unfold nrm
  pointwise [k0_pay1]

/-- The stored product, entry by entry. -/
theorem pay2 (h : Vec Ideal S1024x2048 .bf16) (w : Vec Ideal S2048x1024 .bf16) (i : Fin 1024) (j : Fin 1024) :
    k0_pay2 (F := Ideal) h w (ix2 i j) = ((∑ k : Fin 2048, h (ix2 i k) * w (ix2 k j)) * Ideal.ofBits .f32 0x3DB504F3#32 : EReal) := by
  pointwise [k0_pay2]

/-- The block a point that starts a row of blocks leaves. -/
theorem outA_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x2048 .bf16) (harg6 : arg6.IsWhole) (hc0 : cond0_0 i)
    (x0 : Vec Ideal S1024x2048 .f32) (x1 : Vec Ideal S1x2048 .f32) (x2 : Vec Ideal S2048x1024 .bf16) : out0_A_3 (F := Ideal) c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz2]
  simp only [View.readAt_eq_ld, harg2.read_unread, harg3.read_unread, harg4.read_unread, View.readCov_unit_zero (S := S1024x2048) _ hz2,
    View.ld_unit_zero (S := S1024x2048) hz2, View.ld_unit_zero (S := S1x2048) hz2, View.ld_unit_zero (S := S2048x1024) hz2]

/-- The normalised rows such a point leaves. -/
theorem soutA_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x2048 .bf16) (harg6 : arg6.IsWhole) (hc0 : cond0_0 i)
    (x0 : Vec Ideal S1024x2048 .f32) (x1 : Vec Ideal S1x2048 .f32) (x2 : Vec Ideal S2048x1024 .bf16) : sout0_A_0 (F := Ideal) c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz2]
  simp only [View.readAt_eq_ld, harg2.read_unread, harg3.read_unread, View.ld_unit_zero (S := S1024x2048) hz2, View.ld_unit_zero (S := S1x2048) hz2]

/-- The block any other point leaves. -/
theorem outB_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x2048 .bf16) (harg6 : arg6.IsWhole) (hc0 : ¬cond0_0 i)
    (x0 : Vec Ideal S1024x2048 .f32) (x1 : Vec Ideal S1x2048 .f32) (x2 : Vec Ideal S2048x1024 .bf16) (xs0 : Vec Ideal S1024x2048 .bf16) : out0_B_3 (F := Ideal) c i arg2 harg2 arg3 harg3 arg4 harg4 arg5 harg5 arg6 harg6 hc0 x0 x1 x2 xs0 = k0_pay2 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero hz2]
  simp only [View.readAt_eq_ld, harg4.read_unread, harg6.read_unread, View.ld_unit_zero (S := S1024x2048) hz2, View.ld_unit_zero (S := S2048x1024) hz2]

variable (m : (ℓ : Loc nD τ sig) → Buf (Elt Ideal) ℓ) (c : Dev nD)

/-- The launched tokens. -/
abbrev xA : Vec Ideal S16384x2048 .f32 := m ((c : Thread nD τ).loc main_arg0)
/-- The launched gain. -/
abbrev gA : Vec Ideal S2048 .f32 := m ((c : Thread nD τ).loc main_arg1)
/-- The launched weights. -/
abbrev wA : Vec Ideal S2048x2048 .f32 := m ((c : Thread nD τ).loc main_arg2)

/-- The weights as the region finds them. -/
theorem V_w (k : Fin 2048) (j : Fin 2048) : (V (F := Ideal) m c main_v0 : Vec Ideal S2048x2048 .bf16) (ix2 k j) = wA m c (ix2 k j) := by
  dsimp only [V, hostOps0, List.flatten_cons, List.flatten_nil, List.append_nil, List.cons_append, List.nil_append]
  after_results
  rfl

/-- The gain as the region finds it. -/
theorem V_g (k : Fin 2048) : (V (F := Ideal) m c main_v1 : Vec Ideal S1x2048 .f32) (ix2 0 k) = gA m c (ix1 k) := by
  dsimp only [V, hostOps0, List.flatten_cons, List.flatten_nil, List.append_nil, List.cons_append, List.nil_append]
  after_results
  pointwise

/-- Every window's block indices and the sizes of the output's. -/
theorem idx : ∀ t : Fin grid0.N, (win0_0.index t 0 = t.val / 2 ∧ win0_0.index t 1 = 0) ∧ (win0_1.index t 0 = 0 ∧ win0_1.index t 1 = 0)
    ∧ (win0_2.index t 0 = 0 ∧ win0_2.index t 1 = t.val % 2) ∧ (win0_3.index t 0 = t.val / 2 ∧ win0_3.index t 1 = t.val % 2)
    ∧ win0_3.xsize (grid0.coords t) 0 = 1024 ∧ win0_3.xsize (grid0.coords t) 1 = 1024 := by decide +kernel

/-- A point's rows of the tokens. -/
theorem x_blk (t : Fin cfg0.N) (i : Fin 1024) (k : Fin 2048) (r : Fin 16384) (hr : r.val = t.val / 2 * 1024 + i.val) :
    (iblk (F := Ideal) m c 0 t : Vec Ideal S1024x2048 .f32) (ix2 i k) = xA m c (ix2 r k) := by
  have e := (idx t).1
  refine (show _ = (V (F := Ideal) m c main_arg0 : Vec Ideal S16384x2048 .f32) (ix2 r k) from congrArg (V (F := Ideal) m c main_arg0) (funext fun a => Fin.ext ?_)).trans (congrFun (V_main_arg0 m c) _)
  match a with
  | ⟨0, _⟩ => show win0_0.index t 0 * 1024 + 1 * i.val = r.val; rw [e.1, hr, Nat.one_mul]
  | ⟨1, _⟩ => show win0_0.index t 1 * 2048 + 1 * k.val = k.val; rw [e.2]; omega

/-- A point's gain. -/
theorem g_blk (t : Fin cfg0.N) (k : Fin 2048) : (iblk (F := Ideal) m c 1 t : Vec Ideal S1x2048 .f32) (ix2 0 k) = gA m c (ix1 k) := by
  have e := (idx t).2.1
  refine (show _ = (V (F := Ideal) m c main_v1 : Vec Ideal S1x2048 .f32) (ix2 0 k) from congrArg (V (F := Ideal) m c main_v1) (funext fun a => Fin.ext ?_)).trans (V_g m c k)
  match a with
  | ⟨0, _⟩ => show win0_1.index t 0 * 1 + 1 * 0 = 0; rw [e.1]
  | ⟨1, _⟩ => show win0_1.index t 1 * 2048 + 1 * k.val = k.val; rw [e.2]; omega

/-- A point's columns of the weights. -/
theorem w_blk (t : Fin cfg0.N) (k : Fin 2048) (j : Fin 1024) (s : Fin 2048) (hs : s.val = t.val % 2 * 1024 + j.val) :
    (iblk (F := Ideal) m c 2 t : Vec Ideal S2048x1024 .bf16) (ix2 k j) = wA m c (ix2 k s) := by
  have e := (idx t).2.2.1
  refine (show _ = (V (F := Ideal) m c main_v0 : Vec Ideal S2048x2048 .bf16) (ix2 k s) from congrArg (V (F := Ideal) m c main_v0) (funext fun a => Fin.ext ?_)).trans (V_w m c k s)
  match a with
  | ⟨0, _⟩ => show win0_2.index t 0 * 2048 + 1 * k.val = k.val; rw [e.1]; omega
  | ⟨1, _⟩ => show win0_2.index t 1 * 1024 + 1 * j.val = s.val; rw [e.2, hs, Nat.one_mul]

/-- The normalised rows of a point's own blocks. -/
theorem pay1_blk (t : Fin cfg0.N) (i : Fin 1024) (k : Fin 2048) (r : Fin 16384) (hr : r.val = t.val / 2 * 1024 + i.val) :
    k0_pay1 (F := Ideal) (iblk m c 0 t) (iblk m c 1 t) (ix2 i k) = (nrm (fun l => xA m c (ix2 r l)) (fun l => gA m c (ix1 l)) k : EReal) := by
  refine (pay1 _ _ i k).trans (congrFun (congrArg₂ nrm (funext fun l => ?_) (funext fun l => ?_)) k)
  · exact x_blk m c t i l r hr
  · exact g_blk m c t l

/-- The carried rows after a point are the normalised rows of the point's block of tokens. -/
theorem hn_eq (n : ℕ) (hn : n < cfg0.N) (i : Fin 1024) (k : Fin 2048) (r : Fin 16384) (hr : r.val = n / 2 * 1024 + i.val) :
    (outsAt0 (F := Ideal) m c n hn).2 (ix2 i k) = (nrm (fun l => xA m c (ix2 r l)) (fun l => gA m c (ix1 l)) k : EReal) := by
  induction n with
  | zero =>
    rw [outsAt0_A m c ⟨0, hn⟩ (Nat.zero_mod _)]
    dsimp only
    rw [soutA_eq]
    exact pay1_blk m c ⟨0, hn⟩ i k r hr
  | succ n ih =>
    by_cases h0 : (n + 1) % 2 = 0
    · rw [outsAt0_A m c ⟨n + 1, hn⟩ h0]
      dsimp only
      rw [soutA_eq]
      exact pay1_blk m c ⟨n + 1, hn⟩ i k r hr
    · rw [outsAt0_B m c ⟨n + 1, hn⟩ h0]
      dsimp only
      unfold sout0_B_0
      exact ih (Nat.lt_of_succ_lt hn) (by rw [hr]; omega)

/-- The block after a point, entry by entry. -/
theorem out_eq (t : Fin cfg0.N) (i j : Fin 1024) (r : Fin 16384) (s : Fin 2048) (hr : r.val = t.val / 2 * 1024 + i.val) (hs : s.val = t.val % 2 * 1024 + j.val) :
    (outsAt0 (F := Ideal) m c t.val t.isLt).1 (ix2 i j) = G (xA m c) (gA m c) (wA m c) (ix2 r s) := by
  have key : ∀ h : Vec Ideal S1024x2048 .bf16, (∀ k, h (ix2 i k) = (nrm (fun l => xA m c (ix2 r l)) (fun l => gA m c (ix1 l)) k : EReal)) →
      k0_pay2 (F := Ideal) h (iblk m c 2 t) (ix2 i j) = G (xA m c) (gA m c) (wA m c) (ix2 r s) := fun h hh => by
    refine (pay2 h _ i j).trans ?_
    unfold G pr
    refine congrArg (· * _) (Finset.sum_congr rfl fun k _ => ?_)
    rw [hh k, w_blk m c t k j s hs]
    rfl
  by_cases h0 : t.val % 2 = 0
  · rw [outsAt0_A m c t h0]
    dsimp only
    rw [outA_eq]
    exact key _ fun k => pay1_blk m c t i k r hr
  · rw [outsAt0_B m c t h0]
    dsimp only
    rw [outB_eq]
    exact key _ fun k => hn_eq m c (t.val - 1) _ i k r (by rw [hr]; omega)

/-- An index is in a point's output block when its row and column are. -/
theorem mem_blk (t : Fin cfg0.N) (i : S16384x2048.Idx) (h0 : t.val / 2 * 1024 ≤ (i 0 : ℕ) ∧ (i 0 : ℕ) < t.val / 2 * 1024 + 1024)
    (h1 : t.val % 2 * 1024 ≤ (i 1 : ℕ) ∧ (i 1 : ℕ) < t.val % 2 * 1024 + 1024) : i ∈ ((cfg0.win 3).blk t).view.set := by
  show i ∈ ((View.whole main_v2).slice (win0_3.rect t)).set
  rw [View.set_slice_whole, Rect.mem_set_unit]
  obtain ⟨-, -, -, e, e0, e1⟩ := idx t
  intro a
  match a with
  | ⟨0, _⟩ => show win0_3.index t 0 * 1024 ≤ (i 0 : ℕ) ∧ (i 0 : ℕ) < win0_3.index t 0 * 1024 + win0_3.xsize (grid0.coords t) 0; rwa [e.1, e0]
  | ⟨1, _⟩ => show win0_3.index t 1 * 1024 ≤ (i 1 : ℕ) ∧ (i 1 : ℕ) < win0_3.index t 1 * 1024 + win0_3.xsize (grid0.coords t) 1; rwa [e.2, e1]

/-- The blocks cover the result. -/
theorem cover (i : S16384x2048.Idx) : ∃ t : Fin cfg0.N, (cfg0.win 3).flush t = true ∧ i ∈ ((cfg0.win 3).blk t).view.set := by
  have h0 : (i 0 : ℕ) < 16384 := (i 0).isLt
  have h1 : (i 1 : ℕ) < 2048 := (i 1).isLt
  refine ⟨⟨(i 0 : ℕ) / 1024 * 2 + (i 1 : ℕ) / 1024, lt_of_lt_of_eq (by omega) (show cfg0.N = 32 from N_0).symm⟩, flush0_3 _, mem_blk _ _ ?_ ?_⟩ <;> dsimp only <;> omega

/-- What a point writes back is its block of the result. -/
theorem flushed_eq (t : Fin cfg0.N) :
    (dats m 0 c).flushed 3 t = ((cfg0.win 3).blk t).view.read (Elt Ideal) (G (xA m c) (gA m c) (wA m c)) := by
  have hN := lt_of_lt_of_eq t.isLt (show cfg0.N = 32 from N_0)
  obtain ⟨-, -, -, e, e0, e1⟩ := idx t
  rw [Value.flushed3]
  funext j
  have h0 : (j 0 : ℕ) < 1024 := lt_of_lt_of_eq (j 0).isLt e0
  have h1 : (j 1 : ℕ) < 1024 := lt_of_lt_of_eq (j 1).isLt e1
  have hr : ((cfg0.win 3).blk t).view.read (Elt Ideal) (G (xA m c) (gA m c) (wA m c)) j = G (xA m c) (gA m c) (wA m c)
      (ix2 ⟨t.val / 2 * 1024 + (j 0 : ℕ), by omega⟩ ⟨t.val % 2 * 1024 + (j 1 : ℕ), by omega⟩) := by
    show G (xA m c) (gA m c) (wA m c) _ = _
    refine congrArg _ (funext fun a => Fin.ext ?_)
    match a with
    | ⟨0, _⟩ => show win0_3.index t 0 * 1024 + 1 * (j 0 : ℕ) = t.val / 2 * 1024 + (j 0 : ℕ); rw [e.1, Nat.one_mul]
    | ⟨1, _⟩ => show win0_3.index t 1 * 1024 + 1 * (j 1 : ℕ) = t.val % 2 * 1024 + (j 1 : ℕ); rw [e.2, Nat.one_mul]
  have hl : ∀ o : Vec Ideal S1024x1024 .bf16, (cfg0.win 3).cut (grid0.coords t) o j = o (ix2 ⟨j 0, h0⟩ ⟨j 1, h1⟩) := fun o => by
    refine congrArg o (funext fun a => ?_)
    match a with
    | ⟨0, _⟩ => rfl
    | ⟨1, _⟩ => rfl
  rw [hr, hl]
  exact out_eq m c t ⟨j 0, h0⟩ ⟨j 1, h1⟩ _ _ rfl rfl

/-- The result after the run. -/
theorem final : (dats m 0 c).arrAt 3 cfg0.N = G (xA m c) (gA m c) (wA m c) :=
  (dats m 0 c).arrAt_eq_of_cover 3 (G (xA m c) (gA m c) (wA m c)) (fun t _ => flushed_eq m c t) cover

/-- The idealized kernel and the reference end at one result. -/
theorem algebraic : Cert.algebraic_Kernel5Ideal_Reference5Ideal := by
  intro m ρ m' ρ' _ ha
  refine ⟨fun c => G (xA m c) (gA m c) (wA m c), (θ_run _ _ _).mono (fun _ h c => ⟨(h c).1.trans (final m c), (h c).2⟩) (Value.run_blocks (F := Ideal) m ρ), ?_⟩
  refine (θ_run _ _ _).mono (fun _ h c => ⟨(h c).1.trans ?_, (h c).2⟩) (Cert.Reference5Ideal.Value.run (F := Ideal) m' ρ')
  obtain ⟨h0, h1, h2⟩ := ha c
  rw [h0, h1, h2]
  exact ref_eq _ _ _

end Cert.LayAttQ

end
-- ==== Proof.Lay.AttO.lean ====
/- The attention's output projection with the residual: the kernel's blocks of rows and columns make up the product plus the residual. -/
module

public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Pointwise.Index
public import Idealize.ShloMosaic.PureOps.Ideal
public import Idealize.ShloMosaic.Adequacy

@[expose] public section

set_option maxRecDepth 16384

noncomputable section

namespace Cert.LayAttO

open Idealize.ShloMosaic Idealize.ShloMosaic.TcCoe Idealize.SL.Sem Cert.Kernel6Ideal Cert.Kernel6Ideal.Gen

/-- The residual plus the product, entry by entry. -/
def G (y : Vec Ideal S16384x2048 .bf16) (w : Vec Ideal S2048x2048 .f32) (x : Vec Ideal S16384x2048 .f32) : Vec Ideal S16384x2048 .f32 :=
  fun i => (x i + ∑ k : Fin 2048, y (ix2 (i 0) k) * w (ix2 k (i 1)) : EReal)

theorem hz2 : (![0, 0] : Fin 2 → Nat) = fun _ => 0 := funext fun a => by fin_cases a <;> rfl

/-- What the body stores, entry by entry. -/
theorem pay (x : Vec Ideal S1024x1024 .f32) (y : Vec Ideal S1024x2048 .bf16) (w : Vec Ideal S2048x1024 .bf16) (i : Fin 1024) (j : Fin 1024) :
    k0_pay1 (F := Ideal) x y w (ix2 i j) = (x (ix2 i j) + ∑ k : Fin 2048, y (ix2 i k) * w (ix2 k j) : EReal) := by
  pointwise [k0_pay1]

/-- The block the body leaves. -/
theorem out_eq (y : Vec Ideal S1024x2048 .bf16) (w : Vec Ideal S2048x1024 .bf16) (x : Vec Ideal S1024x1024 .f32) :
    out0_3 (F := Ideal) y w x = k0_pay1 x y w := by
  unfold out0_3
  rw [View.canon_unit_zero hz2, View.ld_unit_zero (S := S1024x1024) hz2, View.ld_unit_zero (S := S1024x2048) hz2, View.ld_unit_zero (S := S2048x1024) hz2]

variable (m : (ℓ : Loc nD τ sig) → Buf (Elt Ideal) ℓ) (c : Dev nD)

/-- The launched product's left side. -/
abbrev yA : Vec Ideal S16384x2048 .bf16 := m ((c : Thread nD τ).loc main_arg0)
/-- The launched weights. -/
abbrev wA : Vec Ideal S2048x2048 .f32 := m ((c : Thread nD τ).loc main_arg1)
/-- The launched residual. -/
abbrev xA : Vec Ideal S16384x2048 .f32 := m ((c : Thread nD τ).loc main_arg2)

/-- The weights as the region finds them. -/
theorem V_w (k : Fin 2048) (j : Fin 2048) : (V (F := Ideal) m c main_v0 : Vec Ideal S2048x2048 .bf16) (ix2 k j) = wA m c (ix2 k j) := by
  dsimp only [V, hostOps0, List.flatten_cons, List.flatten_nil, List.append_nil, List.cons_append, List.nil_append]
  after_results
  rfl

/-- Every window's block indices and the sizes of the output's. -/
theorem idx : ∀ t : Fin grid0.N, (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) ∧ (win0_3.index t 0 = t.val / 2 ∧ win0_3.index t 1 = t.val % 2)
    ∧ win0_3.xsize (grid0.coords t) 0 = 1024 ∧ win0_3.xsize (grid0.coords t) 1 = 1024 := by decide +kernel

/-- A point's rows of the left side. -/
theorem y_blk (t : Fin cfg0.N) (i : Fin 1024) (k : Fin 2048) (r : Fin 16384) (hr : r.val = t.val / 2 * 1024 + i.val) :
    (iblk (F := Ideal) m c 0 t : Vec Ideal S1024x2048 .bf16) (ix2 i k) = yA m c (ix2 r k) := by
  have e := (idx t).1
  refine (show _ = (V (F := Ideal) m c main_arg0 : Vec Ideal S16384x2048 .bf16) (ix2 r k) from congrArg (V (F := Ideal) m c main_arg0) (funext fun a => Fin.ext ?_)).trans (congrFun (V_main_arg0 m c) _)
  match a with
  | ⟨0, _⟩ => show win0_0.index t 0 * 1024 + 1 * i.val = r.val; rw [e.1, hr, Nat.one_mul]
  | ⟨1, _⟩ => show win0_0.index t 1 * 2048 + 1 * k.val = k.val; rw [e.2]; omega

/-- A point's columns of the weights. -/
theorem w_blk (t : Fin cfg0.N) (k : Fin 2048) (j : Fin 1024) (s : Fin 2048) (hs : s.val = t.val % 2 * 1024 + j.val) :
    (iblk (F := Ideal) m c 1 t : Vec Ideal S2048x1024 .bf16) (ix2 k j) = wA m c (ix2 k s) := by
  have e := (idx t).2.1
  refine (show _ = (V (F := Ideal) m c main_v0 : Vec Ideal S2048x2048 .bf16) (ix2 k s) from congrArg (V (F := Ideal) m c main_v0) (funext fun a => Fin.ext ?_)).trans (V_w m c k s)
  match a with
  | ⟨0, _⟩ => show win0_1.index t 0 * 2048 + 1 * k.val = k.val; rw [e.1]; omega
  | ⟨1, _⟩ => show win0_1.index t 1 * 1024 + 1 * j.val = s.val; rw [e.2, hs, Nat.one_mul]

/-- A point's block of the residual. -/
theorem x_blk (t : Fin cfg0.N) (i : Fin 1024) (j : Fin 1024) (r : Fin 16384) (s : Fin 2048) (hr : r.val = t.val / 2 * 1024 + i.val) (hs : s.val = t.val % 2 * 1024 + j.val) :
    (iblk (F := Ideal) m c 2 t : Vec Ideal S1024x1024 .f32) (ix2 i j) = xA m c (ix2 r s) := by
  have e := (idx t).2.2.1
  refine (show _ = (V (F := Ideal) m c main_arg2 : Vec Ideal S16384x2048 .f32) (ix2 r s) from congrArg (V (F := Ideal) m c main_arg2) (funext fun a => Fin.ext ?_)).trans (congrFun (V_main_arg2 m c) _)
  match a with
  | ⟨0, _⟩ => show win0_2.index t 0 * 1024 + 1 * i.val = r.val; rw [e.1, hr, Nat.one_mul]
  | ⟨1, _⟩ => show win0_2.index t 1 * 1024 + 1 * j.val = s.val; rw [e.2, hs, Nat.one_mul]

/-- An index is in a point's output block when its row and column are. -/
theorem mem_blk (t : Fin cfg0.N) (i : S16384x2048.Idx) (h0 : t.val / 2 * 1024 ≤ (i 0 : ℕ) ∧ (i 0 : ℕ) < t.val / 2 * 1024 + 1024)
    (h1 : t.val % 2 * 1024 ≤ (i 1 : ℕ) ∧ (i 1 : ℕ) < t.val % 2 * 1024 + 1024) : i ∈ ((cfg0.win 3).blk t).view.set := by
  show i ∈ ((View.whole main_v1).slice (win0_3.rect t)).set
  rw [View.set_slice_whole, Rect.mem_set_unit]
  obtain ⟨-, -, -, e, e0, e1⟩ := idx t
  intro a
  match a with
  | ⟨0, _⟩ => show win0_3.index t 0 * 1024 ≤ (i 0 : ℕ) ∧ (i 0 : ℕ) < win0_3.index t 0 * 1024 + win0_3.xsize (grid0.coords t) 0; rwa [e.1, e0]
  | ⟨1, _⟩ => show win0_3.index t 1 * 1024 ≤ (i 1 : ℕ) ∧ (i 1 : ℕ) < win0_3.index t 1 * 1024 + win0_3.xsize (grid0.coords t) 1; rwa [e.2, e1]

/-- The blocks cover the result. -/
theorem cover (i : S16384x2048.Idx) : ∃ t : Fin cfg0.N, (cfg0.win 3).flush t = true ∧ i ∈ ((cfg0.win 3).blk t).view.set := by
  have h0 : (i 0 : ℕ) < 16384 := (i 0).isLt
  have h1 : (i 1 : ℕ) < 2048 := (i 1).isLt
  refine ⟨⟨(i 0 : ℕ) / 1024 * 2 + (i 1 : ℕ) / 1024, lt_of_lt_of_eq (by omega) (show cfg0.N = 32 from N_0).symm⟩, flush0_3 _, mem_blk _ _ ?_ ?_⟩ <;> dsimp only <;> omega

/-- What a point writes back is its block of the result. -/
theorem flushed_eq (t : Fin cfg0.N) :
    (dats m 0 c).flushed 3 t = ((cfg0.win 3).blk t).view.read (Elt Ideal) (G (yA m c) (wA m c) (xA m c)) := by
  have hN := lt_of_lt_of_eq t.isLt (show cfg0.N = 32 from N_0)
  obtain ⟨-, -, -, e, e0, e1⟩ := idx t
  rw [Value.flushed3, out_eq]
  funext j
  have h0 : (j 0 : ℕ) < 1024 := lt_of_lt_of_eq (j 0).isLt e0
  have h1 : (j 1 : ℕ) < 1024 := lt_of_lt_of_eq (j 1).isLt e1
  have hr : ((cfg0.win 3).blk t).view.read (Elt Ideal) (G (yA m c) (wA m c) (xA m c)) j = G (yA m c) (wA m c) (xA m c)
      (ix2 ⟨t.val / 2 * 1024 + (j 0 : ℕ), by omega⟩ ⟨t.val % 2 * 1024 + (j 1 : ℕ), by omega⟩) := by
    show G (yA m c) (wA m c) (xA m c) _ = _
    refine congrArg _ (funext fun a => Fin.ext ?_)
    match a with
    | ⟨0, _⟩ => show win0_3.index t 0 * 1024 + 1 * (j 0 : ℕ) = t.val / 2 * 1024 + (j 0 : ℕ); rw [e.1, Nat.one_mul]
    | ⟨1, _⟩ => show win0_3.index t 1 * 1024 + 1 * (j 1 : ℕ) = t.val % 2 * 1024 + (j 1 : ℕ); rw [e.2, Nat.one_mul]
  have hl : ∀ o : Vec Ideal S1024x1024 .f32, (cfg0.win 3).cut (grid0.coords t) o j = o (ix2 ⟨j 0, h0⟩ ⟨j 1, h1⟩) := fun o => by
    refine congrArg o (funext fun a => ?_)
    match a with
    | ⟨0, _⟩ => rfl
    | ⟨1, _⟩ => rfl
  rw [hr, hl, pay, x_blk m c t ⟨j 0, h0⟩ ⟨j 1, h1⟩ ⟨t.val / 2 * 1024 + (j 0 : ℕ), by omega⟩ ⟨t.val % 2 * 1024 + (j 1 : ℕ), by omega⟩ rfl rfl]
  refine congrArg (_ + ·) (Finset.sum_congr rfl fun k _ => ?_)
  rw [y_blk m c t ⟨j 0, h0⟩ k ⟨t.val / 2 * 1024 + (j 0 : ℕ), by omega⟩ rfl, w_blk m c t k ⟨j 1, h1⟩ ⟨t.val % 2 * 1024 + (j 1 : ℕ), by omega⟩ rfl]
  rfl

/-- The result after the run. -/
theorem final : (dats m 0 c).arrAt 3 cfg0.N = G (yA m c) (wA m c) (xA m c) :=
  (dats m 0 c).arrAt_eq_of_cover 3 (G (yA m c) (wA m c) (xA m c)) (fun t _ => flushed_eq m c t) cover

/-- The reference's result, entry by entry. -/
theorem ref_eq (y : Vec Ideal S16384x2048 .bf16) (w : Vec Ideal S2048x2048 .f32) (x : Vec Ideal S16384x2048 .f32) :
    (addf x (Host.dotGeneral (F := Ideal) (φ₂ := .f32) Cert.Reference6Ideal.dot_S16384x2048_S2048x2048_S16384x2048_1_0_0_1_n_n none (extf .f32 y Cert.Reference6Ideal.Gen.bitsLt_bf16_f32 : FVec Ideal S16384x2048 .f32) (w : FVec Ideal S2048x2048 .f32) : FVec Ideal S16384x2048 .f32) : Vec Ideal S16384x2048 .f32) = G y w x := by
  funext i
  obtain ⟨r, s, rfl⟩ : ∃ r s, i = ix2 r s := ⟨i 0, i 1, eq_ix2 i⟩
  unfold G
  pointwise

/-- The frame of the reference. -/
theorem frameR : Cert.quiescent_Reference6Ideal := fun m ρ _ =>
  (θ_run _ _ _).mono (fun r h => ⟨fun c => (h c).2, Idealize.ShloMosaic.sem_eq_zero_of_no_sems (by decide) r.2⟩) (Cert.Reference6Ideal.Value.run (F := Ideal) m ρ)

/-- The idealized kernel and the reference end at one result. -/
theorem algebraic : Cert.algebraic_Kernel6Ideal_Reference6Ideal := by
  intro m ρ m' ρ' _ ha
  refine ⟨fun c => G (yA m c) (wA m c) (xA m c), (θ_run _ _ _).mono (fun _ h c => ⟨(h c).1.trans (final m c), (h c).2⟩) (Value.run_blocks (F := Ideal) m ρ), ?_⟩
  refine (θ_run _ _ _).mono (fun _ h c => ⟨(h c).1.trans ?_, (h c).2⟩) (Cert.Reference6Ideal.Value.run (F := Ideal) m' ρ')
  obtain ⟨h0, h1, h2⟩ := ha c
  rw [h0, h1, h2]
  exact ref_eq _ _ _

end Cert.LayAttO

end
-- ==== Proof.Att.Core.lean ====
/- Attention with relative biases over a band of earlier positions: its weights, and that positions whose score is minus infinity do not count. -/
module

public import proofs.«01_k».proof.Proof.Ret.Math
public import Idealize.ShloMosaic.Lib.Pointwise
public import Idealize.ShloMosaic.Lib.Tactic
public import Idealize.ShloMosaic.Lib.IdealHost

@[expose] public section

noncomputable section

namespace Cert.Att

open Idealize.ShloMosaic

/-- The greatest score. -/
def mx {n : ℕ} (s : Fin n → EReal) : EReal := Finset.fold max ⊥ (fun x => s x) Finset.univ

/-- A score's weight. -/
def sm {n : ℕ} (s : Fin n → EReal) (w : Fin n) : EReal := Ideal.div (Ideal.exp (s w - mx s)) (∑ x, Ideal.exp (s x - mx s))

/-- The values, weighted. -/
def att {n : ℕ} (s v : Fin n → EReal) : EReal := ∑ w, sm s w * v w

/-- The float pattern of minus infinity. -/
theorem ofBits_ninf : Ideal.ofBits .f32 0xFF800000#32 = (⊥ : EReal) := by
  rfl

/-- The maximum is below a bound when every score is. -/
theorem mx_le {n : ℕ} (s : Fin n → EReal) (c : EReal) : mx s ≤ c ↔ ∀ x, s x ≤ c := by
  unfold mx
  rw [Finset.fold_max_le]
  simp

/-- Scores of minus infinity do not change the maximum. -/
theorem mx_emb {n m : ℕ} (e : Fin n → Fin m) (s : Fin n → EReal) (s' : Fin m → EReal) (hs : ∀ j, s' (e j) = s j)
    (h0 : ∀ x, (∀ j, e j ≠ x) → s' x = ⊥) : mx s' = mx s := by
  refine le_antisymm ((mx_le _ _).mpr fun x => ?_) ((mx_le _ _).mpr fun j => ?_)
  · by_cases hx : ∃ j, e j = x
    · obtain ⟨j, rfl⟩ := hx
      rw [hs]
      exact (mx_le s _).mp le_rfl j
    · rw [h0 x fun j hj => hx ⟨j, hj⟩]
      exact bot_le
  · rw [← hs]
    exact (mx_le s' _).mp le_rfl _

/-- An exponential is not negative. -/
theorem exp_nonneg (x : EReal) : 0 ≤ Ideal.exp x := by
  induction x using EReal.rec with
  | bot => exact le_rfl
  | top => exact le_top
  | coe r => exact EReal.coe_nonneg.mpr (Real.exp_pos r).le

/-- Only minus infinity has exponential zero. -/
theorem exp_eq_zero {x : EReal} (h : Ideal.exp x = 0) : x = ⊥ := by
  induction x using EReal.rec with
  | bot => rfl
  | top => exact absurd (show (⊤ : EReal) = 0 from h) EReal.top_ne_zero
  | coe r => exact absurd (EReal.coe_eq_zero.mp h) (Real.exp_pos r).ne'

/-- Minus infinity less anything is minus infinity. -/
theorem bot_sub (x : EReal) : (⊥ : EReal) - x = ⊥ := by
  rw [sub_eq_add_neg, EReal.bot_add]

/-- When some score is finite and none is plus infinity, the weights' denominator is not zero. -/
theorem den_ne {n : ℕ} (s : Fin n → EReal) (h : ∀ j, s j ≠ ⊤) (j : Fin n) (hj : s j ≠ ⊥) : (∑ x, Ideal.exp (s x - mx s)) ≠ 0 := by
  intro h0
  have e := exp_eq_zero ((Finset.sum_eq_zero_iff_of_nonneg fun x _ => exp_nonneg _).mp h0 j (Finset.mem_univ j))
  have ht : mx s ≠ ⊤ := by
    refine ne_of_lt ?_
    unfold mx
    rw [Finset.fold_max_lt]
    exact ⟨bot_lt_top, fun x _ => lt_top_iff_ne_top.mpr (h x)⟩
  rw [sub_eq_add_neg, EReal.add_eq_bot_iff] at e
  rcases e with e | e
  · exact hj e
  · exact ht (EReal.neg_eq_bot_iff.mp e)

/-- Attention over more positions is attention over fewer, when the others' scores are minus infinity. -/
theorem att_emb {n m : ℕ} (e : Fin n → Fin m) (he : Function.Injective e) (s v : Fin n → EReal) (s' v' : Fin m → EReal)
    (hs : ∀ j, s' (e j) = s j) (h0 : ∀ x, (∀ j, e j ≠ x) → s' x = ⊥) (hv : ∀ j, s j ≠ ⊥ → v' (e j) = v j)
    (ht : ∀ j, s j ≠ ⊤) (hf : ∃ j, s j ≠ ⊥) : att s' v' = att s v := by
  obtain ⟨j₀, hj₀⟩ := hf
  have hm := mx_emb e s s' hs h0
  have hd : (∑ x, Ideal.exp (s' x - mx s')) = ∑ x, Ideal.exp (s x - mx s) := by
    rw [hm]
    refine (Fintype.sum_of_injective e he _ _ (fun x hx => ?_) fun j => ?_).symm
    · rw [h0 x fun j hj => hx ⟨j, hj⟩, bot_sub]; rfl
    · rw [hs]
  have hne := den_ne s ht j₀ hj₀
  have hz : ∀ x, s' x = ⊥ → sm s' x = 0 := fun x hx => by
    unfold sm
    rw [hd, hx, bot_sub]
    exact Ideal.zero_div hne
  unfold att
  refine (Fintype.sum_of_injective e he _ _ (fun x hx => ?_) fun j => ?_).symm
  · rw [hz x (h0 x fun j hj => hx ⟨j, hj⟩), zero_mul]
  · by_cases hb : s j = ⊥
    · rw [hz (e j) ((hs j).trans hb)]
      have : sm s j = 0 := by
        unfold sm
        rw [hb, bot_sub]
        exact Ideal.zero_div hne
      rw [this, zero_mul, zero_mul]
    · rw [hv j hb]
      unfold sm
      rw [hd, hm, hs]

/-- A score: a product of a query and a key, a bias and a mask. -/
def score {n : ℕ} (q : Fin 128 → EReal) (k : Fin n → Fin 128 → EReal) (b z : Fin n → EReal) (w : Fin n) : EReal := ∑ d, q d * k w d + b w + z w

/-- Three blocks of 256 rows, one after another. -/
def tri {α : Type} (a b c : Fin 256 → α) (w : Fin 768) : α :=
  if h : w.val < 256 then a ⟨w.val, h⟩ else if h' : w.val - 256 < 256 then b ⟨w.val - 256, h'⟩ else c ⟨w.val - 256 - 256, by omega⟩

/-- A sum over three blocks, block by block. -/
theorem sum_tri (f : Fin 768 → EReal) : ∑ w, f w = ∑ x : Fin 256, f ⟨x.val, by omega⟩ + ∑ x : Fin 256, f ⟨256 + x.val, by omega⟩ + ∑ x : Fin 256, f ⟨512 + x.val, by omega⟩ := by
  have h1 : ∑ w, f w = ∑ x : Fin 512, f ⟨x.val, by omega⟩ + ∑ x : Fin 256, f ⟨512 + x.val, by omega⟩ := Fin.sum_univ_add (a := 512) (b := 256) f
  have h2 : ∑ x : Fin 512, f ⟨x.val, by omega⟩ = ∑ x : Fin 256, f ⟨x.val, by omega⟩ + ∑ x : Fin 256, f ⟨256 + x.val, by omega⟩ := Fin.sum_univ_add (a := 256) (b := 256) fun x : Fin 512 => f ⟨x.val, by omega⟩
  rw [h1, h2]

/-- A product of finite numbers is finite, and so is a sum. -/
theorem fin_dot {n : ℕ} (q k : Fin n → EReal) (hq : ∀ d, q d ≠ ⊤ ∧ q d ≠ ⊥) (hk : ∀ d, k d ≠ ⊤ ∧ k d ≠ ⊥) : (∑ d, q d * k d) ≠ ⊤ ∧ (∑ d, q d * k d) ≠ ⊥ := by
  have e : (∑ d, q d * k d) = ((∑ d, (q d).toReal * (k d).toReal : ℝ) : EReal) := by
    rw [← Cert.Ret.coe_sum_ereal]
    refine Finset.sum_congr rfl fun d _ => ?_
    rw [EReal.coe_mul, EReal.coe_toReal (hq d).1 (hq d).2, EReal.coe_toReal (hk d).1 (hk d).2]
  rw [e]
  exact ⟨EReal.coe_ne_top _, EReal.coe_ne_bot _⟩

end Cert.Att

end
-- ==== Proof.Att.Ref.lean ====
/- The reference's attention read entry by entry: the padded chunks, the band, the biases, the mask, the weights and the weighted values. -/
module

public import proofs.«01_k».proof.Proof.Gen.Reference7Ideal.Run
public import proofs.«01_k».proof.Proof.Att.Core
public import Idealize.ShloMosaic.Adequacy

@[expose] public section

set_option maxRecDepth 16384

noncomputable section

namespace Cert.Att

open Idealize.ShloMosaic Idealize.ShloMosaic.TcCoe Idealize.SL.Sem

/-- A table's row read at a square of positions. -/
theorem gather2 {α : Type} {H N A B : ℕ} (hN : 0 < N) (wf : GatherDims.WF ⟨2, ![H, N]⟩ ⟨3, ![A, B, 1]⟩ ⟨3, ![H, A, B]⟩ [0] [1] [] [1] [] 2 ![H, 1])
    (x : (⟨2, ![H, N]⟩ : Shape).Idx → α) (idx : IVec ⟨3, ![A, B, 1]⟩ 32) (h : Fin H) (a : Fin A) (b : Fin B) :
    Host.gather (⟨[0], [1], [], [], [1], 2, ![H, 1], wf⟩ : GatherDims ⟨2, ![H, N]⟩ ⟨3, ![A, B, 1]⟩ ⟨3, ![H, A, B]⟩) x idx (ix3 h a b) = x (ix2 h ⟨min (idx (ix3 a b 0)).toInt.toNat (N - 1), by omega⟩) := by
  unfold Host.gather
  refine congrArg x (funext fun u => Fin.ext ?_)
  match u with
  | ⟨0, _⟩ =>
    show GatherDims.start _ _ _ _ + GatherDims.batchCoord _ _ _ + GatherDims.offCoord _ _ _ = h.val
    rw [GatherDims.batchCoord_eq_zero _ _ _ List.not_mem_nil]
    unfold GatherDims.start
    rw [dif_neg (by simp)]
    simp only [Nat.add_zero, Nat.zero_add]
    unfold GatherDims.offCoord
    rw [dif_pos ((GatherDims.mem_sKept _ _).mpr (by simp))]
    rfl
  | ⟨1, _⟩ =>
    show GatherDims.start _ _ _ _ + GatherDims.batchCoord _ _ _ + GatherDims.offCoord _ _ _ = min (idx (ix3 a b 0)).toInt.toNat (N - 1)
    rw [GatherDims.batchCoord_eq_zero _ _ _ List.not_mem_nil, GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ [(1 : Fin 2)] from List.mem_singleton.mpr rfl)]
    refine congrArg (fun y => min (idx y).toInt.toNat (N - 1)) (funext fun v => ?_)
    match v with
    | ⟨0, _⟩ => rfl
    | ⟨1, _⟩ => rfl
    | ⟨2, _⟩ => rfl

/-- A row's sequence. -/
def bx (x : Fin 16384) : Fin 4 := ⟨x.val / 4096, by omega⟩
/-- A row's chunk in its sequence. -/
def nx (x : Fin 16384) : Fin 64 := ⟨x.val / 64 % 64, by omega⟩
/-- A column's head. -/
def hy (y : Fin 2048) : Fin 16 := ⟨y.val / 128, by omega⟩
/-- A head's column among the queries. -/
def colQ (h : Fin 16) (d : Fin 128) : Fin 2048 := ⟨h.val * 128 + d.val, by omega⟩
/-- A head's column among the keys. -/
def colK (h : Fin 16) (d : Fin 128) : Fin 4096 := ⟨h.val * 128 + d.val, by omega⟩

/-- A chunk's band, position by position: the launched row, or nought before the sequence's start. -/
def kvAt (kv : Vec Ideal ⟨2, ![16384, 4096]⟩ .bf16) (b : Fin 4) (n : Fin 64) (j : Fin 576) (z : Fin 4096) : EReal :=
  if h : 512 ≤ n.val * 64 + j.val then kv (ix2 ⟨b.val * 4096 + (n.val * 64 + j.val - 512), by omega⟩ z) else 0

/-- A row's scores over its band. -/
def gS (q : Vec Ideal ⟨2, ![16384, 2048]⟩ .bf16) (kv : Vec Ideal ⟨2, ![16384, 4096]⟩ .bf16) (t : Vec Ideal ⟨2, ![16, 257]⟩ .f32) (x : Fin 16384) (h : Fin 16) (j : Fin 576) : EReal :=
  if 512 ≤ (nx x).val * 64 + j.val then ∑ d : Fin 128, q (ix2 x (colQ h d)) * kvAt kv (bx x) (nx x) j (colK h d) + t (ix2 h ⟨min 256 (640 + x.val % 64 - j.val), by omega⟩) else ⊥

/-- A column's values over a row's band. -/
def gV (kv : Vec Ideal ⟨2, ![16384, 4096]⟩ .bf16) (x : Fin 16384) (y : Fin 2048) (j : Fin 576) : EReal := kvAt kv (bx x) (nx x) j ⟨2048 + y.val, by omega⟩

/-- The attention's result. -/
def G (q : Vec Ideal ⟨2, ![16384, 2048]⟩ .bf16) (kv : Vec Ideal ⟨2, ![16384, 4096]⟩ .bf16) (t : Vec Ideal ⟨2, ![16, 257]⟩ .f32) : Vec Ideal ⟨2, ![16384, 2048]⟩ .bf16 :=
  fun i => (att (gS q kv t (i 0) (hy (i 1))) (gV kv (i 0) (i 1)) : EReal)

section Ref

open Cert.Reference7Ideal Cert.Reference7Ideal.Gen Cert.Reference7Ideal.Value

/-- The word zero as a float. -/
theorem sitofp0 : (FloatOps.sitofp FTy.f32 (0#32) : Ideal .f32) = (0 : EReal) := by
  show ((((0#32 : BitVec 32).toInt : ℤ) : ℝ) : EReal) = 0
  simp

/-- The rows put in front, in chunks. -/
def padR (x : FVec Ideal S4x4096x2048 .f32) : FVec Ideal S4x72x64x16x128 .f32 :=
  shapeCast S4x72x64x16x128 (pad S4x4608x16x128 ![0, 512, 0, 0] ![0, 0, 0, 0] ![0, 0, 0, 0] (shapeCast S4x4096x16x128 x shapeCasts_S4x4096x2048_S4x4096x16x128) (sitofp .f32 (constantI S_ 32 0#32)) pads_S4x4096x16x128_S4x4608x16x128_000_51200_000_000 h_S_) shapeCasts_S4x4608x16x128_S4x72x64x16x128

/-- The padded array at an entry: nought before the sequence's start. -/
theorem padR_apply (x : FVec Ideal S4x4096x2048 .f32) (b : Fin 4) (n : Fin 72) (i : Fin 64) (h : Fin 16) (d : Fin 128) :
    padR x (ix5 b n i h d) = if h' : 512 ≤ n.val * 64 + i.val then x (ix3 b ⟨n.val * 64 + i.val - 512, by omega⟩ ⟨h.val * 128 + d.val, by omega⟩) else 0 := by
  unfold padR
  pointwise
  by_cases h1 : 512 ≤ n.val * 64 + i.val
  · rw [dif_pos h1, dif_pos ⟨h1, by omega⟩]
  · rw [dif_neg h1, dif_neg (fun h => h1 h.1)]
    exact sitofp0

/-- The nine chunks of every chunk's band, side by side. -/
def bandR (x : FVec Ideal S4x72x64x16x128 .f32) : FVec Ideal S4x64x576x16x128 .f32 :=
  concatenate S4x64x576x16x128 2 [⟨S4x64x64x16x128, extractStridedSlice S4x64x64x16x128 ![0, 0, 0, 0, 0] x slices_S4x72x64x16x128_S4x64x64x16x128_0_0_0_0_0⟩,
    ⟨S4x64x64x16x128, extractStridedSlice S4x64x64x16x128 ![0, 1, 0, 0, 0] x slices_S4x72x64x16x128_S4x64x64x16x128_0_1_0_0_0⟩,
    ⟨S4x64x64x16x128, extractStridedSlice S4x64x64x16x128 ![0, 2, 0, 0, 0] x slices_S4x72x64x16x128_S4x64x64x16x128_0_2_0_0_0⟩,
    ⟨S4x64x64x16x128, extractStridedSlice S4x64x64x16x128 ![0, 3, 0, 0, 0] x slices_S4x72x64x16x128_S4x64x64x16x128_0_3_0_0_0⟩,
    ⟨S4x64x64x16x128, extractStridedSlice S4x64x64x16x128 ![0, 4, 0, 0, 0] x slices_S4x72x64x16x128_S4x64x64x16x128_0_4_0_0_0⟩,
    ⟨S4x64x64x16x128, extractStridedSlice S4x64x64x16x128 ![0, 5, 0, 0, 0] x slices_S4x72x64x16x128_S4x64x64x16x128_0_5_0_0_0⟩,
    ⟨S4x64x64x16x128, extractStridedSlice S4x64x64x16x128 ![0, 6, 0, 0, 0] x slices_S4x72x64x16x128_S4x64x64x16x128_0_6_0_0_0⟩,
    ⟨S4x64x64x16x128, extractStridedSlice S4x64x64x16x128 ![0, 7, 0, 0, 0] x slices_S4x72x64x16x128_S4x64x64x16x128_0_7_0_0_0⟩,
    ⟨S4x64x64x16x128, extractStridedSlice S4x64x64x16x128 ![0, 8, 0, 0, 0] x slices_S4x72x64x16x128_S4x64x64x16x128_0_8_0_0_0⟩]
    concatenates_S4x64x64x16x128_S4x64x64x16x128_S4x64x64x16x128_S4x64x64x16x128_S4x64x64x16x128_S4x64x64x16x128_S4x64x64x16x128_S4x64x64x16x128_S4x64x64x16x128_S4x64x576x16x128_d2

/-- The band at an entry. -/
theorem bandR_apply (x : FVec Ideal S4x72x64x16x128 .f32) (b : Fin 4) (n : Fin 64) (w : Fin 576) (h : Fin 16) (d : Fin 128) :
    bandR x (ix5 b n w h d) = x (ix5 b ⟨n.val + w.val / 64, by omega⟩ ⟨w.val % 64, by omega⟩ h d) := by
  have e : ∀ (n₁ n₂ : Fin 72) (i₁ i₂ : Fin 64), n₁.val = n₂.val → i₁.val = i₂.val → x (ix5 b n₁ i₁ h d) = x (ix5 b n₂ i₂ h d) := fun n₁ n₂ i₁ i₂ hn hi => by
    rw [Fin.ext hn, Fin.ext hi]
  unfold bandR
  pointwise
  split_ifs <;> exact e _ _ _ _ (by dsimp only; omega) (by dsimp only; omega)

/-- The scores. -/
def scR (q : FVec Ideal S4x64x64x16x128 .f32) (k : FVec Ideal S4x64x576x16x128 .f32) : FVec Ideal S4x64x16x64x576 .f32 :=
  Host.dotGeneral (F := Ideal) (φ₂ := .f32) dot_S4x64x64x16x128_S4x64x576x16x128_S4x64x16x64x576_4_4_2_2_013_013 none q k

/-- The scores at an entry. -/
theorem scR_apply (q : FVec Ideal S4x64x64x16x128 .f32) (k : FVec Ideal S4x64x576x16x128 .f32) (b : Fin 4) (n : Fin 64) (h : Fin 16) (i : Fin 64) (j : Fin 576) :
    scR q k (ix5 b n h i j) = ∑ d : Fin 128, q (ix5 b n i h d) * k (ix5 b n j h d) := by
  unfold scR
  pointwise

/-- A broadcast constant's maximum with an array, at an entry. -/
theorem maxc {n0 n1 n2 n3 : ℕ} (hb : S_.BroadcastsInDim ⟨4, ![n0, n1, n2, n3]⟩ ![]) (y : FVec Ideal ⟨4, ![n0, n1, n2, n3]⟩ .f32) (a : Fin n0) (b : Fin n1) (c : Fin n2) (d : Fin n3) :
    maximumf (broadcastInDim ⟨4, ![n0, n1, n2, n3]⟩ ![] hb (constant S_ .f32 0xFF800000#32)) y (ix4 a b c d) = y (ix4 a b c d) := by
  refine Eq.trans (b := (max (Ideal.ofBits .f32 0xFF800000#32) (y (ix4 a b c d)) : EReal)) ?_ ?_
  · pointwise
  · rw [ofBits_ninf]
    exact max_eq_right bot_le

/-- A maximum over the last of five axes, at an entry. -/
theorem redmax {n0 n1 n2 n3 n4 : ℕ} (u : Shape) (x : FVec Ideal ⟨5, ![n0, n1, n2, n3, n4]⟩ .f32) (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce FloatOps.maximumf x (constant u .f32 0xFF800000#32) h hu (ix4 a b c d) = mx fun j => x (ix5 a b c d j) := by
  unfold mx
  rw [← ofBits_ninf]
  pointwise

/-- The greatest score of every row. -/
def mxR (s : FVec Ideal S4x64x16x64x576 .f32) : FVec Ideal S4x64x16x64 .f32 :=
  maximumf (broadcastInDim S4x64x16x64 ![] bcast_S_S4x64x16x64 (constant S_ .f32 0xFF800000#32)) (Host.reduce FloatOps.maximumf s (constant S_ .f32 0xFF800000#32) reducesTo_S4x64x16x64x576_S4x64x16x64_d4 h_S_)

/-- The row maximum at an entry. -/
theorem mxR_apply (s : FVec Ideal S4x64x16x64x576 .f32) (b : Fin 4) (n : Fin 64) (h : Fin 16) (i : Fin 64) :
    mxR s (ix4 b n h i) = mx fun j => s (ix5 b n h i j) := by
  unfold mxR
  rw [maxc, redmax]
/-- The exponentials. -/
def exR (s : FVec Ideal S4x64x16x64x576 .f32) (g : FVec Ideal S4x64x16x64 .f32) : FVec Ideal S4x64x16x64x576 .f32 :=
  Host.exp (subf s (broadcastInDim S4x64x16x64x576 ![0, 1, 2, 3, 4] bcast_S4x64x16x64x1_S4x64x16x64x576_0_1_2_3_4 (broadcastInDim S4x64x16x64x1 ![0, 1, 2, 3] bcast_S4x64x16x64_S4x64x16x64x1_0_1_2_3 g)))

/-- The exponentials at an entry. -/
theorem exR_apply (s : FVec Ideal S4x64x16x64x576 .f32) (g : FVec Ideal S4x64x16x64 .f32) (b : Fin 4) (n : Fin 64) (h : Fin 16) (i : Fin 64) (j : Fin 576) :
    exR s g (ix5 b n h i j) = Ideal.exp (s (ix5 b n h i j) - g (ix4 b n h i)) := by
  unfold exR
  pointwise
/-- The weights. -/
def dvR (e : FVec Ideal S4x64x16x64x576 .f32) : FVec Ideal S4x64x16x64x576 .f32 :=
  Host.divf e (broadcastInDim S4x64x16x64x576 ![0, 1, 2, 3, 4] bcast_S4x64x16x64x1_S4x64x16x64x576_0_1_2_3_4 (broadcastInDim S4x64x16x64x1 ![0, 1, 2, 3] bcast_S4x64x16x64_S4x64x16x64x1_0_1_2_3
    (Host.reduceAdd e (constant S_ .f32 0x00000000#32) reducesTo_S4x64x16x64x576_S4x64x16x64_d4 h_S_)))

/-- The weights at an entry. -/
theorem dvR_apply (e : FVec Ideal S4x64x16x64x576 .f32) (b : Fin 4) (n : Fin 64) (h : Fin 16) (i : Fin 64) (j : Fin 576) :
    dvR e (ix5 b n h i j) = Ideal.div (e (ix5 b n h i j)) (∑ x, e (ix5 b n h i x)) := by
  unfold dvR
  pointwise

/-- The scores with their biases. -/
def bsR (s : FVec Ideal S4x64x16x64x576 .f32) (t : FVec Ideal S16x64x576 .f32) : FVec Ideal S4x64x16x64x576 .f32 :=
  addf s (broadcastInDim S4x64x16x64x576 ![0, 1, 2, 3, 4] bcast_S1x1x16x64x576_S4x64x16x64x576_0_1_2_3_4 (broadcastInDim S1x1x16x64x576 ![2, 3, 4] bcast_S16x64x576_S1x1x16x64x576_2_3_4 t))

/-- The scores with their biases at an entry. -/
theorem bsR_apply (s : FVec Ideal S4x64x16x64x576 .f32) (t : FVec Ideal S16x64x576 .f32) (b : Fin 4) (n : Fin 64) (h : Fin 16) (i : Fin 64) (j : Fin 576) :
    bsR s t (ix5 b n h i j) = (s (ix5 b n h i j) + t (ix3 h i j) : EReal) := by
  unfold bsR
  pointwise
/-- The positions before the sequence's start. -/
def vaR : IVec S1x64x1x1x576 1 :=
  broadcastInDim S1x64x1x1x576 ![1, 4] bcast_S64x576_S1x64x1x1x576_1_4 (cmpi .sge (broadcastInDim S64x576 ![0, 1] bcast_S1x576_S64x576_0_1 (broadcastInDim S1x576 ![1] bcast_S576_S1x576_1 (iotaInDim S576 32 0)))
    (broadcastInDim S64x576 ![0, 1] bcast_S64x1_S64x576_0_1 (muli (subi (broadcastInDim S64x1 ![] bcast_S_S64x1 (constantI S_ 32 8#32)) (broadcastInDim S64x1 ![0] bcast_S64_S64x1_0 (iotaInDim S64 32 0)))
      (broadcastInDim S64x1 ![] bcast_S_S64x1 (constantI S_ 32 64#32)))))

/-- The start's comparison, word by word. -/
theorem vaR_word : ∀ (n : Fin 64) (j : Fin 576), IntOp.cmpi .sge (BitVec.ofNat 32 j.val) (IntOp.muli (IntOp.subi 8#32 (BitVec.ofNat 32 n.val)) 64#32) = if 512 ≤ n.val * 64 + j.val then 1#1 else 0#1 := by
  decide +kernel

/-- The start's mask at an entry. -/
theorem vaR_apply (n : Fin 64) (j : Fin 576) : vaR (ix5 0 n 0 0 j) = if 512 ≤ n.val * 64 + j.val then 1#1 else 0#1 := by
  rw [← vaR_word]
  unfold vaR
  pointwise
/-- The scores, masked. -/
def maR (v : IVec S1x64x1x1x576 1) (s : FVec Ideal S4x64x16x64x576 .f32) : FVec Ideal S4x64x16x64x576 .f32 :=
  select (broadcastInDim S4x64x16x64x576 ![0, 1, 2, 3, 4] bcast_S1x64x1x1x576_S4x64x16x64x576_0_1_2_3_4 v) s (broadcastInDim S4x64x16x64x576 ![] bcast_S_S4x64x16x64x576 (id (constant S_ .f32 0xFF800000#32)))

/-- The masked scores at an entry. -/
theorem maR_apply (v : IVec S1x64x1x1x576 1) (s : FVec Ideal S4x64x16x64x576 .f32) (b : Fin 4) (n : Fin 64) (h : Fin 16) (i : Fin 64) (j : Fin 576) :
    maR v s (ix5 b n h i j) = Scalar.select (v (ix5 0 n 0 0 j)) (s (ix5 b n h i j)) (Ideal.ofBits .f32 0xFF800000#32 : EReal) := by
  unfold maR
  pointwise
  rfl
/-- A bias's position in its table, as the words compute it. -/
def ixW (i j : ℕ) : BitVec 32 :=
  let r := IntOp.addi (IntOp.minsi 128#32 (IntOp.maxsi 4294967168#32 (IntOp.subi (IntOp.addi 512#32 (BitVec.ofNat 32 i)) (BitVec.ofNat 32 j)))) 128#32
  Scalar.select (IntOp.cmpi .slt r 0#32) (IntOp.addi r 257#32) r
/-- The biases' positions in their table. -/
def ixR : IVec S64x576x1 32 :=
  let r := addi (minsi (broadcastInDim S64x576 ![] bcast_S_S64x576 (id (constantI S_ 32 128#32))) (maxsi (broadcastInDim S64x576 ![] bcast_S_S64x576 (id (constantI S_ 32 4294967168#32)))
      (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0))))
        (broadcastInDim S64x576 ![0, 1] bcast_S1x576_S64x576_0_1 (broadcastInDim S1x576 ![1] bcast_S576_S1x576_1 (iotaInDim S576 32 0))))))
    (broadcastInDim S64x576 ![] bcast_S_S64x576 (constantI S_ 32 128#32))
  broadcastInDim S64x576x1 ![0, 1] bcast_S64x576_S64x576x1_0_1 (select (cmpi .slt r (broadcastInDim S64x576 ![] bcast_S_S64x576 (constantI S_ 32 0#32))) (addi r (broadcastInDim S64x576 ![] bcast_S_S64x576 (constantI S_ 32 257#32))) r)

/-- A bias's position, clamped into the table, word by word. -/
theorem ixR_word : ∀ (i : Fin 64) (j : Fin 576), min (ixW i.val j.val).toInt.toNat (257 - 1) = min 256 (640 + i.val - j.val) := by
  decide +kernel

/-- The biases' positions at an entry. -/
theorem ixR_apply (i : Fin 64) (j : Fin 576) : ixR (ix3 i j 0) = ixW i.val j.val := by
  unfold ixR ixW
  pointwise
  rfl
/-- The heads' rows, side by side. -/
def outR (v : FVec Ideal S4x64x576x16x128 .f32) (p : FVec Ideal S4x64x16x64x576 .f32) : FVec Ideal S16384x2048 .bf16 :=
  truncf .bf16 (shapeCast S16384x2048 (transpose S4x64x64x16x128 [0, 1, 4, 2, 3] (Host.dotGeneral (F := Ideal) (φ₂ := .f32) dot_S4x64x576x16x128_S4x64x16x64x576_S4x64x16x128x64_2_4_4_3_013_012 none v p) transposes_S4x64x16x128x64_S4x64x64x16x128_0_1_4_2_3) shapeCasts_S4x64x64x16x128_S16384x2048) bitsLt_bf16_f32

/-- The result at an entry. -/
theorem outR_apply (v : FVec Ideal S4x64x576x16x128 .f32) (p : FVec Ideal S4x64x16x64x576 .f32) (x : Fin 16384) (y : Fin 2048) :
    outR v p (ix2 x y)
     = (∑ j : Fin 576, v (ix5 ⟨x.val / 4096, by omega⟩ ⟨x.val / 64 % 64, by omega⟩ j ⟨y.val / 128, by omega⟩ ⟨y.val % 128, by omega⟩) * p (ix5 ⟨x.val / 4096, by omega⟩ ⟨x.val / 64 % 64, by omega⟩ ⟨y.val / 128, by omega⟩ ⟨x.val % 64, by omega⟩ j) : EReal) := by
  unfold outR
  pointwise

/-- The reference's own reading of its table. -/
theorem gatherR (x : Vec Ideal S16x257 .f32) (idx : IVec S64x576x1 32) (h : Fin 16) (a : Fin 64) (b : Fin 576) :
    Host.gather gather_S16x257_S64x576x1_S16x64x576_0_1_n_n_1_2_161 x idx (ix3 h a b) = x (ix2 h ⟨min (idx (ix3 a b 0)).toInt.toNat (257 - 1), by omega⟩) :=
  gather2 (by decide) gather_S16x257_S64x576x1_S16x64x576_0_1_n_n_1_2_161_wf x idx h a b

/-- The queries, by chunk and head. -/
def qR (q : FVec Ideal S16384x2048 .bf16) : FVec Ideal S4x64x64x16x128 .f32 :=
  shapeCast S4x64x64x16x128 (extf .f32 q bitsLt_bf16_f32) shapeCasts_S16384x2048_S4x64x64x16x128

/-- The queries at an entry. -/
theorem qR_apply (q : FVec Ideal S16384x2048 .bf16) (b : Fin 4) (n : Fin 64) (i : Fin 64) (h : Fin 16) (d : Fin 128) (x : Fin 16384) (y : Fin 2048) (hx : x.val = b.val * 4096 + n.val * 64 + i.val) (hy : y.val = h.val * 128 + d.val) :
    qR q (ix5 b n i h d) = q (ix2 x y) := by
  have e : qR q (ix5 b n i h d) = q (ix2 ⟨b.val * 4096 + n.val * 64 + i.val, by omega⟩ ⟨h.val * 128 + d.val, by omega⟩) := by
    unfold qR
    pointwise
  rw [e]
  exact congrArg₂ (fun a b => q (ix2 a b)) (Fin.ext hx.symm) (Fin.ext hy.symm)
/-- The keys. -/
def kR (kv : FVec Ideal S16384x4096 .bf16) : FVec Ideal S4x4096x2048 .f32 :=
  extractStridedSlice S4x4096x2048 ![0, 0, 0] (shapeCast S4x4096x4096 (extf .f32 kv bitsLt_bf16_f32) shapeCasts_S16384x4096_S4x4096x4096) slices_S4x4096x4096_S4x4096x2048_0_0_0

/-- The keys at an entry. -/
theorem kR_apply (kv : FVec Ideal S16384x4096 .bf16) (b : Fin 4) (s : Fin 4096) (y : Fin 2048) (x : Fin 16384) (z : Fin 4096) (hx : x.val = b.val * 4096 + s.val) (hz : z.val = y.val) :
    kR kv (ix3 b s y) = kv (ix2 x z) := by
  have e : kR kv (ix3 b s y) = kv (ix2 ⟨b.val * 4096 + s.val, by omega⟩ ⟨y.val, by omega⟩) := by
    unfold kR
    pointwise
  rw [e]
  exact congrArg₂ (fun a b => kv (ix2 a b)) (Fin.ext hx.symm) (Fin.ext hz.symm)
/-- The values. -/
def vR (kv : FVec Ideal S16384x4096 .bf16) : FVec Ideal S4x4096x2048 .f32 :=
  extractStridedSlice S4x4096x2048 ![0, 0, 2048] (shapeCast S4x4096x4096 (extf .f32 kv bitsLt_bf16_f32) shapeCasts_S16384x4096_S4x4096x4096) slices_S4x4096x4096_S4x4096x2048_0_0_2048

/-- The values at an entry. -/
theorem vR_apply (kv : FVec Ideal S16384x4096 .bf16) (b : Fin 4) (s : Fin 4096) (y : Fin 2048) (x : Fin 16384) (z : Fin 4096) (hx : x.val = b.val * 4096 + s.val) (hz : z.val = 2048 + y.val) :
    vR kv (ix3 b s y) = kv (ix2 x z) := by
  have e : vR kv (ix3 b s y) = kv (ix2 ⟨b.val * 4096 + s.val, by omega⟩ ⟨2048 + y.val, by omega⟩) := by
    unfold vR
    pointwise
  rw [e]
  exact congrArg₂ (fun a b => kv (ix2 a b)) (Fin.ext hx.symm) (Fin.ext hz.symm)

/-- The masked scores. -/
def msR (q : FVec Ideal S16384x2048 .bf16) (kv : FVec Ideal S16384x4096 .bf16) (t : FVec Ideal S16x257 .f32) : FVec Ideal S4x64x16x64x576 .f32 :=
  maR vaR (bsR (scR (qR q) (bandR (padR (kR kv)))) (Host.gather gather_S16x257_S64x576x1_S16x64x576_0_1_n_n_1_2_161 t ixR))

/-- A band's position of the padded keys or values, read off the launched array. -/
theorem band_kv (kv : FVec Ideal S16384x4096 .bf16) (u : FVec Ideal S4x4096x2048 .f32) (o : ℕ) (ho : o ≤ 2048)
    (hu : ∀ (b : Fin 4) (s : Fin 4096) (y : Fin 2048) (x : Fin 16384) (z : Fin 4096), x.val = b.val * 4096 + s.val → z.val = o + y.val → u (ix3 b s y) = kv (ix2 x z))
    (b : Fin 4) (n : Fin 64) (j : Fin 576) (h : Fin 16) (d : Fin 128) (z : Fin 4096) (hz : z.val = o + (h.val * 128 + d.val)) :
    bandR (padR u) (ix5 b n j h d) = kvAt kv b n j z := by
  rw [bandR_apply, padR_apply]
  unfold kvAt
  by_cases hj : 512 ≤ n.val * 64 + j.val
  · rw [dif_pos (by dsimp only; omega), dif_pos hj]
    exact hu _ _ _ _ _ (by dsimp only; omega) hz
  · rw [dif_neg (by dsimp only; omega), dif_neg hj]

/-- The reference's attention, entry by entry. -/
theorem ref_eq (q : FVec Ideal S16384x2048 .bf16) (kv : FVec Ideal S16384x4096 .bf16) (t : FVec Ideal S16x257 .f32) :
    outR (bandR (padR (vR kv))) (dvR (exR (msR q kv t) (mxR (msR q kv t)))) = G q kv t := by
  funext i
  obtain ⟨x, y, rfl⟩ : ∃ x y, i = ix2 x y := ⟨i 0, i 1, eq_ix2 i⟩
  have hs : ∀ j : Fin 576, msR q kv t (ix5 (bx x) (nx x) (hy y) ⟨x.val % 64, by omega⟩ j) = gS q kv t x (hy y) j := fun j => by
    unfold msR
    rw [maR_apply, vaR_apply, bsR_apply, scR_apply, gatherR, ofBits_ninf]
    unfold gS
    by_cases hj : 512 ≤ (nx x).val * 64 + j.val
    · rw [if_pos hj, if_pos hj]
      refine congrArg₂ (· + ·) (Finset.sum_congr rfl fun d _ => congrArg₂ (· * ·) ?_ ?_) ?_
      · exact qR_apply q _ _ _ _ _ _ _ (by unfold bx nx; dsimp only; omega) (by rfl)
      · exact band_kv kv _ 0 (by omega) (fun b s y x z hx hz => kR_apply kv b s y x z hx (by omega)) _ _ _ _ _ _ (by unfold colK; dsimp only; omega)
      · refine congrArg (fun p => t (ix2 (hy y) p)) (Fin.ext ?_)
        dsimp only
        rw [ixR_apply]
        exact ixR_word ⟨x.val % 64, by omega⟩ j
    · rw [if_neg hj, if_neg hj]
      rfl
  rw [outR_apply]
  show _ = att (gS q kv t x (hy y)) (gV kv x y)
  unfold att
  refine Finset.sum_congr rfl fun j _ => (mul_comm _ _).trans (congrArg₂ (· * ·) ?_ ?_)
  · rw [dvR_apply]
    unfold sm
    simp only [exR_apply, mxR_apply]
    simp only [show (⟨x.val / 4096, by omega⟩ : Fin 4) = bx x from rfl, show (⟨x.val / 64 % 64, by omega⟩ : Fin 64) = nx x from rfl, show (⟨y.val / 128, by omega⟩ : Fin 16) = hy y from rfl, hs]
  · exact band_kv kv _ 2048 (by omega) (fun b s y x z hx hz => vR_apply kv b s y x z hx hz) _ _ _ _ _ _ (by dsimp only; omega)

set_option maxHeartbeats 4000000 in
/-- The reference's result, in these pieces. -/
theorem res_eq (m : (ℓ : Loc nD τ sig) → Buf (Elt Ideal) ℓ) (c : Dev nD) :
    res_main_v81 (F := Ideal) m c = (fun q kv t => outR (bandR (padR (vR kv))) (dvR (exR (msR q kv t) (mxR (msR q kv t)))))
      (m ((c : Thread nD τ).loc main_arg0) : Vec Ideal S16384x2048 .bf16) (m ((c : Thread nD τ).loc main_arg1) : Vec Ideal S16384x4096 .bf16) (m ((c : Thread nD τ).loc main_arg2) : Vec Ideal S16x257 .f32) := by
  unfold res_main_v81
  rfl

end Ref

end Cert.Att

end
-- ==== Proof.Att.Mask.lean ====
/- The band inside the kernel's three blocks: outside it every score is minus infinity, inside it is the reference's. -/
module

public import proofs.«01_k».proof.Proof.Att.Ref

@[expose] public section

set_option maxRecDepth 16384

noncomputable section

namespace Cert.Att

open Idealize.ShloMosaic Idealize.ShloMosaic.TcCoe Idealize.SL.Sem

/-- The launched row of a position of a point's three blocks. -/
def krow (t : Fin 64) (w : Fin 768) : Fin 16384 := ⟨(t.val / 16 * 16 + (t.val % 16 + w.val / 256 - 2)) * 256 + w.val % 256, by omega⟩

/-- A row of a block, among the three blocks. -/
def kr (g : Fin 3) (x : Fin 256) : Fin 768 := ⟨g.val * 256 + x.val, by omega⟩

/-- Three blocks, position by position. -/
theorem tri_eq {α : Type} (a b c : Fin 256 → α) (g : Fin 768 → α) (ha : ∀ x : Fin 256, a x = g (kr 0 x)) (hb : ∀ x : Fin 256, b x = g (kr 1 x))
    (hc : ∀ x : Fin 256, c x = g (kr 2 x)) (w : Fin 768) : tri a b c w = g w := by
  unfold tri
  split_ifs with h h'
  · exact (ha _).trans (congrArg g (Fin.ext (by show 0 * 256 + w.val = w.val; omega)))
  · exact (hb _).trans (congrArg g (Fin.ext (by show 1 * 256 + (w.val - 256) = w.val; omega)))
  · exact (hc _).trans (congrArg g (Fin.ext (by show 2 * 256 + (w.val - 256 - 256) = w.val; omega)))

/-- A sum of two numbers is a number. -/
theorem fin_add (a b : EReal) (ha : a ≠ ⊤ ∧ a ≠ ⊥) (hb : b ≠ ⊤ ∧ b ≠ ⊥) : a + b ≠ ⊤ ∧ a + b ≠ ⊥ := by
  lift a to ℝ using ha
  lift b to ℝ using hb
  rw [← EReal.coe_add]
  exact ⟨EReal.coe_ne_top _, EReal.coe_ne_bot _⟩

/-- The three launched arrays, as far as the scores read them, are numbers. -/
def FiniS (q : Vec Ideal ⟨2, ![16384, 2048]⟩ .bf16) (kv : Vec Ideal ⟨2, ![16384, 4096]⟩ .bf16) (t : Vec Ideal ⟨2, ![16, 257]⟩ .f32) : Prop :=
  (∀ r k, (q (ix2 r k) : EReal) ≠ ⊤ ∧ (q (ix2 r k) : EReal) ≠ ⊥) ∧ (∀ r (h : Fin 16) (d : Fin 128), (kv (ix2 r (colK h d)) : EReal) ≠ ⊤ ∧ (kv (ix2 r (colK h d)) : EReal) ≠ ⊥)
    ∧ ∀ r k, (t (ix2 r k) : EReal) ≠ ⊤ ∧ (t (ix2 r k) : EReal) ≠ ⊥

variable (q : Vec Ideal ⟨2, ![16384, 2048]⟩ .bf16) (kv : Vec Ideal ⟨2, ![16384, 4096]⟩ .bf16) (tb : Vec Ideal ⟨2, ![16, 257]⟩ .f32)

/-- A position the band reaches reads the launched row of the point's block. -/
theorem kvAt_eq (t : Fin 64) (r : Fin 256) (x : Fin 16384) (hx : x.val = t.val * 256 + r.val) (j : Fin 576) (w : Fin 768) (hw : w.val = 64 * (r.val / 64) + j.val)
    (hj : 512 ≤ (nx x).val * 64 + j.val) (z : Fin 4096) : kvAt kv (bx x) (nx x) j z = kv (ix2 (krow t w) z) := by
  unfold kvAt
  rw [dif_pos hj]
  refine congrArg (fun p => kv (ix2 p z)) (Fin.ext ?_)
  unfold nx at hj
  unfold bx nx krow
  dsimp only at hj ⊢
  omega

/-- An inner score is a number. -/
theorem gS_fin (hf : FiniS q kv tb) (x : Fin 16384) (h : Fin 16) (j : Fin 576) (hj : 512 ≤ (nx x).val * 64 + j.val) : gS q kv tb x h j ≠ ⊤ ∧ gS q kv tb x h j ≠ ⊥ := by
  unfold gS
  rw [if_pos hj]
  refine fin_add _ _ (fin_dot _ _ (fun d => hf.1 _ _) fun d => ?_) (hf.2.2 _ _)
  unfold kvAt
  rw [dif_pos hj]
  exact hf.2.1 _ _ _

/-- Scores and values over the point's three blocks, weighted, are the reference's attention. -/
theorem att_eq (hf : FiniS q kv tb) (t : Fin 64) (r : Fin 256) (x : Fin 16384) (hx : x.val = t.val * 256 + r.val) (y : Fin 2048) (s' v' : Fin 768 → EReal)
    (hs : ∀ w : Fin 768, s' w = (∑ d : Fin 128, q (ix2 x (colQ (hy y) d)) * kv (ix2 (krow t w) (colK (hy y) d))
        + (if r.val / 64 ≤ w.val / 64 ∧ w.val / 64 ≤ r.val / 64 + 8 then tb (ix2 (hy y) ⟨min 256 (640 + r.val - w.val), by omega⟩) else (⊥ : EReal))
        + (if 512 ≤ t.val % 16 * 256 + w.val then 0 else ⊥) : EReal))
    (hv : ∀ w : Fin 768, v' w = kv (ix2 (krow t w) ⟨2048 + y.val, by omega⟩)) : att s' v' = G q kv tb (ix2 x y) := by
  have hn : (nx x).val = t.val % 16 * 4 + r.val / 64 := by
    unfold nx
    dsimp only
    omega
  refine att_emb (fun j : Fin 576 => (⟨64 * (r.val / 64) + j.val, by omega⟩ : Fin 768)) (fun a b h => Fin.ext ?_) (gS q kv tb x (hy y)) (gV kv x y) s' v' (fun j => ?_) (fun w hw => ?_) (fun j hj => ?_) (fun j => ?_) ⟨⟨575, by omega⟩, ?_⟩
  · have h := Fin.mk.inj h
    omega
  · rw [hs]
    unfold gS
    by_cases hj : 512 ≤ (nx x).val * 64 + j.val
    · rw [if_pos hj, if_pos (by dsimp only; omega), if_pos (by dsimp only; omega), add_zero]
      refine congrArg₂ (· + ·) (Finset.sum_congr rfl fun d _ => congrArg (q (ix2 x (colQ (hy y) d)) * ·) (kvAt_eq kv t r x hx j _ rfl hj _).symm) (congrArg (fun p => tb (ix2 (hy y) p)) (Fin.ext ?_))
      dsimp only
      omega
    · have hz : ¬512 ≤ t.val % 16 * 256 + (64 * (r.val / 64) + j.val) := by omega
      rw [if_neg hj]
      exact (congrArg _ (if_neg hz)).trans (EReal.add_bot _)
  · rw [hs, if_neg, EReal.add_bot, EReal.bot_add]
    intro hb
    exact hw ⟨w.val - 64 * (r.val / 64), by omega⟩ (Fin.ext (by dsimp only; omega))
  · rw [hv]
    by_cases hj' : 512 ≤ (nx x).val * 64 + j.val
    · exact (kvAt_eq kv t r x hx j _ rfl hj' _).symm
    · exact absurd (if_neg hj') hj
  · by_cases hj : 512 ≤ (nx x).val * 64 + j.val
    · exact (gS_fin q kv tb hf x (hy y) j hj).1
    · unfold gS
      rw [if_neg hj]
      exact bot_ne_top
  · exact (gS_fin q kv tb hf x (hy y) ⟨575, by omega⟩ (by dsimp only; omega)).2

end Cert.Att

end
-- ==== Proof.Att.Bias.lean ====
/- The kernel's table of biases, read at a head, a row and a position: the lag's bias inside the band, minus infinity outside. -/
module

public import proofs.«01_k».proof.Proof.Att.Core
public import proofs.«01_k».proof.Proof.Gen.Kernel7Ideal.Value
public import Idealize.ShloMosaic.Lib.Pointwise
public import Idealize.ShloMosaic.Lib.Tactic
public import Idealize.ShloMosaic.Lib.StableHlo.ReadAt
public import Idealize.ShloMosaic.Lib.Tactic.WordOmega
@[expose] public section
set_option maxRecDepth 16384
noncomputable section
namespace Cert.Att
open Idealize.ShloMosaic Idealize.ShloMosaic.TcCoe Idealize.SL.Sem

/-- A table's row read at a column of positions. -/
theorem gather1 {α : Type} {H N L : ℕ} (hN : 0 < N) (wf : GatherDims.WF ⟨2, ![H, N]⟩ ⟨2, ![L, 1]⟩ ⟨2, ![H, L]⟩ [0] [1] [] [1] [] 1 ![H, 1])
    (x : (⟨2, ![H, N]⟩ : Shape).Idx → α) (idx : IVec ⟨2, ![L, 1]⟩ 32) (h : Fin H) (l : Fin L) :
    Host.gather (⟨[0], [1], [], [], [1], 1, ![H, 1], wf⟩ : GatherDims ⟨2, ![H, N]⟩ ⟨2, ![L, 1]⟩ ⟨2, ![H, L]⟩) x idx (ix2 h l) = x (ix2 h ⟨min (idx (ix2 l 0)).toInt.toNat (N - 1), by omega⟩) := by
  unfold Host.gather
  refine congrArg x (funext fun u => Fin.ext ?_)
  match u with
  | ⟨0, _⟩ =>
    show GatherDims.start _ _ _ _ + GatherDims.batchCoord _ _ _ + GatherDims.offCoord _ _ _ = h.val
    rw [GatherDims.batchCoord_eq_zero _ _ _ List.not_mem_nil]
    unfold GatherDims.start
    rw [dif_neg (by simp)]
    simp only [Nat.add_zero, Nat.zero_add]
    unfold GatherDims.offCoord
    rw [dif_pos ((GatherDims.mem_sKept _ _).mpr (by simp))]
    rfl
  | ⟨1, _⟩ =>
    show GatherDims.start _ _ _ _ + GatherDims.batchCoord _ _ _ + GatherDims.offCoord _ _ _ = min (idx (ix2 l 0)).toInt.toNat (N - 1)
    rw [GatherDims.batchCoord_eq_zero _ _ _ List.not_mem_nil, GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ [(1 : Fin 2)] from List.mem_singleton.mpr rfl)]
    refine congrArg (fun y => min (idx y).toInt.toNat (N - 1)) (funext fun v => ?_)
    match v with
    | ⟨0, _⟩ => rfl
    | ⟨1, _⟩ => rfl

/-- The whole part of a word's quotient by 64, as the host spells it. -/
def fdiv (x : BitVec 32) : BitVec 32 :=
  Scalar.select (IntOp.andi (IntOp.cmpi CmpIPredicate.ne (if x = 0 then (0 : BitVec 32) else if x.msb = true then -1 else 1) (if (64#32 : BitVec 32) = 0 then (0 : BitVec 32) else if BitVec.msb (64#32) = true then -1 else 1))
    (IntOp.cmpi CmpIPredicate.ne (IntOp.remsi ArithUnit.host x 64#32) 0#32)) (IntOp.subi (IntOp.divsi ArithUnit.host x 64#32) 1#32) (IntOp.divsi ArithUnit.host x 64#32)

/-- The quotient by 64, word by word. -/
theorem fdiv_eq : ∀ x : Fin 768, fdiv (BitVec.ofNat 32 x.val) = BitVec.ofNat 32 (x.val / 64) := by decide +kernel

/-- The position in the table of biases of a lag, as the host spells it. -/
def relw (x : BitVec 32) : BitVec 32 :=
  let y := IntOp.addi (IntOp.minsi 128#32 (IntOp.maxsi 4294967168#32 (IntOp.subi 512#32 (Scalar.select (IntOp.cmpi .slt x 768#32) x (IntOp.subi x 1023#32))))) 128#32
  Scalar.select (IntOp.cmpi .slt y 0#32) (IntOp.addi y 257#32) y

/-- The position's word, clamped into the table. -/
theorem relw_eq (r : Fin 256) (w : Fin 768) : min (relw (BitVec.ofNat 32 ((r.val * 1022 + w.val) % 1023))).toInt.toNat (257 - 1) = min 256 (640 + r.val - w.val) := by
  have h : ∀ x : Fin 1023, min (relw (BitVec.ofNat 32 x.val)).toInt.toNat 256 = min 256 (if x.val < 768 then 640 - x.val else 1663 - x.val) := by decide +kernel
  refine (h ⟨(r.val * 1022 + w.val) % 1023, Nat.mod_lt _ (by omega)⟩).trans ?_
  by_cases hw : r.val ≤ w.val
  · have e : (r.val * 1022 + w.val) % 1023 = w.val - r.val := by omega
    simp only [e]
    split <;> omega
  · have e : (r.val * 1022 + w.val) % 1023 = 1023 + w.val - r.val := by omega
    simp only [e]
    split <;> omega

/-- The band's two comparisons, as the host spells them. -/
theorem band_word (r : Fin 256) (w : Fin 768) :
    IntOp.andi (IntOp.cmpi CmpIPredicate.sge (fdiv (BitVec.ofNat 32 w.val)) (fdiv (BitVec.ofNat 32 r.val))) (IntOp.cmpi CmpIPredicate.sle (fdiv (BitVec.ofNat 32 w.val)) (IntOp.addi (fdiv (BitVec.ofNat 32 r.val)) 8#32))
      = if r.val / 64 ≤ w.val / 64 ∧ w.val / 64 ≤ r.val / 64 + 8 then 1#1 else 0#1 := by
  have e : fdiv (BitVec.ofNat 32 r.val) = BitVec.ofNat 32 (r.val / 64) := fdiv_eq ⟨r.val, by omega⟩
  rw [fdiv_eq w, e]
  have : ∀ (a : Fin 12) (b : Fin 4), IntOp.andi (IntOp.cmpi CmpIPredicate.sge (BitVec.ofNat 32 a) (BitVec.ofNat 32 b)) (IntOp.cmpi CmpIPredicate.sle (BitVec.ofNat 32 a) (IntOp.addi (BitVec.ofNat 32 b) 8#32))
      = if b.val ≤ a.val ∧ a.val ≤ b.val + 8 then 1#1 else 0#1 := by decide +kernel
  exact this ⟨w.val / 64, by omega⟩ ⟨r.val / 64, by omega⟩

open Cert.Kernel7Ideal Cert.Kernel7Ideal.Gen
variable (m : (ℓ : Loc nD τ sig) → Buf (Elt Ideal) ℓ) (c : Dev nD)
/-- The kernel's own reading of its table. -/
theorem gatherK (x : Vec Ideal S16x257 .f32) (idx : IVec S1023x1 32) (h : Fin 16) (l : Fin 1023) :
    Host.gather gather_S16x257_S1023x1_S16x1023_0_1_n_n_1_1_161 x idx (ix2 h l) = x (ix2 h ⟨min (idx (ix2 l 0)).toInt.toNat (257 - 1), by omega⟩) :=
  gather1 (by decide) gather_S16x257_S1023x1_S16x1023_0_1_n_n_1_1_161_wf x idx h l

set_option maxHeartbeats 1000000 in
/-- The lags' table read at a lag. -/
theorem V_b (h : Fin 16) (r : Fin 256) (w : Fin 768) : (V (F := Ideal) m c main_v40 : Vec Ideal S16x256x768 .f32) (ix3 h r w)
    = if r.val / 64 ≤ w.val / 64 ∧ w.val / 64 ≤ r.val / 64 + 8 then (m ((c : Thread nD τ).loc main_arg2) : Vec Ideal S16x257 .f32) (ix2 h ⟨min 256 (640 + r.val - w.val), by omega⟩) else (⊥ : EReal) := by
  dsimp only [V, hostOps0, hostOps0_1, hostOps0_2, hostOps0_3, hostOps0_4, hostOps0_5, hostOps0_6, hostOps0_7, hostOps0_8, hostOps0_9, List.flatten_cons, List.flatten_nil, List.append_nil, List.cons_append, List.nil_append]
  after_reads_at
  rw [gatherK]
  refine (congrArg (fun k => Scalar.select k _ _) (band_word r w)).trans ?_
  split
  · refine congrArg (m ((c : Thread nD τ).loc main_arg2) : Vec Ideal S16x257 .f32) ?_
    refine congrArg (ix2 h) (Fin.ext ?_)
    exact relw_eq r w
  · exact ofBits_ninf
end Cert.Att
end
-- ==== Proof.Att.Pay.lean ====
/- The attention kernel's arithmetic, entry by entry. -/
module

public import proofs.«01_k».proof.Proof.Att.Core
public import proofs.«01_k».proof.Proof.Gen.Kernel7Ideal.Skeleton

@[expose] public section

set_option maxRecDepth 16384

noncomputable section

namespace Cert.Att

open Idealize.ShloMosaic Cert.Kernel7Ideal Cert.Kernel7Ideal.Gen

/-- A row's scores against three blocks of keys. -/
abbrev scs (z : FVec Ideal S1x768 .f32) (q k0 k1 k2 : Vec Ideal S256x128 .bf16) (b : Vec Ideal S1x256x768 .f32) (r : Fin 256) : Fin 768 → EReal :=
  score (fun d => q (ix2 r d)) (tri (fun x d => k0 (ix2 x d)) (fun x d => k1 (ix2 x d)) (fun x d => k2 (ix2 x d))) (fun w => b (ix3 0 r w)) (fun w => z (ix2 0 w))

/-- The scores, with the choice of the block outside the products. -/
theorem scs_eq (z : FVec Ideal S1x768 .f32) (q k0 k1 k2 : Vec Ideal S256x128 .bf16) (b : Vec Ideal S1x256x768 .f32) (r : Fin 256) (w : Fin 768) :
    ((if h : w.val < 256 then ∑ x : Fin 128, q (ix2 r x) * k0 (ix2 ⟨w.val, h⟩ x) else if h' : w.val - 256 < 256 then ∑ x : Fin 128, q (ix2 r x) * k1 (ix2 ⟨w.val - 256, h'⟩ x)
      else ∑ x : Fin 128, q (ix2 r x) * k2 (ix2 ⟨w.val - 256 - 256, by omega⟩ x)) + b (ix3 0 r w) + z (ix2 0 w) : EReal) = scs z q k0 k1 k2 b r w := by
  unfold scs score tri
  split_ifs <;> rfl

/-- The weights. -/
theorem pay3_apply (z : FVec Ideal S1x768 .f32) (q k0 k1 k2 : Vec Ideal S256x128 .bf16) (b : Vec Ideal S1x256x768 .f32) (r : Fin 256) (w : Fin 768) :
    k0_pay3 (F := Ideal) z q k0 k1 k2 b (ix2 r w) = sm (scs z q k0 k1 k2 b r) w := by
  unfold sm mx
  simp only [← scs_eq, ← ofBits_ninf]
  pointwise [k0_pay3]

/-- The weighted values. -/
theorem pay2_apply (z : FVec Ideal S1x768 .f32) (q k0 k1 k2 v0 v1 v2 : Vec Ideal S256x128 .bf16) (b : Vec Ideal S1x256x768 .f32) (r : Fin 256) (d : Fin 128) :
    k0_pay2 (F := Ideal) (k0_pay4 z q k0 k1 k2 b v0 v1) (k0_pay5 z q k0 k1 k2 b) v2 (ix2 r d)
      = att (scs z q k0 k1 k2 b r) (tri (fun x => v0 (ix2 x d)) (fun x => v1 (ix2 x d)) (fun x => v2 (ix2 x d))) := by
  have h : k0_pay2 (F := Ideal) (k0_pay4 z q k0 k1 k2 b v0 v1) (k0_pay5 z q k0 k1 k2 b) v2 (ix2 r d)
      = (∑ x : Fin 256, k0_pay3 (F := Ideal) z q k0 k1 k2 b (ix2 r ⟨x.val, by omega⟩) * v0 (ix2 x d) + ∑ x : Fin 256, k0_pay3 (F := Ideal) z q k0 k1 k2 b (ix2 r ⟨256 + x.val, by omega⟩) * v1 (ix2 x d)
        + ∑ x : Fin 256, k0_pay3 (F := Ideal) z q k0 k1 k2 b (ix2 r ⟨512 + x.val, by omega⟩) * v2 (ix2 x d) : EReal) := by
    pointwise [k0_pay2, k0_pay4, k0_pay5]
  rw [h]
  unfold att
  rw [sum_tri]
  refine congrArg₂ (· + ·) (congrArg₂ (· + ·) (Finset.sum_congr rfl fun x _ => ?_) (Finset.sum_congr rfl fun x _ => ?_)) (Finset.sum_congr rfl fun x _ => ?_) <;>
    refine congrArg₂ (· * ·) (pay3_apply z q k0 k1 k2 b r _) ?_ <;> unfold tri
  · rw [dif_pos x.isLt]
  · rw [dif_neg (by dsimp only; omega), dif_pos (by dsimp only; omega)]
    exact congrArg (fun y => v1 (ix2 y d)) (Fin.ext (by dsimp only; omega))
  · rw [dif_neg (by dsimp only; omega), dif_neg (by dsimp only; omega)]
    exact congrArg (fun y => v2 (ix2 y d)) (Fin.ext (by dsimp only; omega))

/-- The sequence's start as the kernel's words compare it. -/
theorem start_word : ∀ (n : Fin 16) (w : Fin 768), IntOp.cmpi .sge (BitVec.ofNat 32 w.val) (Scalar.muli (Scalar.subi 2#32 (BitVec.ofNat 32 n.val)) 256#32) = if 512 ≤ n.val * 256 + w.val then 1#1 else 0#1 := by
  decide +kernel

/-- The mask of the sequence's start. -/
theorem pay1_apply (i : grid0.Coords) (n : Fin 16) (hn : (i 1).val = n.val) (w : Fin 768) :
    k0_pay1 (F := Ideal) i (ix2 0 w) = (if 512 ≤ n.val * 256 + w.val then 0 else ⊥ : EReal) := by
  have h : k0_pay1 (F := Ideal) i (ix2 0 w) = Scalar.select (IntOp.cmpi .sge (BitVec.ofNat 32 w.val) (Scalar.muli (Scalar.subi 2#32 (BitVec.ofNat 32 (i 1).val)) 256#32)) (0 : EReal) (Named.named (F := Ideal) (φ := .f32) κ "mask" 4048155338#32) := by
    pointwise [k0_pay1]
  rw [h, hn, start_word]
  split <;> rfl

end Cert.Att

end
-- ==== Proof.Att.Run.lean ====
/- What a point of the attention kernel leaves: one block of columns for each head. -/
module

public import proofs.«01_k».proof.Proof.Att.Pay
public import proofs.«01_k».proof.Proof.Gen.Kernel7Ideal.Value
public import Idealize.ShloMosaic.Adequacy

@[expose] public section

set_option maxRecDepth 16384

noncomputable section

namespace Cert.Att

open Idealize.ShloMosaic Idealize.ShloMosaic.TcCoe Idealize.SL.Sem Cert.Kernel7Ideal Cert.Kernel7Ideal.Gen

/-- A head's columns. -/
abbrev hr (k : Fin k0_t1_loop.trips) : Rect S256x2048 := Rect.unit (s := S256x2048) (k0_off1 k) S256x128.size (k0_off1_inb k)
/-- A head's biases. -/
abbrev br (k : Fin k0_t1_loop.trips) : Rect S16x256x768 := Rect.unit (s := S16x256x768) (k0_off2 k) S1x256x768.size (k0_off2_inb k)

/-- What a head stores. -/
def headV (i : grid0.Coords) (x0 x1 x2 x3 x4 x5 x6 : Vec Ideal S256x2048 .bf16) (x7 : Vec Ideal S16x256x768 .f32) (k : Fin k0_t1_loop.trips) : Vec Ideal S256x128 .bf16 :=
  k0_pay2 (k0_pay4 (k0_pay1 i) (View.ld x0 (hr k)) (View.ld x1 (hr k)) (View.ld x2 (hr k)) (View.ld x3 (hr k)) (View.ld x7 (br k)) (View.ld x4 (hr k)) (View.ld x5 (hr k)))
    (k0_pay5 (k0_pay1 i) (View.ld x0 (hr k)) (View.ld x1 (hr k)) (View.ld x2 (hr k)) (View.ld x3 (hr k)) (View.ld x7 (br k))) (View.ld x6 (hr k))

variable (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .bf16) (harg8 : arg8.IsWhole) (arg9 : Memref sig .tc .vmem S16x256x768 .f32) (harg9 : arg9.IsWhole) (arg10 : Memref sig .tc .vmem S256x2048 .bf16) (harg10 : arg10.IsWhole)
  (x0 x1 x2 x3 x4 x5 x6 : Vec Ideal S256x2048 .bf16) (x7 : Vec Ideal S16x256x768 .f32)

set_option maxHeartbeats 2000000 in
/-- A head's trip leaves one piece. -/
theorem trip_eq (k : Fin k0_t1_loop.trips) (R : _) (hR : [⟨hr k, headV i x0 x1 x2 x3 x4 x5 x6 x7 k⟩] = R) :
    tripL_k0_t1 (F := Ideal) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) (harg7.unread x5) (harg8.unread x6) (harg9.unread x7) k
      = R := by
  unfold tripL_k0_t1 trip_k0_t1
  dsimp only
  refine Eq.trans (b := [⟨hr k, k0_pay2 (k0_pay4 (k0_pay1 i) (View.readAt (Elt Ideal) arg2.view (hr k).toLoadRect (harg2.unread x0)) (View.readAt (Elt Ideal) arg3.view (hr k).toLoadRect (harg3.unread x1)) (View.readAt (Elt Ideal) arg4.view (hr k).toLoadRect (harg4.unread x2)) (View.readAt (Elt Ideal) arg5.view (hr k).toLoadRect (harg5.unread x3)) (View.readAt (Elt Ideal) arg9.view (br k).toLoadRect (harg9.unread x7)) (View.readAt (Elt Ideal) arg6.view (hr k).toLoadRect (harg6.unread x4)) (View.readAt (Elt Ideal) arg7.view (hr k).toLoadRect (harg7.unread x5)))
    (k0_pay5 (k0_pay1 i) (View.readAt (Elt Ideal) arg2.view (hr k).toLoadRect (harg2.unread x0)) (View.readAt (Elt Ideal) arg3.view (hr k).toLoadRect (harg3.unread x1)) (View.readAt (Elt Ideal) arg4.view (hr k).toLoadRect (harg4.unread x2)) (View.readAt (Elt Ideal) arg5.view (hr k).toLoadRect (harg5.unread x3)) (View.readAt (Elt Ideal) arg9.view (br k).toLoadRect (harg9.unread x7))) (View.readAt (Elt Ideal) arg8.view (hr k).toLoadRect (harg8.unread x6))⟩]) rfl ?_
  simp only [View.readAt_eq_ld, harg2.read_unread, harg3.read_unread, harg4.read_unread, harg5.read_unread, harg6.read_unread, harg7.read_unread, harg8.read_unread, harg9.read_unread]
  exact hR

/-- Every piece a point's trips leave is a head's. -/
theorem pieces (n : ℕ) (hn : n ≤ k0_t1_loop.trips) : ∀ p ∈ pb_k0_t1 (F := Ideal) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) (harg7.unread x5) (harg8.unread x6) (harg9.unread x7) n,
    ∃ k, p = ⟨hr k, headV i x0 x1 x2 x3 x4 x5 x6 x7 k⟩ := by
  induction n with
  | zero => intro p hp; exact absurd hp List.not_mem_nil
  | succ n ih =>
    intro p hp
    rw [pb_k0_t1_succ (k := ⟨n, hn⟩), trip_eq (hR := rfl)] at hp
    rcases List.mem_append.mp hp with hp | hp
    · exact ⟨_, List.mem_singleton.mp hp⟩
    · exact ih (Nat.le_of_succ_le hn) p hp

/-- The block a point leaves, given a function every head's columns agree with. -/
theorem out_of (g : Vec Ideal S256x2048 .bf16) (hg : ∀ (k : Fin k0_t1_loop.trips) (x : S256x128.Idx), headV i x0 x1 x2 x3 x4 x5 x6 x7 k x = g ((hr k).emb x)) :
    out0_A_8 (F := Ideal) c i arg2 harg2 arg3 harg3 arg4 harg4 arg5 harg5 arg6 harg6 arg7 harg7 arg8 harg8 arg9 harg9 arg10 harg10 x0 x1 x2 x3 x4 x5 x6 x7 = g := by
  have hc := cover0_A_8 (F := Ideal) c i arg2 harg2 arg3 harg3 arg4 harg4 arg5 harg5 arg6 harg6 arg7 harg7 arg8 harg8 arg9 harg9 arg10 harg10 x0 x1 x2 x3 x4 x5 x6 x7
  have hp : ∀ p ∈ (kernelRun0_A (F := Ideal) c i arg2 harg2 arg3 harg3 arg4 harg4 arg5 harg5 arg6 harg6 arg7 harg7 arg8 harg8 arg9 harg9 arg10 harg10 x0 x1 x2 x3 x4 x5 x6 x7).1, ∃ k, p = ⟨hr k, headV i x0 x1 x2 x3 x4 x5 x6 x7 k⟩ := by
    unfold kernelRun0_A
    dsimp only
    exact pieces c i arg2 harg2 arg3 harg3 arg4 harg4 arg5 harg5 arg6 harg6 arg7 harg7 arg8 harg8 arg9 harg9 arg10 harg10 x0 x1 x2 x3 x4 x5 x6 x7 _ le_rfl
  funext y
  unfold out0_A_8
  refine View.read_writes_apply_of_pieces _ _ g _ (fun p hm x => ?_) y (hc y)
  obtain ⟨k, rfl⟩ := hp p hm
  exact hg k x

end Cert.Att

end
-- ==== Proof.Att.Alg.lean ====
/- The kernel's attention is the reference's: the point's blocks are the band's launched rows, and every head leaves its columns. -/
module

public import proofs.«01_k».proof.Proof.Att.Mask
public import proofs.«01_k».proof.Proof.Att.Bias
public import proofs.«01_k».proof.Proof.Att.Run
public import proofs.«01_k».proof.Proof.Ret.Final
public import Idealize.ShloMosaic.Lib.ReduceAll
public import Idealize.ShloMosaic.Lib.Tactic
public import Idealize.ShloMosaic.Adequacy

@[expose] public section

set_option maxRecDepth 16384

noncomputable section

namespace Cert.Att

open Idealize.ShloMosaic Idealize.ShloMosaic.TcCoe Idealize.SL.Sem Cert.Kernel7Ideal Cert.Kernel7Ideal.Gen

variable (m : (ℓ : Loc nD τ sig) → Buf (Elt Ideal) ℓ) (c : Dev nD)

/-- The launched queries. -/
abbrev qA : Vec Ideal S16384x2048 .bf16 := m ((c : Thread nD τ).loc main_arg0)
/-- The launched keys and values. -/
abbrev kvA : Vec Ideal S16384x4096 .bf16 := m ((c : Thread nD τ).loc main_arg1)
/-- The launched biases. -/
abbrev tA : Vec Ideal S16x257 .f32 := m ((c : Thread nD τ).loc main_arg2)

/-- Every window's block indices, the sizes of the output's, and the point's place in its sequence. -/
theorem idx : ∀ t : Fin grid0.N, (win0_0.index t 0 = t.val ∧ win0_0.index t 1 = 0)
    ∧ (win0_1.index t 0 = t.val / 16 * 16 + (t.val % 16 + 0 - 2) ∧ win0_1.index t 1 = 0)
    ∧ (win0_2.index t 0 = t.val / 16 * 16 + (t.val % 16 + 1 - 2) ∧ win0_2.index t 1 = 0)
    ∧ (win0_3.index t 0 = t.val / 16 * 16 + (t.val % 16 + 2 - 2) ∧ win0_3.index t 1 = 0)
    ∧ (win0_4.index t 0 = t.val / 16 * 16 + (t.val % 16 + 0 - 2) ∧ win0_4.index t 1 = 1)
    ∧ (win0_5.index t 0 = t.val / 16 * 16 + (t.val % 16 + 1 - 2) ∧ win0_5.index t 1 = 1)
    ∧ (win0_6.index t 0 = t.val / 16 * 16 + (t.val % 16 + 2 - 2) ∧ win0_6.index t 1 = 1)
    ∧ (win0_7.index t 0 = 0 ∧ win0_7.index t 1 = 0 ∧ win0_7.index t 2 = 0)
    ∧ (win0_8.index t 0 = t.val ∧ win0_8.index t 1 = 0 ∧ win0_8.xsize (grid0.coords t) 0 = 256 ∧ win0_8.xsize (grid0.coords t) 1 = 2048)
    ∧ (grid0.coords t 1).val = t.val % 16 := by decide +kernel

/-- A head's offsets. -/
theorem offs : ∀ k : Fin k0_t1_loop.trips, k0_off1 k 0 = 0 ∧ k0_off1 k 1 = k.val * 128 ∧ k0_off2 k 0 = k.val ∧ k0_off2 k 1 = 0 ∧ k0_off2 k 2 = 0 ∧ k.val < 16 := by decide +kernel

/-- A head's columns of a block. -/
theorem ld_eq (x : Vec Ideal S256x2048 .bf16) (k : Fin k0_t1_loop.trips) (r : Fin 256) (d : Fin 128) (y : Fin 2048) (hy : y.val = k.val * 128 + d.val) :
    View.ld x (hr k) (ix2 r d) = x (ix2 r y) := by
  obtain ⟨e0, e1, -⟩ := offs k
  refine congrArg x (funext fun a => Fin.ext ?_)
  match a with
  | ⟨0, _⟩ => show k0_off1 k 0 + 1 * r.val = r.val; rw [e0]; omega
  | ⟨1, _⟩ => show k0_off1 k 1 + 1 * d.val = y.val; rw [e1, hy]; omega

/-- A head's biases of the table. -/
theorem ldb_eq (x : Vec Ideal S16x256x768 .f32) (k : Fin k0_t1_loop.trips) (h : Fin 16) (hh : h.val = k.val) (r : Fin 256) (w : Fin 768) :
    View.ld x (br k) (ix3 0 r w) = x (ix3 h r w) := by
  obtain ⟨-, -, e0, e1, e2, -⟩ := offs k
  refine congrArg x (funext fun a => Fin.ext ?_)
  match a with
  | ⟨0, _⟩ => show k0_off2 k 0 + 1 * 0 = h.val; rw [e0]; omega
  | ⟨1, _⟩ => show k0_off2 k 1 + 1 * r.val = r.val; rw [e1]; omega
  | ⟨2, _⟩ => show k0_off2 k 2 + 1 * w.val = w.val; rw [e2]; omega

/-- A point's rows of the queries. -/
theorem q_blk (t : Fin cfg0.N) (i : Fin 256) (y : Fin 2048) (x : Fin 16384) (hx : x.val = t.val * 256 + i.val) :
    (iblk (F := Ideal) m c 0 t : Vec Ideal S256x2048 .bf16) (ix2 i y) = qA m c (ix2 x y) := by
  have e := (idx t).1
  refine (show _ = (V (F := Ideal) m c main_arg0 : Vec Ideal S16384x2048 .bf16) (ix2 x y) from congrArg (V (F := Ideal) m c main_arg0) (funext fun a => Fin.ext ?_)).trans (congrFun (V_main_arg0 m c) _)
  match a with
  | ⟨0, _⟩ => show win0_0.index t 0 * 256 + 1 * i.val = x.val; rw [e.1, hx, Nat.one_mul]
  | ⟨1, _⟩ => show win0_0.index t 1 * 2048 + 1 * y.val = y.val; rw [e.2]; omega

/-- The table of biases, as every point finds it. -/
theorem b_blk (t : Fin cfg0.N) (h : Fin 16) (r : Fin 256) (w : Fin 768) :
    (iblk (F := Ideal) m c 7 t : Vec Ideal S16x256x768 .f32) (ix3 h r w)
      = if r.val / 64 ≤ w.val / 64 ∧ w.val / 64 ≤ r.val / 64 + 8 then tA m c (ix2 h ⟨min 256 (640 + r.val - w.val), by omega⟩) else (⊥ : EReal) := by
  obtain ⟨-, -, -, -, -, -, -, e, -⟩ := idx t
  refine (show _ = (V (F := Ideal) m c main_v40 : Vec Ideal S16x256x768 .f32) (ix3 h r w) from congrArg (V (F := Ideal) m c main_v40) (funext fun a => Fin.ext ?_)).trans (V_b m c h r w)
  match a with
  | ⟨0, _⟩ => show win0_7.index t 0 * 16 + 1 * h.val = h.val; rw [e.1]; omega
  | ⟨1, _⟩ => show win0_7.index t 1 * 256 + 1 * r.val = r.val; rw [e.2.1]; omega
  | ⟨2, _⟩ => show win0_7.index t 2 * 768 + 1 * w.val = w.val; rw [e.2.2]; omega

/-- A position of the launched keys and values, from its two coordinates. -/
theorem kv_ix (i : S16384x4096.Idx) (r : Fin 16384) (z : Fin 4096) (h0 : (i 0).val = r.val) (h1 : (i 1).val = z.val) : i = ix2 r z :=
  (eq_ix2 i).trans (congrArg₂ ix2 (Fin.ext h0) (Fin.ext h1))

/-- The row a block of keys or values starts from, and a row of it. -/
theorem krow_val {t : ℕ} {t' : Fin 64} (h : t'.val < 64) (ht : t'.val = t) (x : Fin 256) (g : Fin 3) :
    (t / 16 * 16 + (t % 16 + g.val - 2)) * 256 + 1 * x.val = (krow t' (kr g x)).val := by
  subst ht
  unfold krow kr
  dsimp only
  omega

/-- A column of a block of keys or values. -/
theorem col_val (g : ℕ) {y : Fin 2048} {z : Fin 4096} (hz : z.val = 2048 * g + y.val) : g * 2048 + 1 * y.val = z.val := by
  omega

set_option maxHeartbeats 1000000 in
/-- The three blocks of keys, side by side. -/
theorem k_blk (t : Fin cfg0.N) (t' : Fin 64) (ht : t'.val = t.val) (y : Fin 2048) (z : Fin 4096) (hz : z.val = y.val) (w : Fin 768) :
    tri (fun x => (iblk (F := Ideal) m c 1 t : Vec Ideal S256x2048 .bf16) (ix2 x y)) (fun x => (iblk (F := Ideal) m c 2 t : Vec Ideal S256x2048 .bf16) (ix2 x y))
      (fun x => (iblk (F := Ideal) m c 3 t : Vec Ideal S256x2048 .bf16) (ix2 x y)) w = kvA m c (ix2 (krow t' w) z) := by
  obtain ⟨-, e1, e2, e3, -⟩ := idx t
  have hV := V_main_arg1 (F := Ideal) m c
  refine tri_eq _ _ _ (fun w => kvA m c (ix2 (krow t' w) z)) (fun x => ?_) (fun x => ?_) (fun x => ?_) w
  · refine (show _ = (V (F := Ideal) m c main_arg1 : Vec Ideal S16384x4096 .bf16) _ from congrArg (V (F := Ideal) m c main_arg1) (kv_ix _ (krow t' (kr 0 x)) z ?_ ?_)).trans (congrFun hV _)
    · show win0_1.index t 0 * 256 + 1 * x.val = _; rw [e1.1]; exact krow_val t'.isLt ht x 0
    · show win0_1.index t 1 * 2048 + 1 * y.val = _; rw [e1.2]; exact col_val 0 (hz.trans (Nat.zero_add _).symm)
  · refine (show _ = (V (F := Ideal) m c main_arg1 : Vec Ideal S16384x4096 .bf16) _ from congrArg (V (F := Ideal) m c main_arg1) (kv_ix _ (krow t' (kr 1 x)) z ?_ ?_)).trans (congrFun hV _)
    · show win0_2.index t 0 * 256 + 1 * x.val = _; rw [e2.1]; exact krow_val t'.isLt ht x 1
    · show win0_2.index t 1 * 2048 + 1 * y.val = _; rw [e2.2]; exact col_val 0 (hz.trans (Nat.zero_add _).symm)
  · refine (show _ = (V (F := Ideal) m c main_arg1 : Vec Ideal S16384x4096 .bf16) _ from congrArg (V (F := Ideal) m c main_arg1) (kv_ix _ (krow t' (kr 2 x)) z ?_ ?_)).trans (congrFun hV _)
    · show win0_3.index t 0 * 256 + 1 * x.val = _; rw [e3.1]; exact krow_val t'.isLt ht x 2
    · show win0_3.index t 1 * 2048 + 1 * y.val = _; rw [e3.2]; exact col_val 0 (hz.trans (Nat.zero_add _).symm)

set_option maxHeartbeats 1000000 in
/-- The three blocks of values, side by side. -/
theorem v_blk (t : Fin cfg0.N) (t' : Fin 64) (ht : t'.val = t.val) (y : Fin 2048) (z : Fin 4096) (hz : z.val = 2048 + y.val) (w : Fin 768) :
    tri (fun x => (iblk (F := Ideal) m c 4 t : Vec Ideal S256x2048 .bf16) (ix2 x y)) (fun x => (iblk (F := Ideal) m c 5 t : Vec Ideal S256x2048 .bf16) (ix2 x y))
      (fun x => (iblk (F := Ideal) m c 6 t : Vec Ideal S256x2048 .bf16) (ix2 x y)) w = kvA m c (ix2 (krow t' w) z) := by
  obtain ⟨-, -, -, -, e1, e2, e3, -⟩ := idx t
  have hV := V_main_arg1 (F := Ideal) m c
  refine tri_eq _ _ _ (fun w => kvA m c (ix2 (krow t' w) z)) (fun x => ?_) (fun x => ?_) (fun x => ?_) w
  · refine (show _ = (V (F := Ideal) m c main_arg1 : Vec Ideal S16384x4096 .bf16) _ from congrArg (V (F := Ideal) m c main_arg1) (kv_ix _ (krow t' (kr 0 x)) z ?_ ?_)).trans (congrFun hV _)
    · show win0_4.index t 0 * 256 + 1 * x.val = _; rw [e1.1]; exact krow_val t'.isLt ht x 0
    · show win0_4.index t 1 * 2048 + 1 * y.val = _; rw [e1.2]; exact col_val 1 hz
  · refine (show _ = (V (F := Ideal) m c main_arg1 : Vec Ideal S16384x4096 .bf16) _ from congrArg (V (F := Ideal) m c main_arg1) (kv_ix _ (krow t' (kr 1 x)) z ?_ ?_)).trans (congrFun hV _)
    · show win0_5.index t 0 * 256 + 1 * x.val = _; rw [e2.1]; exact krow_val t'.isLt ht x 1
    · show win0_5.index t 1 * 2048 + 1 * y.val = _; rw [e2.2]; exact col_val 1 hz
  · refine (show _ = (V (F := Ideal) m c main_arg1 : Vec Ideal S16384x4096 .bf16) _ from congrArg (V (F := Ideal) m c main_arg1) (kv_ix _ (krow t' (kr 2 x)) z ?_ ?_)).trans (congrFun hV _)
    · show win0_6.index t 0 * 256 + 1 * x.val = _; rw [e3.1]; exact krow_val t'.isLt ht x 2
    · show win0_6.index t 1 * 2048 + 1 * y.val = _; rw [e3.2]; exact col_val 1 hz

/-- A function of three blocks, position by position. -/
theorem tri_app {α β : Type} (a b c : Fin 256 → α → β) (w : Fin 768) (d : α) : tri a b c w d = tri (fun x => a x d) (fun x => b x d) (fun x => c x d) w := by
  unfold tri
  split_ifs <;> rfl

/-- Three blocks, each replaced by an equal one. -/
theorem tri_congr {α : Type} {a b c a' b' c' : Fin 256 → α} (ha : ∀ x, a x = a' x) (hb : ∀ x, b x = b' x) (hc : ∀ x, c x = c' x) (w : Fin 768) : tri a b c w = tri a' b' c' w := by
  rw [funext ha, funext hb, funext hc]

/-- What a head stores, entry by entry. -/
theorem head_eq (hf : FiniS (qA m c) (kvA m c) (tA m c)) (t : Fin cfg0.N) (k : Fin k0_t1_loop.trips) (r : Fin 256) (d : Fin 128) (x : Fin 16384) (hx : x.val = t.val * 256 + r.val)
    (y : Fin 2048) (hyk : y.val = k.val * 128 + d.val) :
    headV (grid0.coords t) (iblk m c 0 t) (iblk m c 1 t) (iblk m c 2 t) (iblk m c 3 t) (iblk m c 4 t) (iblk m c 5 t) (iblk m c 6 t) (iblk m c 7 t) k (ix2 r d)
      = G (qA m c) (kvA m c) (tA m c) (ix2 x y) := by
  have hN : t.val < 64 := lt_of_lt_of_eq t.isLt (show cfg0.N = 64 from N_0)
  have hk := (offs k).2.2.2.2.2
  have hh : (hy y).val = k.val := by unfold hy; dsimp only; omega
  have hc : ∀ e : Fin 128, (colQ (hy y) e).val = k.val * 128 + e.val := fun e => by unfold colQ; dsimp only; omega
  unfold headV
  refine (pay2_apply _ _ _ _ _ _ _ _ _ r d).trans (att_eq (qA m c) (kvA m c) (tA m c) hf ⟨t.val, hN⟩ r x hx y _ _ (fun w => ?_) fun w => ?_)
  · unfold scs score
    refine congrArg₂ (· + ·) (congrArg₂ (· + ·) (Finset.sum_congr rfl fun e _ => congrArg₂ (· * ·) ?_ ?_) ?_) ?_
    · exact (ld_eq _ k r e _ (hc e)).trans (q_blk m c t r _ x hx)
    · refine (tri_app _ _ _ w e).trans ((tri_congr (fun x => ld_eq _ k x e _ (hc e)) (fun x => ld_eq _ k x e _ (hc e)) (fun x => ld_eq _ k x e _ (hc e)) w).trans ?_)
      exact k_blk m c t ⟨t.val, hN⟩ rfl _ _ (by unfold colK colQ; rfl) w
    · exact (ldb_eq _ k (hy y) hh r w).trans (b_blk m c t (hy y) r w)
    · exact pay1_apply _ ⟨t.val % 16, by omega⟩ (idx t).2.2.2.2.2.2.2.2.2 w
  · exact (tri_congr (fun x => ld_eq _ k x d y hyk) (fun x => ld_eq _ k x d y hyk) (fun x => ld_eq _ k x d y hyk) w).trans (v_blk m c t ⟨t.val, hN⟩ rfl y _ rfl w)

/-- The block a point leaves, entry by entry. -/
theorem out_eq (hf : FiniS (qA m c) (kvA m c) (tA m c)) (t : Fin cfg0.N) (hN : t.val < 64) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t) (iblk m c 7 t)
      = fun j : S256x2048.Idx => G (qA m c) (kvA m c) (tA m c) (ix2 ⟨t.val * 256 + (j 0).val, by have h : (j 0).val < 256 := (j 0).isLt; omega⟩ (j 1)) := by
  refine out_of c _ _ _ _ _ _ _ _ _ _ _ _ _ _ _ _ _ _ _ _ _ _ _ _ _ _ _ (fun j : S256x2048.Idx => G (qA m c) (kvA m c) (tA m c) (ix2 ⟨t.val * 256 + (j 0).val, by have h : (j 0).val < 256 := (j 0).isLt; omega⟩ (j 1))) fun k x => ?_
  obtain ⟨e0, e1, -⟩ := offs k
  obtain ⟨r, d, rfl⟩ : ∃ r d, x = ix2 r d := ⟨x 0, x 1, eq_ix2 x⟩
  refine head_eq m c hf t k r d _ ?_ _ ?_
  · show t.val * 256 + (k0_off1 k 0 + 1 * r.val) = _; rw [e0]; omega
  · show k0_off1 k 1 + 1 * d.val = _; rw [e1]; omega

/-- An index is in a point's output block when its row is. -/
theorem mem_blk (t : Fin cfg0.N) (i : S16384x2048.Idx) (h0 : t.val * 256 ≤ (i 0 : ℕ) ∧ (i 0 : ℕ) < t.val * 256 + 256) : i ∈ ((cfg0.win 8).blk t).view.set := by
  show i ∈ ((View.whole main_v41).slice (win0_8.rect t)).set
  rw [View.set_slice_whole, Rect.mem_set_unit]
  obtain ⟨-, -, -, -, -, -, -, -, ⟨e0, e1, s0, s1⟩, -⟩ := idx t
  have h1 : (i 1 : ℕ) < 2048 := (i 1).isLt
  intro a
  match a with
  | ⟨0, _⟩ => show win0_8.index t 0 * 256 ≤ (i 0 : ℕ) ∧ (i 0 : ℕ) < win0_8.index t 0 * 256 + win0_8.xsize (grid0.coords t) 0; rwa [e0, s0]
  | ⟨1, _⟩ => show win0_8.index t 1 * 2048 ≤ (i 1 : ℕ) ∧ (i 1 : ℕ) < win0_8.index t 1 * 2048 + win0_8.xsize (grid0.coords t) 1; rw [e1, s1, Nat.zero_mul, Nat.zero_add]; exact ⟨Nat.zero_le _, h1⟩

/-- The blocks cover the result. -/
theorem cover (i : S16384x2048.Idx) : ∃ t : Fin cfg0.N, (cfg0.win 8).flush t = true ∧ i ∈ ((cfg0.win 8).blk t).view.set := by
  have h0 : (i 0 : ℕ) < 16384 := (i 0).isLt
  refine ⟨⟨(i 0 : ℕ) / 256, lt_of_lt_of_eq (by omega) (show cfg0.N = 64 from N_0).symm⟩, flush0_8 _, mem_blk _ _ ?_⟩
  dsimp only
  omega

/-- What a point writes back is its block of the result. -/
theorem flushed_eq (hf : FiniS (qA m c) (kvA m c) (tA m c)) (t : Fin cfg0.N) :
    (dats m 0 c).flushed 8 t = ((cfg0.win 8).blk t).view.read (Elt Ideal) (G (qA m c) (kvA m c) (tA m c)) := by
  have hN := lt_of_lt_of_eq t.isLt (show cfg0.N = 64 from N_0)
  obtain ⟨-, -, -, -, -, -, -, -, ⟨e0, e1, s0, s1⟩, -⟩ := idx t
  rw [Value.flushed8_A, out_eq m c hf t hN]
  funext j
  show G (qA m c) (kvA m c) (tA m c) _ = G (qA m c) (kvA m c) (tA m c) _
  refine congrArg _ (funext fun a => Fin.ext ?_)
  match a with
  | ⟨0, _⟩ => show t.val * 256 + (j 0 : ℕ) = win0_8.index t 0 * 256 + 1 * (j 0 : ℕ); rw [e0, Nat.one_mul]
  | ⟨1, _⟩ => show (j 1 : ℕ) = win0_8.index t 1 * 2048 + 1 * (j 1 : ℕ); rw [e1]; omega

/-- The result after the run. -/
theorem final (hf : FiniS (qA m c) (kvA m c) (tA m c)) : (dats m 0 c).arrAt 8 cfg0.N = G (qA m c) (kvA m c) (tA m c) :=
  (dats m 0 c).arrAt_eq_of_cover 8 (G (qA m c) (kvA m c) (tA m c)) (fun t _ => flushed_eq m c hf t) cover

/-- The precondition's own shape facts. -/
theorem preFacts : Cert.Pre_finite_scores.Facts where
  bitsLt_bf16_f32 := by decide
  bcast_S_S16384x2048 := by decide
  reducesTo_S16384x2048_S_d0_1 := by decide
  h_S_ := by decide
  slices_S16384x4096_S16384x2048_0_0 := by decide
  bcast_S_S16x257 := by decide
  reducesTo_S16x257_S_d0_1 := by decide

attribute [local instance] preFacts in
/-- The precondition makes the launched queries, keys and biases finite. -/
theorem fini (h : Cert.Pre_Kernel7Ideal_finite_scores (hPre_finite_scores := preFacts) m) (c : Dev nD) : FiniS (qA m c) (kvA m c) (tA m c) := by
  have h0 := congrFun (h c) ix0
  dsimp only [Cert.Pre_finite_scores.fn] at h0
  obtain ⟨h1, ht⟩ := IntOp.andi_eq_one.mp h0
  obtain ⟨hq, hk⟩ := IntOp.andi_eq_one.mp h1
  refine ⟨fun r k => ?_, fun r h d => ?_, fun r k => ?_⟩
  · exact Cert.Ret.fin_of_lt _ (Host.reduce_andi_all _ _ _ _ _ hq (ix2 r k))
  · refine (congrArg (fun a : EReal => a ≠ ⊤ ∧ a ≠ ⊥) (congrArg (kvA m c) (funext fun a => Fin.ext ?_))).mp (Cert.Ret.fin_of_lt _ (Host.reduce_andi_all _ _ _ _ _ hk (ix2 r (colQ h d))))
    match a with
    | ⟨0, _⟩ => show 0 + r.val = r.val; omega
    | ⟨1, _⟩ => show 0 + (colQ h d).val = (colK h d).val; unfold colQ colK; dsimp only; omega
  · exact Cert.Ret.fin_of_lt _ (Host.reduce_andi_all _ _ _ _ _ ht (ix2 r k))

/-- The frame of the reference. -/
theorem frameR : Cert.quiescent_Reference7Ideal := fun m ρ _ =>
  (θ_run _ _ _).mono (fun r h => ⟨fun c => (h c).2, Idealize.ShloMosaic.sem_eq_zero_of_no_sems (by decide) r.2⟩) (Cert.Reference7Ideal.Value.run (F := Ideal) m ρ)

/-- The idealized kernel and the reference end at one result. -/
theorem algebraic : Cert.algebraic_Kernel7Ideal_Reference7Ideal_pre_finite_scores (hPre_finite_scores := preFacts) := by
  intro m ρ m' ρ' hp ha
  refine ⟨fun c => G (qA m c) (kvA m c) (tA m c), (θ_run _ _ _).mono (fun _ h c => ⟨(h c).1.trans (final m c (fini m hp c)), (h c).2⟩) (Value.run_blocks (F := Ideal) m ρ), ?_⟩
  refine (θ_run _ _ _).mono (fun _ h c => ⟨(h c).1.trans ?_, (h c).2⟩) (Cert.Reference7Ideal.Value.run (F := Ideal) m' ρ')
  obtain ⟨h0, h1, h2⟩ := ha c
  rw [res_eq, h0, h1, h2]
  exact ref_eq _ _ _

end Cert.Att

end
-- ==== Proof.lean ====
module

public import proofs.«01_k».proof.Defs
public import proofs.«01_k».proof.Proof.Ret.Final
public import proofs.«01_k».proof.Proof.Lay.In
public import proofs.«01_k».proof.Proof.Lay.Out
public import proofs.«01_k».proof.Proof.Gen.Kernel3.Frame
public import proofs.«01_k».proof.Proof.Lay.Kv
public import proofs.«01_k».proof.Proof.Gen.Kernel4.Frame
public import proofs.«01_k».proof.Proof.Lay.AttQ
public import proofs.«01_k».proof.Proof.Gen.Kernel5.Frame
public import proofs.«01_k».proof.Proof.Lay.AttO
public import proofs.«01_k».proof.Proof.Gen.Kernel6.Frame
public import proofs.«01_k».proof.Proof.Att.Alg
public import proofs.«01_k».proof.Proof.Gen.Kernel7.Frame

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Ret.preFacts, Cert.Att.preFacts,
  fun m ρ _ => Cert.Kernel.Gen.frame m ρ,
  fun m ρ _ => Cert.KernelIdeal.Gen.frame m ρ,
  fun m ρ _ => Cert.KernelIdeal.Gen.frame m ρ,
  fun m ρ _ => Cert.Ret.frameR m ρ,
  fun m ρ _ => Cert.Ret.frameR m ρ,
  Cert.LayIn.frameK, Cert.LayIn.frameI, Cert.LayIn.frameR,
  fun m ρ _ => Cert.Kernel3.Gen.frame m ρ, fun m ρ _ => Cert.Kernel3Ideal.Gen.frame m ρ, Cert.LayOut.frameR,
  fun m ρ _ => Cert.Kernel4.Gen.frame m ρ, fun m ρ _ => Cert.Kernel4Ideal.Gen.frame m ρ, Cert.LayKv.frameR,
  fun m ρ _ => Cert.Kernel5.Gen.frame m ρ, fun m ρ _ => Cert.Kernel5Ideal.Gen.frame m ρ, Cert.LayAttQ.frameR,
  fun m ρ _ => Cert.Kernel6.Gen.frame m ρ, fun m ρ _ => Cert.Kernel6Ideal.Gen.frame m ρ, Cert.LayAttO.frameR,
  fun m ρ _ => Cert.Kernel7.Gen.frame m ρ, fun m ρ _ => Cert.Kernel7Ideal.Gen.frame m ρ, fun m ρ _ => Cert.Kernel7Ideal.Gen.frame m ρ,
  Cert.Att.frameR, fun m ρ _ => Cert.Att.frameR m ρ trivial,
  trivial, Cert.Ret.algebraic,
  trivial, Cert.LayIn.algebraic,
  trivial, Cert.LayOut.algebraic,
  trivial, Cert.LayKv.algebraic,
  trivial, Cert.LayAttQ.algebraic,
  trivial, Cert.LayAttO.algebraic,
  IdealRules.named_const.statement Cert.Kernel7Ideal.κ "mask" .f32 0xF149F2CA#32 ⊥ rfl, Cert.Att.algebraic⟩

end Cert.Proof

end
